-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_weights [hPre_finite_weights : Cert.Pre_finite_weights.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_weights [hPre_finite_weights : Cert.Pre_finite_weights.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_weights [hKernel5Ideal : Cert.Kernel5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_weights m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_weights [hReference5Ideal : Cert.Reference5Ideal.Facts] [hPre_finite_weights : Cert.Pre_finite_weights.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_weights m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "no_score" .f32 0xF1C9F2CA#32 ⊥
  ∧ IdealRules.named_const.Statement Cert.KernelIdeal.κ "qk_scale" .f32 0x3E38AA3B#32 (((8 * (Real.log 2))⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_weights [hKernel5Ideal : Cert.Kernel5Ideal.Facts] [hReference5Ideal : Cert.Reference5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_weights m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v39_0)) (v1 : (c : Dev Cert.Kernel5Ideal.nD) → Buf (Elt Ideal) ((c.tc : Thread Cert.Kernel5Ideal.nD Cert.Kernel5Ideal.τ).loc Cert.Kernel5Ideal.main_v40)) (v2 : (c : Dev Cert.Kernel5Ideal.nD) → Buf (Elt Ideal) ((c.tc : Thread Cert.Kernel5Ideal.nD Cert.Kernel5Ideal.τ).loc Cert.Kernel5Ideal.main_v41)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v39_0) = v0 c
          ∧ r.2.mem ((c.tc : Thread Cert.Kernel5Ideal.nD Cert.Kernel5Ideal.τ).loc Cert.Kernel5Ideal.main_v40) = v1 c
          ∧ r.2.mem ((c.tc : Thread Cert.Kernel5Ideal.nD Cert.Kernel5Ideal.τ).loc Cert.Kernel5Ideal.main_v41) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v162) = v0 c
          ∧ r.2.mem ((c.tc : Thread Cert.Reference5Ideal.nD Cert.Reference5Ideal.τ).loc Cert.Reference5Ideal.main_v163) = v1 c
          ∧ r.2.mem ((c.tc : Thread Cert.Reference5Ideal.nD Cert.Reference5Ideal.τ).loc Cert.Reference5Ideal.main_v164) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts) (hPre_finite_weights : Cert.Pre_finite_weights.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_weights (hKernel5Ideal := hKernel5Ideal) (hPre_finite_weights := hPre_finite_weights)
    ∧ quiescent_Reference5Ideal (hReference5Ideal := hReference5Ideal)
    ∧ quiescent_Reference5Ideal_pre_finite_weights (hReference5Ideal := hReference5Ideal) (hPre_finite_weights := hPre_finite_weights)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_weights (hKernel5Ideal := hKernel5Ideal) (hReference5Ideal := hReference5Ideal) (hPre_finite_weights := hPre_finite_weights)
-- ==== Pre_finite_inputs.lean ====
abbrev S16384x1024 : Shape := ⟨2, ![16384, 1024]⟩
abbrev S256x1024 : Shape := ⟨2, ![256, 1024]⟩
abbrev S64 : Shape := ⟨1, ![64]⟩
abbrev S128 : Shape := ⟨1, ![128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64 .f32 := Host.absf main_arg8
  let main_cst_14 : FVec F S_ .f32 := constant S_ .f32 0x7F800000#32
  let main_v33 : FVec F S64 .f32 := broadcastInDim S64 ![] bcast_S_S64 main_cst_14
  let main_v34 : IVec S64 1 := cmpf .olt main_v32 main_v33
  let main_c_15 : IVec S_ 1 := constantI S_ 1 1#1
  let main_v35 : IVec S_ 1 := (fun x v => Host.reduce IntOp.andi x v reducesTo_S64_S_d0 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S256x1024 .f32) (main_arg5 : FVec F S64 .f32) (main_arg6 : FVec F S64 .f32) (main_arg7 : FVec F S64 .f32) (main_arg8 : FVec F S64 .f32) (main_v3 : IVec S_ 1) (main_v7 : IVec S_ 1) (main_v11 : IVec S_ 1) (main_v15 : IVec S_ 1) : IVec S_ 1 :=
  let main_v16 : FVec F S256x1024 .f32 := Host.absf main_arg4
  let main_cst_6 : FVec F S_ .f32 := constant S_ .f32 0x7F800000#32
  let main_v17 : FVec F S256x1024 .f32 := broadcastInDim S256x1024 ![] bcast_S_S256x1024 main_cst_6
  let main_v18 : IVec S256x1024 1 := cmpf .olt main_v16 main_v17
  let main_c_7 : IVec S_ 1 := constantI S_ 1 1#1
  let main_v19 : IVec S_ 1 := (fun x v => Host.reduce IntOp.andi x v reducesTo_S256x1024_S_d0_1 h_S_) main_v18 main_c_7
  let main_v20 : FVec F S64 .f32 := Host.absf main_arg5
  let main_cst_8 : FVec F S_ .f32 := constant S_ .f32 0x7F800000#32
  let main_v21 : FVec F S64 .f32 := broadcastInDim S64 ![] bcast_S_S64 main_cst_8
  let main_v22 : IVec S64 1 := cmpf .olt main_v20 main_v21
  let main_c_9 : IVec S_ 1 := constantI S_ 1 1#1
  let main_v23 : IVec S_ 1 := (fun x v => Host.reduce IntOp.andi x v reducesTo_S64_S_d0 h_S_) main_v22 main_c_9
  let main_v24 : FVec F S64 .f32 := Host.absf main_arg6
  let main_cst_10 : FVec F S_ .f32 := constant S_ .f32 0x7F800000#32
  let main_v25 : FVec F S64 .f32 := broadcastInDim S64 ![] bcast_S_S64 main_cst_10
  let main_v26 : IVec S64 1 := cmpf .olt main_v24 main_v25
  let main_c_11 : IVec S_ 1 := constantI S_ 1 1#1
  let main_v27 : IVec S_ 1 := (fun x v => Host.reduce IntOp.andi x v reducesTo_S64_S_d0 h_S_) main_v26 main_c_11
  let main_v28 : FVec F S64 .f32 := Host.absf main_arg7
  let main_cst_12 : FVec F S_ .f32 := constant S_ .f32 0x7F800000#32
  let main_v29 : FVec F S64 .f32 := broadcastInDim S64 ![] bcast_S_S64 main_cst_12
  let main_v30 : IVec S64 1 := cmpf .olt main_v28 main_v29
  let main_c_13 : IVec S_ 1 := constantI S_ 1 1#1
  let main_v31 : IVec S_ 1 := (fun x v => Host.reduce IntOp.andi x v reducesTo_S64_S_d0 h_S_) main_v30 main_c_13
  fn_part2 (F := F) main_arg8 main_v3 main_v7 main_v11 main_v15 main_v19 main_v23 main_v27 main_v31

def fn {F : FTy → Type} [FloatOps F] (main_arg0 : FVec F S16384x1024 .f32) (main_arg1 : FVec F S16384x1024 .f32) (main_arg2 : FVec F S16384x1024 .f32) (main_arg3 : FVec F S256x1024 .f32) (main_arg4 : FVec F S256x1024 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S16384x1024 .f32 := Host.absf main_arg2
  let main_cst_2 : FVec F S_ .f32 := constant S_ .f32 0x7F800000#32
  let main_v9 : FVec F S16384x1024 .f32 := broadcastInDim S16384x1024 ![] bcast_S_S16384x1024 main_cst_2
  let main_v10 : IVec S16384x1024 1 := cmpf .olt main_v8 main_v9
  let main_c_3 : IVec S_ 1 := constantI S_ 1 1#1
  let main_v11 : IVec S_ 1 := (fun x v => Host.reduce IntOp.andi x v reducesTo_S16384x1024_S_d0_1 h_S_) main_v10 main_c_3
  let main_v12 : FVec F S256x1024 .f32 := Host.absf main_arg3
  let main_cst_4 : FVec F S_ .f32 := constant S_ .f32 0x7F800000#32
  let main_v13 : FVec F S256x1024 .f32 := broadcastInDim S256x1024 ![] bcast_S_S256x1024 main_cst_4
  let main_v14 : IVec S256x1024 1 := cmpf .olt main_v12 main_v13
  let main_c_5 : IVec S_ 1 := constantI S_ 1 1#1
  let main_v15 : IVec S_ 1 := (fun x v => Host.reduce IntOp.andi x v reducesTo_S256x1024_S_d0_1 h_S_) main_v14 main_c_5
  fn_part1 (F := F) main_arg4 main_arg5 main_arg6 main_arg7 main_arg8 main_v3 main_v7 main_v11 main_v15
-- ==== Pre_finite_weights.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S16 : Shape := ⟨1, ![16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S1024 .f32) (main_arg2 : FVec F S1024 .f32) (main_arg3 : FVec F S1024 .f32) (main_arg4 : FVec F S1024x3072 .f32) (main_arg5 : FVec F S64 .f32) (main_arg6 : FVec F S64 .f32) (main_arg7 : FVec F S16 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg3
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x3072 .f32 := Host.absf main_arg4
  let main_cst_4 : FVec F S_ .f32 := constant S_ .f32 0x7F800000#32
  let main_v13 : FVec F S1024x3072 .f32 := broadcastInDim S1024x3072 ![] bcast_S_S1024x3072 main_cst_4
  let main_v14 : IVec S1024x3072 1 := cmpf .olt main_v12 main_v13
  let main_c_5 : IVec S_ 1 := constantI S_ 1 1#1
  let main_v15 : IVec S_ 1 := (fun x v => Host.reduce IntOp.andi x v reducesTo_S1024x3072_S_d0_1 h_S_) main_v14 main_c_5
  fn_part1 (F := F) main_v3 main_v7 main_v11 main_v15
-- ==== Kernel.lean ====
abbrev S16384x1024 : Shape := ⟨2, ![16384, 1024]⟩
abbrev S256x1024 : Shape := ⟨2, ![256, 1024]⟩
abbrev S64 : Shape := ⟨1, ![64]⟩
abbrev S128 : Shape := ⟨1, ![128]⟩
abbrev S16640x1024 : Shape := ⟨2, ![16640, 1024]⟩
abbrev S1x64 : Shape := ⟨2, ![1, 64]⟩
abbrev S_ : Shape := ⟨0, ![]⟩
abbrev S4x64 : Shape := ⟨2, ![4, 64]⟩
abbrev S8x64 : Shape := ⟨2, ![8, 64]⟩
abbrev S1x128 : Shape := ⟨2, ![1, 128]⟩
abbrev S512x1024 : Shape := ⟨2, ![512, 1024]⟩
abbrev S1280x1024 : Shape := ⟨2, ![1280, 1024]⟩
abbrev S16x512x128 : Shape := ⟨3, ![16, 512, 128]⟩
abbrev S16x512x256 : Shape := ⟨3, ![16, 512, 256]⟩
abbrev S512x1280 : Shape := ⟨2, ![512, 1280]⟩
abbrev S512x128 : Shape := ⟨2, ![512, 128]⟩
abbrev S1280x128 : Shape := ⟨2, ![1280, 128]⟩
abbrev S512 : Shape := ⟨1, ![512]⟩
abbrev S512x1 : Shape := ⟨2, ![512, 1]⟩
abbrev S1280x256 : Shape := ⟨2, ![1280, 256]⟩
abbrev S512x256 : Shape := ⟨2, ![512, 256]⟩
abbrev S1x512x256 : Shape := ⟨3, ![1, 512, 256]⟩
abbrev S1x512x128 : Shape := ⟨3, ![1, 512, 128]⟩
abbrev S1 : Shape := ⟨1, ![1]⟩
abbrev S1x1 : Shape := ⟨2, ![1, 1]⟩

abbrev nBuf : Space → Nat
  | .hbm => 23
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S256x1024, .f32⟩
  | .hbm, ⟨4, _⟩ => ⟨S256x1024, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S16640x1024, .f32⟩
  | .hbm, ⟨11, _⟩ => ⟨S16640x1024, .bf16⟩
  | .hbm, ⟨12, _⟩ => ⟨S16640x1024, .f32⟩
  | .hbm, ⟨13, _⟩ => ⟨S16640x1024, .bf16⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S4x64, .f32⟩
  | .hbm, ⟨20, _⟩ => ⟨S8x64, .f32⟩
  | .hbm, ⟨21, _⟩ => ⟨S1x128, .f32⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1280x1024, .bf16⟩
  | .local _ .vmem, ⟨3, _⟩ => ⟨S1280x1024, .bf16⟩
  | .local _ .vmem, ⟨4, _⟩ => ⟨S1280x1024, .bf16⟩
  | .local _ .vmem, ⟨5, _⟩ => ⟨S1280x1024, .bf16⟩
  | .local _ .vmem, ⟨6, _⟩ => ⟨S8x64, .f32⟩
  | .local _ .vmem, ⟨7, _⟩ => ⟨S1x128, .f32⟩
  | .local _ .vmem, ⟨8, _⟩ => ⟨S512x1024, .bf16⟩
  | .local _ .vmem, ⟨9, _⟩ => ⟨S512x1024, .bf16⟩
  | .local _ .vmem, ⟨10, _⟩ => ⟨S16x512x128, .f32⟩
  | .local _ .vmem, ⟨11, _⟩ => ⟨S16x512x256, .f32⟩
  | .local _ .vmem, ⟨12, _⟩ => ⟨S512x1280, .f32⟩
  | .local _ .vmem, ⟨13, _⟩ => ⟨S512x1280, .f32⟩
  | .local _ .vmem, ⟨14, _⟩ => ⟨S512x128, .f32⟩
  | .local _ .vmem, ⟨15, _⟩ => ⟨S512x128, .f32⟩
  | .local _ .vmem, ⟨16, _⟩ => ⟨S512x1280, .bf16⟩
  | .local _ .vmem, ⟨17, _⟩ => ⟨S512x1280, .bf16⟩
  | .local _ .vmem, ⟨18, _⟩ => ⟨S1280x128, .bf16⟩
  | .local _ .vmem, ⟨19, _⟩ => ⟨S512x128, .f32⟩
  | .local _ .vmem, ⟨20, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 13], ![false, false]⟩

def k0_mult1 : BitVec 32 :=
  let c8_i32 : BitVec 32 := 8#32
  let c0_i32_3 : BitVec 32 := 0#32
  let v11 : BitVec 32 := Scalar.muli c8_i32 c0_i32_3
  let c0_i32_4 : BitVec 32 := 0#32
  let v12 : BitVec 32 := Scalar.addi v11 c0_i32_4
  let c128_i32 : BitVec 32 := 128#32
  let v15 : BitVec 32 := Scalar.muli v12 c128_i32
  v15
def k0_off1 (c0_i32_4 : BitVec 32) : Fin 2 → Nat :=
  let c0 : Index := 0#32
  let c8_i32 : BitVec 32 := 8#32
  let c0_i32_3 : BitVec 32 := 0#32
  let v11 : BitVec 32 := Scalar.muli c8_i32 c0_i32_3
  let v12 : BitVec 32 := Scalar.addi v11 c0_i32_4
  let c128_i32 : BitVec 32 := 128#32
  let v15 : BitVec 32 := Scalar.muli v12 c128_i32
  let v16 : BitVec 32 := v15
  let v17 : Index := Scalar.indexCast v16
  ![0, v17.toNat]
def k0_mult2 : BitVec 32 :=
  let c8_i32 : BitVec 32 := 8#32
  let c0_i32_3 : BitVec 32 := 0#32
  let v11 : BitVec 32 := Scalar.muli c8_i32 c0_i32_3
  let c0_i32_4 : BitVec 32 := 0#32
  let v12 : BitVec 32 := Scalar.addi v11 c0_i32_4
  let c128_i32_9 : BitVec 32 := 128#32
  let v29 : BitVec 32 := Scalar.muli v12 c128_i32_9
  v29
def k0_off2 (c0_i32_4 : BitVec 32) : Fin 2 → Nat :=
  let c0_10 : Index := 0#32
  let c8_i32 : BitVec 32 := 8#32
  let c0_i32_3 : BitVec 32 := 0#32
  let v11 : BitVec 32 := Scalar.muli c8_i32 c0_i32_3
  let v12 : BitVec 32 := Scalar.addi v11 c0_i32_4
  let c128_i32_9 : BitVec 32 := 128#32
  let v29 : BitVec 32 := Scalar.muli v12 c128_i32_9
  let v30 : BitVec 32 := v29
  let v31 : Index := Scalar.indexCast v30
  ![0, v31.toNat]
def k0_off3 (c0_i32_4 : BitVec 32) (c0_i32_17 : BitVec 32) : Fin 3 → Nat :=
  let c2_i32 : BitVec 32 := 2#32
  let c8_i32 : BitVec 32 := 8#32
  let c0_i32_3 : BitVec 32 := 0#32
  let v11 : BitVec 32 := Scalar.muli c8_i32 c0_i32_3
  let v12 : BitVec 32 := Scalar.addi v11 c0_i32_4
  let c7_i32 : BitVec 32 := 7#32
  let v13 : BitVec 32 := Scalar.addi v12 c7_i32
  let c7_i32_5 : BitVec 32 := 7#32
  let v14 : BitVec 32 := Scalar.andi v13 c7_i32_5
  let v45 : BitVec 32 := Scalar.muli c2_i32 v14
  let v46 : BitVec 32 := Scalar.addi v45 c0_i32_17
  let v53 : Index := Scalar.indexCast v46
  let c0_25 : Index := 0#32
  let c0_26 : Index := 0#32
  ![v53.toNat, 0, 0]
def k0_off4 (c0_i32_4 : BitVec 32) : Fin 3 → Nat :=
  let c2_i32_29 : BitVec 32 := 2#32
  let c8_i32 : BitVec 32 := 8#32
  let c0_i32_3 : BitVec 32 := 0#32
  let v11 : BitVec 32 := Scalar.muli c8_i32 c0_i32_3
  let v12 : BitVec 32 := Scalar.addi v11 c0_i32_4
  let c7_i32 : BitVec 32 := 7#32
  let v13 : BitVec 32 := Scalar.addi v12 c7_i32
  let c7_i32_5 : BitVec 32 := 7#32
  let v14 : BitVec 32 := Scalar.andi v13 c7_i32_5
  let v62 : BitVec 32 := Scalar.muli c2_i32_29 v14
  let c1_i32 : BitVec 32 := 1#32
  let v63 : BitVec 32 := Scalar.addi v62 c1_i32
  let v64 : Index := Scalar.indexCast v63
  let c0_30 : Index := 0#32
  let c0_31 : Index := 0#32
  ![v64.toNat, 0, 0]
def k0_mult3 : BitVec 32 :=
  let c8_i32 : BitVec 32 := 8#32
  let c0_i32_3 : BitVec 32 := 0#32
  let v11 : BitVec 32 := Scalar.muli c8_i32 c0_i32_3
  let c0_i32_4 : BitVec 32 := 0#32
  let v12 : BitVec 32 := Scalar.addi v11 c0_i32_4
  let c128_i32_42 : BitVec 32 := 128#32
  let v87 : BitVec 32 := Scalar.muli v12 c128_i32_42
  v87
def k0_mult4 : BitVec 32 :=
  let c8_i32 : BitVec 32 := 8#32
  let c0_i32_3 : BitVec 32 := 0#32
  let v11 : BitVec 32 := Scalar.muli c8_i32 c0_i32_3
  let c0_i32_4 : BitVec 32 := 0#32
  let v12 : BitVec 32 := Scalar.addi v11 c0_i32_4
  let c128_i32_48 : BitVec 32 := 128#32
  let v101 : BitVec 32 := Scalar.muli v12 c128_i32_48
  v101
def k0_off5 (c0_i32_4 : BitVec 32) : Fin 3 → Nat :=
  let c2_i32_69 : BitVec 32 := 2#32
  let c8_i32 : BitVec 32 := 8#32
  let c0_i32_3 : BitVec 32 := 0#32
  let v11 : BitVec 32 := Scalar.muli c8_i32 c0_i32_3
  let v12 : BitVec 32 := Scalar.addi v11 c0_i32_4
  let v134 : BitVec 32 := Scalar.muli c2_i32_69 v12
  let c0_i32_70 : BitVec 32 := 0#32
  let v135 : BitVec 32 := Scalar.addi v134 c0_i32_70
  let v136 : Index := Scalar.indexCast v135
  let c0_71 : Index := 0#32
  let c0_72 : Index := 0#32
  ![v136.toNat, 0, 0]
def k0_mult5 : BitVec 32 :=
  let c8_i32 : BitVec 32 := 8#32
  let c0_i32_3 : BitVec 32 := 0#32
  let v11 : BitVec 32 := Scalar.muli c8_i32 c0_i32_3
  let c0_i32_4 : BitVec 32 := 0#32
  let v12 : BitVec 32 := Scalar.addi v11 c0_i32_4
  let c128_i32_83 : BitVec 32 := 128#32
  let v159 : BitVec 32 := Scalar.muli v12 c128_i32_83
  v159
def k0_mult6 : BitVec 32 :=
  let c8_i32_87 : BitVec 32 := 8#32
  let c0_i32_3 : BitVec 32 := 0#32
  let v167 : BitVec 32 := Scalar.muli c8_i32_87 c0_i32_3
  let c1_i32_88 : BitVec 32 := 1#32
  let v168 : BitVec 32 := Scalar.addi v167 c1_i32_88
  let c128_i32_91 : BitVec 32 := 128#32
  let v171 : BitVec 32 := Scalar.muli v168 c128_i32_91
  v171
def k0_mult7 : BitVec 32 :=
  let c8_i32_87 : BitVec 32 := 8#32
  let c0_i32_3 : BitVec 32 := 0#32
  let v167 : BitVec 32 := Scalar.muli c8_i32_87 c0_i32_3
  let c1_i32_88 : BitVec 32 := 1#32
  let v168 : BitVec 32 := Scalar.addi v167 c1_i32_88
  let c128_i32_97 : BitVec 32 := 128#32
  let v185 : BitVec 32 := Scalar.muli v168 c128_i32_97
  v185
def k0_mult8 : BitVec 32 :=
  let c8_i32_87 : BitVec 32 := 8#32
  let c0_i32_3 : BitVec 32 := 0#32
  let v167 : BitVec 32 := Scalar.muli c8_i32_87 c0_i32_3
  let c1_i32_88 : BitVec 32 := 1#32
  let v168 : BitVec 32 := Scalar.addi v167 c1_i32_88
  let c128_i32_132 : BitVec 32 := 128#32
  let v243 : BitVec 32 := Scalar.muli v168 c128_i32_132
  v243
def k0_mult9 : BitVec 32 :=
  let c8_i32_87 : BitVec 32 := 8#32
  let c0_i32_3 : BitVec 32 := 0#32
  let v167 : BitVec 32 := Scalar.muli c8_i32_87 c0_i32_3
  let c1_i32_88 : BitVec 32 := 1#32
  let v168 : BitVec 32 := Scalar.addi v167 c1_i32_88
  let c128_i32_138 : BitVec 32 := 128#32
  let v257 : BitVec 32 := Scalar.muli v168 c128_i32_138
  v257
def k0_mult10 : BitVec 32 :=
  let c8_i32_87 : BitVec 32 := 8#32
  let c0_i32_3 : BitVec 32 := 0#32
  let v167 : BitVec 32 := Scalar.muli c8_i32_87 c0_i32_3
  let c1_i32_88 : BitVec 32 := 1#32
  let v168 : BitVec 32 := Scalar.addi v167 c1_i32_88
  let c128_i32_173 : BitVec 32 := 128#32
  let v315 : BitVec 32 := Scalar.muli v168 c128_i32_173
  v315
def k0_mult11 : BitVec 32 :=
  let c8_i32_177 : BitVec 32 := 8#32
  let c0_i32_3 : BitVec 32 := 0#32
  let v323 : BitVec 32 := Scalar.muli c8_i32_177 c0_i32_3
  let c2_i32_178 : BitVec 32 := 2#32
  let v324 : BitVec 32 := Scalar.addi v323 c2_i32_178
  let c128_i32_181 : BitVec 32 := 128#32
  let v327 : BitVec 32 := Scalar.muli v324 c128_i32_181
  v327
def k0_mult12 : BitVec 32 :=
  let c8_i32_177 : BitVec 32 := 8#32
  let c0_i32_3 : BitVec 32 := 0#32
  let v323 : BitVec 32 := Scalar.muli c8_i32_177 c0_i32_3
  let c2_i32_178 : BitVec 32 := 2#32
  let v324 : BitVec 32 := Scalar.addi v323 c2_i32_178
  let c128_i32_187 : BitVec 32 := 128#32
  let v341 : BitVec 32 := Scalar.muli v324 c128_i32_187
  v341
def k0_mult13 : BitVec 32 :=
  let c8_i32_177 : BitVec 32 := 8#32
  let c0_i32_3 : BitVec 32 := 0#32
  let v323 : BitVec 32 := Scalar.muli c8_i32_177 c0_i32_3
  let c2_i32_178 : BitVec 32 := 2#32
  let v324 : BitVec 32 := Scalar.addi v323 c2_i32_178
  let c128_i32_222 : BitVec 32 := 128#32
  let v399 : BitVec 32 := Scalar.muli v324 c128_i32_222
  v399
def k0_mult14 : BitVec 32 :=
  let c8_i32_177 : BitVec 32 := 8#32
  let c0_i32_3 : BitVec 32 := 0#32
  let v323 : BitVec 32 := Scalar.muli c8_i32_177 c0_i32_3
  let c2_i32_178 : BitVec 32 := 2#32
  let v324 : BitVec 32 := Scalar.addi v323 c2_i32_178
  let c128_i32_228 : BitVec 32 := 128#32
  let v413 : BitVec 32 := Scalar.muli v324 c128_i32_228
  v413
def k0_mult15 : BitVec 32 :=
  let c8_i32_177 : BitVec 32 := 8#32
  let c0_i32_3 : BitVec 32 := 0#32
  let v323 : BitVec 32 := Scalar.muli c8_i32_177 c0_i32_3
  let c2_i32_178 : BitVec 32 := 2#32
  let v324 : BitVec 32 := Scalar.addi v323 c2_i32_178
  let c128_i32_263 : BitVec 32 := 128#32
  let v471 : BitVec 32 := Scalar.muli v324 c128_i32_263
  v471
def k0_mult16 : BitVec 32 :=
  let c8_i32_267 : BitVec 32 := 8#32
  let c0_i32_3 : BitVec 32 := 0#32
  let v479 : BitVec 32 := Scalar.muli c8_i32_267 c0_i32_3
  let c3_i32 : BitVec 32 := 3#32
  let v480 : BitVec 32 := Scalar.addi v479 c3_i32
  let c128_i32_270 : BitVec 32 := 128#32
  let v483 : BitVec 32 := Scalar.muli v480 c128_i32_270
  v483
def k0_mult17 : BitVec 32 :=
  let c8_i32_267 : BitVec 32 := 8#32
  let c0_i32_3 : BitVec 32 := 0#32
  let v479 : BitVec 32 := Scalar.muli c8_i32_267 c0_i32_3
  let c3_i32 : BitVec 32 := 3#32
  let v480 : BitVec 32 := Scalar.addi v479 c3_i32
  let c128_i32_276 : BitVec 32 := 128#32
  let v497 : BitVec 32 := Scalar.muli v480 c128_i32_276
  v497
def k0_mult18 : BitVec 32 :=
  let c8_i32_267 : BitVec 32 := 8#32
  let c0_i32_3 : BitVec 32 := 0#32
  let v479 : BitVec 32 := Scalar.muli c8_i32_267 c0_i32_3
  let c3_i32 : BitVec 32 := 3#32
  let v480 : BitVec 32 := Scalar.addi v479 c3_i32
  let c128_i32_311 : BitVec 32 := 128#32
  let v555 : BitVec 32 := Scalar.muli v480 c128_i32_311
  v555
def k0_mult19 : BitVec 32 :=
  let c8_i32_267 : BitVec 32 := 8#32
  let c0_i32_3 : BitVec 32 := 0#32
  let v479 : BitVec 32 := Scalar.muli c8_i32_267 c0_i32_3
  let c3_i32 : BitVec 32 := 3#32
  let v480 : BitVec 32 := Scalar.addi v479 c3_i32
  let c128_i32_317 : BitVec 32 := 128#32
  let v569 : BitVec 32 := Scalar.muli v480 c128_i32_317
  v569
def k0_mult20 : BitVec 32 :=
  let c8_i32_267 : BitVec 32 := 8#32
  let c0_i32_3 : BitVec 32 := 0#32
  let v479 : BitVec 32 := Scalar.muli c8_i32_267 c0_i32_3
  let c3_i32 : BitVec 32 := 3#32
  let v480 : BitVec 32 := Scalar.addi v479 c3_i32
  let c128_i32_352 : BitVec 32 := 128#32
  let v627 : BitVec 32 := Scalar.muli v480 c128_i32_352
  v627
def k0_mult21 : BitVec 32 :=
  let c8_i32_356 : BitVec 32 := 8#32
  let c0_i32_3 : BitVec 32 := 0#32
  let v635 : BitVec 32 := Scalar.muli c8_i32_356 c0_i32_3
  let c4_i32 : BitVec 32 := 4#32
  let v636 : BitVec 32 := Scalar.addi v635 c4_i32
  let c128_i32_359 : BitVec 32 := 128#32
  let v639 : BitVec 32 := Scalar.muli v636 c128_i32_359
  v639
def k0_mult22 : BitVec 32 :=
  let c8_i32_356 : BitVec 32 := 8#32
  let c0_i32_3 : BitVec 32 := 0#32
  let v635 : BitVec 32 := Scalar.muli c8_i32_356 c0_i32_3
  let c4_i32 : BitVec 32 := 4#32
  let v636 : BitVec 32 := Scalar.addi v635 c4_i32
  let c128_i32_365 : BitVec 32 := 128#32
  let v653 : BitVec 32 := Scalar.muli v636 c128_i32_365
  v653
def k0_mult23 : BitVec 32 :=
  let c8_i32_356 : BitVec 32 := 8#32
  let c0_i32_3 : BitVec 32 := 0#32
  let v635 : BitVec 32 := Scalar.muli c8_i32_356 c0_i32_3
  let c4_i32 : BitVec 32 := 4#32
  let v636 : BitVec 32 := Scalar.addi v635 c4_i32
  let c128_i32_400 : BitVec 32 := 128#32
  let v711 : BitVec 32 := Scalar.muli v636 c128_i32_400
  v711
def k0_mult24 : BitVec 32 :=
  let c8_i32_356 : BitVec 32 := 8#32
  let c0_i32_3 : BitVec 32 := 0#32
  let v635 : BitVec 32 := Scalar.muli c8_i32_356 c0_i32_3
  let c4_i32 : BitVec 32 := 4#32
  let v636 : BitVec 32 := Scalar.addi v635 c4_i32
  let c128_i32_406 : BitVec 32 := 128#32
  let v725 : BitVec 32 := Scalar.muli v636 c128_i32_406
  v725
def k0_mult25 : BitVec 32 :=
  let c8_i32_356 : BitVec 32 := 8#32
  let c0_i32_3 : BitVec 32 := 0#32
  let v635 : BitVec 32 := Scalar.muli c8_i32_356 c0_i32_3
  let c4_i32 : BitVec 32 := 4#32
  let v636 : BitVec 32 := Scalar.addi v635 c4_i32
  let c128_i32_441 : BitVec 32 := 128#32
  let v783 : BitVec 32 := Scalar.muli v636 c128_i32_441
  v783
def k0_mult26 : BitVec 32 :=
  let c8_i32_445 : BitVec 32 := 8#32
  let c0_i32_3 : BitVec 32 := 0#32
  let v791 : BitVec 32 := Scalar.muli c8_i32_445 c0_i32_3
  let c5_i32 : BitVec 32 := 5#32
  let v792 : BitVec 32 := Scalar.addi v791 c5_i32
  let c128_i32_448 : BitVec 32 := 128#32
  let v795 : BitVec 32 := Scalar.muli v792 c128_i32_448
  v795
def k0_mult27 : BitVec 32 :=
  let c8_i32_445 : BitVec 32 := 8#32
  let c0_i32_3 : BitVec 32 := 0#32
  let v791 : BitVec 32 := Scalar.muli c8_i32_445 c0_i32_3
  let c5_i32 : BitVec 32 := 5#32
  let v792 : BitVec 32 := Scalar.addi v791 c5_i32
  let c128_i32_454 : BitVec 32 := 128#32
  let v809 : BitVec 32 := Scalar.muli v792 c128_i32_454
  v809
def k0_mult28 : BitVec 32 :=
  let c8_i32_445 : BitVec 32 := 8#32
  let c0_i32_3 : BitVec 32 := 0#32
  let v791 : BitVec 32 := Scalar.muli c8_i32_445 c0_i32_3
  let c5_i32 : BitVec 32 := 5#32
  let v792 : BitVec 32 := Scalar.addi v791 c5_i32
  let c128_i32_489 : BitVec 32 := 128#32
  let v867 : BitVec 32 := Scalar.muli v792 c128_i32_489
  v867
def k0_mult29 : BitVec 32 :=
  let c8_i32_445 : BitVec 32 := 8#32
  let c0_i32_3 : BitVec 32 := 0#32
  let v791 : BitVec 32 := Scalar.muli c8_i32_445 c0_i32_3
  let c5_i32 : BitVec 32 := 5#32
  let v792 : BitVec 32 := Scalar.addi v791 c5_i32
  let c128_i32_495 : BitVec 32 := 128#32
  let v881 : BitVec 32 := Scalar.muli v792 c128_i32_495
  v881
def k0_mult30 : BitVec 32 :=
  let c8_i32_445 : BitVec 32 := 8#32
  let c0_i32_3 : BitVec 32 := 0#32
  let v791 : BitVec 32 := Scalar.muli c8_i32_445 c0_i32_3
  let c5_i32 : BitVec 32 := 5#32
  let v792 : BitVec 32 := Scalar.addi v791 c5_i32
  let c128_i32_530 : BitVec 32 := 128#32
  let v939 : BitVec 32 := Scalar.muli v792 c128_i32_530
  v939
def k0_mult31 : BitVec 32 :=
  let c8_i32_534 : BitVec 32 := 8#32
  let c0_i32_3 : BitVec 32 := 0#32
  let v947 : BitVec 32 := Scalar.muli c8_i32_534 c0_i32_3
  let c6_i32 : BitVec 32 := 6#32
  let v948 : BitVec 32 := Scalar.addi v947 c6_i32
  let c128_i32_537 : BitVec 32 := 128#32
  let v951 : BitVec 32 := Scalar.muli v948 c128_i32_537
  v951
def k0_mult32 : BitVec 32 :=
  let c8_i32_534 : BitVec 32 := 8#32
  let c0_i32_3 : BitVec 32 := 0#32
  let v947 : BitVec 32 := Scalar.muli c8_i32_534 c0_i32_3
  let c6_i32 : BitVec 32 := 6#32
  let v948 : BitVec 32 := Scalar.addi v947 c6_i32
  let c128_i32_543 : BitVec 32 := 128#32
  let v965 : BitVec 32 := Scalar.muli v948 c128_i32_543
  v965
def k0_mult33 : BitVec 32 :=
  let c8_i32_534 : BitVec 32 := 8#32
  let c0_i32_3 : BitVec 32 := 0#32
  let v947 : BitVec 32 := Scalar.muli c8_i32_534 c0_i32_3
  let c6_i32 : BitVec 32 := 6#32
  let v948 : BitVec 32 := Scalar.addi v947 c6_i32
  let c128_i32_578 : BitVec 32 := 128#32
  let v1023 : BitVec 32 := Scalar.muli v948 c128_i32_578
  v1023
def k0_mult34 : BitVec 32 :=
  let c8_i32_534 : BitVec 32 := 8#32
  let c0_i32_3 : BitVec 32 := 0#32
  let v947 : BitVec 32 := Scalar.muli c8_i32_534 c0_i32_3
  let c6_i32 : BitVec 32 := 6#32
  let v948 : BitVec 32 := Scalar.addi v947 c6_i32
  let c128_i32_584 : BitVec 32 := 128#32
  let v1037 : BitVec 32 := Scalar.muli v948 c128_i32_584
  v1037
def k0_mult35 : BitVec 32 :=
  let c8_i32_534 : BitVec 32 := 8#32
  let c0_i32_3 : BitVec 32 := 0#32
  let v947 : BitVec 32 := Scalar.muli c8_i32_534 c0_i32_3
  let c6_i32 : BitVec 32 := 6#32
  let v948 : BitVec 32 := Scalar.addi v947 c6_i32
  let c128_i32_619 : BitVec 32 := 128#32
  let v1095 : BitVec 32 := Scalar.muli v948 c128_i32_619
  v1095
def k0_mult36 : BitVec 32 :=
  let c8_i32_623 : BitVec 32 := 8#32
  let c0_i32_3 : BitVec 32 := 0#32
  let v1103 : BitVec 32 := Scalar.muli c8_i32_623 c0_i32_3
  let c7_i32_624 : BitVec 32 := 7#32
  let v1104 : BitVec 32 := Scalar.addi v1103 c7_i32_624
  let c128_i32_627 : BitVec 32 := 128#32
  let v1107 : BitVec 32 := Scalar.muli v1104 c128_i32_627
  v1107
def k0_mult37 : BitVec 32 :=
  let c8_i32_623 : BitVec 32 := 8#32
  let c0_i32_3 : BitVec 32 := 0#32
  let v1103 : BitVec 32 := Scalar.muli c8_i32_623 c0_i32_3
  let c7_i32_624 : BitVec 32 := 7#32
  let v1104 : BitVec 32 := Scalar.addi v1103 c7_i32_624
  let c128_i32_633 : BitVec 32 := 128#32
  let v1121 : BitVec 32 := Scalar.muli v1104 c128_i32_633
  v1121
def k0_mult38 : BitVec 32 :=
  let c8_i32_623 : BitVec 32 := 8#32
  let c0_i32_3 : BitVec 32 := 0#32
  let v1103 : BitVec 32 := Scalar.muli c8_i32_623 c0_i32_3
  let c7_i32_624 : BitVec 32 := 7#32
  let v1104 : BitVec 32 := Scalar.addi v1103 c7_i32_624
  let c128_i32_668 : BitVec 32 := 128#32
  let v1179 : BitVec 32 := Scalar.muli v1104 c128_i32_668
  v1179
def k0_mult39 : BitVec 32 :=
  let c8_i32_623 : BitVec 32 := 8#32
  let c0_i32_3 : BitVec 32 := 0#32
  let v1103 : BitVec 32 := Scalar.muli c8_i32_623 c0_i32_3
  let c7_i32_624 : BitVec 32 := 7#32
  let v1104 : BitVec 32 := Scalar.addi v1103 c7_i32_624
  let c128_i32_674 : BitVec 32 := 128#32
  let v1193 : BitVec 32 := Scalar.muli v1104 c128_i32_674
  v1193
def k0_mult40 : BitVec 32 :=
  let c8_i32_623 : BitVec 32 := 8#32
  let c0_i32_3 : BitVec 32 := 0#32
  let v1103 : BitVec 32 := Scalar.muli c8_i32_623 c0_i32_3
  let c7_i32_624 : BitVec 32 := 7#32
  let v1104 : BitVec 32 := Scalar.addi v1103 c7_i32_624
  let c128_i32_709 : BitVec 32 := 128#32
  let v1251 : BitVec 32 := Scalar.muli v1104 c128_i32_709
  v1251
def k0_cond2 (i : grid0.Coords) : BitVec 1 :=
  let arg1 : BitVec 32 := BitVec.ofNat 32 (i 1).val
  let c12_i32 : BitVec 32 := 12#32
  let v1259 : BitVec 1 := Scalar.cmpi .eq arg1 c12_i32
  let v1260 : BitVec 32 := Scalar.extui v1259
  let c0_i32_714 : BitVec 32 := 0#32
  let v1261 : BitVec 1 := Scalar.cmpi .ne v1260 c0_i32_714
  v1261

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "no_score" => some ⊥
  | "qk_scale" => some (((8 * (Real.log 2))⁻¹ : ℝ) : EReal)
  | _ => none
-- ==== ReferenceIdeal.lean ====
abbrev S16384x1024 : Shape := ⟨2, ![16384, 1024]⟩
abbrev S256x1024 : Shape := ⟨2, ![256, 1024]⟩
abbrev S64 : Shape := ⟨1, ![64]⟩
abbrev S128 : Shape := ⟨1, ![128]⟩
abbrev S_ : Shape := ⟨0, ![]⟩
abbrev S16384x16x64 : Shape := ⟨3, ![16384, 16, 64]⟩
abbrev S16640x1024 : Shape := ⟨2, ![16640, 1024]⟩
abbrev S16640x16x64 : Shape := ⟨3, ![16640, 16, 64]⟩
abbrev S16640x8x128 : Shape := ⟨3, ![16640, 8, 128]⟩
abbrev S16x16384x16640 : Shape := ⟨3, ![16, 16384, 16640]⟩
abbrev S16x16384 : Shape := ⟨2, ![16, 16384]⟩
abbrev S16x16384x1 : Shape := ⟨3, ![16, 16384, 1]⟩
abbrev S8x2x16384x16640 : Shape := ⟨4, ![8, 2, 16384, 16640]⟩
abbrev S8x1x16384x16640 : Shape := ⟨4, ![8, 1, 16384, 16640]⟩
abbrev S8x16384x16640 : Shape := ⟨3, ![8, 16384, 16640]⟩
abbrev S8x128x16384 : Shape := ⟨3, ![8, 128, 16384]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S256x1024, .f32⟩
  | .hbm, ⟨4, _⟩ => ⟨S256x1024, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16384x16x64, .f32⟩
  | .hbm, ⟨22, _⟩ => ⟨S16640x1024, .f32⟩
  | .hbm, ⟨23, _⟩ => ⟨S16640x16x64, .f32⟩
  | .hbm, ⟨24, _⟩ => ⟨S16640x1024, .f32⟩
  | .hbm, ⟨25, _⟩ => ⟨S16640x8x128, .f32⟩
  | .hbm, ⟨26, _⟩ => ⟨S16x16384x16640, .f32⟩
  | .hbm, ⟨27, _⟩ => ⟨S_, .f32⟩
  | .hbm, ⟨28, _⟩ => ⟨S16x16384x16640, .f32⟩
  | .hbm, ⟨29, _⟩ => ⟨S16x16384x16640, .f32⟩
  | .hbm, ⟨30, _⟩ => ⟨S_, .f32⟩
  | .hbm, ⟨31, _⟩ => ⟨S16x16384, .f32⟩
  | .hbm, ⟨32, _⟩ => ⟨S_, .f32⟩
  | .hbm, ⟨33, _⟩ => ⟨S16x16384, .f32⟩
  | .hbm, ⟨34, _⟩ => ⟨S16x16384, .f32⟩
  | .hbm, ⟨35, _⟩ => ⟨S16x16384x1, .f32⟩
  | .hbm, ⟨36, _⟩ => ⟨S16x16384x16640, .f32⟩
  | .hbm, ⟨37, _⟩ => ⟨S16x16384x16640, .f32⟩
  | .hbm, ⟨38, _⟩ => ⟨S16x16384x16640, .f32⟩
  | .hbm, ⟨39, _⟩ => ⟨S_, .f32⟩
  | .hbm, ⟨40, _⟩ => ⟨S16x16384, .f32⟩
  | .hbm, ⟨41, _⟩ => ⟨S16x16384x1, .f32⟩
  | .hbm, ⟨42, _⟩ => ⟨S16x16384x16640, .f32⟩
  | .hbm, ⟨43, _⟩ => ⟨S16x16384x16640, .f32⟩
  | .hbm, ⟨44, _⟩ => ⟨S8x2x16384x16640, .f32⟩
  | .hbm, ⟨45, _⟩ => ⟨S8x1x16384x16640, .f32⟩
  | .hbm, ⟨46, _⟩ => ⟨S8x16384x16640, .f32⟩
  | .hbm, ⟨47, _⟩ => ⟨S8x1x16384x16640, .f32⟩
  | .hbm, ⟨48, _⟩ => ⟨S8x16384x16640, .f32⟩
  | .hbm, ⟨49, _⟩ => ⟨S8x16384x16640, .f32⟩
  | .hbm, ⟨50, _⟩ => ⟨S8x16384x16640, .f32⟩
  | .hbm, ⟨51, _⟩ => ⟨S8x16384x16640, .f32⟩
  | .hbm, ⟨52, _⟩ => ⟨S8x128x16384, .f32⟩
  | .hbm, ⟨53, _⟩ => ⟨S16384x8x128, .f32⟩
  | .hbm, ⟨54, _⟩ => ⟨S16384x8x128, .f32⟩
  | .hbm, ⟨55, _⟩ => ⟨S_, .f32⟩
  | .hbm, ⟨56, _⟩ => ⟨S16384x8, .f32⟩
  | .hbm, ⟨57, _⟩ => ⟨S16384x8x1, .f32⟩
  | .hbm, ⟨58, _⟩ => ⟨S_, .f32⟩
  | .hbm, ⟨59, _⟩ => ⟨S16384x8x1, .f32⟩
  | .hbm, ⟨60, _⟩ => ⟨S16384x8x1, .f32⟩
  | .hbm, ⟨61, _⟩ => ⟨S_, .f32⟩
  | .hbm, ⟨62, _⟩ => ⟨S16384x8x1, .f32⟩
  | .hbm, ⟨63, _⟩ => ⟨S16384x8x1, .f32⟩
  | .hbm, ⟨64, _⟩ => ⟨S16384x8x1, .f32⟩
  | .hbm, ⟨65, _⟩ => ⟨S16384x8x128, .f32⟩
  | .hbm, ⟨66, _⟩ => ⟨S16384x8x128, .f32⟩
  | .hbm, ⟨67, _⟩ => ⟨S1x1x128, .f32⟩
  | .hbm, ⟨68, _⟩ => ⟨S16384x8x128, .f32⟩
  | .hbm, ⟨69, _⟩ => ⟨S16384x8x128, .f32⟩
  | .hbm, ⟨70, _⟩ => ⟨S_, .f32⟩
  | .hbm, ⟨71, _⟩ => ⟨S16384x8x128, .f32⟩
  | .hbm, ⟨72, _⟩ => ⟨S16384x8x128, .f32⟩
  | .hbm, ⟨73, _⟩ => ⟨S16384x1024, .f32⟩
  | .hbm, ⟨74, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x16x1024x1024 : Shape := ⟨4, ![2, 16, 1024, 1024]⟩
abbrev S_ : Shape := ⟨0, ![]⟩
abbrev S16x2304x1024 : Shape := ⟨3, ![16, 2304, 1024]⟩
abbrev S1x768x1024 : Shape := ⟨3, ![1, 768, 1024]⟩
abbrev S1x1x1024x1024 : Shape := ⟨4, ![1, 1, 1024, 1024]⟩
abbrev S1024x1024 : Shape := ⟨2, ![1024, 1024]⟩
abbrev S768x1024 : Shape := ⟨2, ![768, 1024]⟩

abbrev nBuf : Space → Nat
  | .hbm => 9
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S_, .i32⟩
  | .hbm, ⟨5, _⟩ => ⟨S_, .f32⟩
  | .hbm, ⟨6, _⟩ => ⟨S16x2304x1024, .f32⟩
  | .hbm, ⟨7, _⟩ => ⟨S16x2304x1024, .bf16⟩
  | .hbm, ⟨8, _⟩ => ⟨S16x2304x1024, .bf16⟩
  | .local _ .vmem, ⟨0, _⟩ => ⟨S1x768x1024, .bf16⟩
  | .local _ .vmem, ⟨1, _⟩ => ⟨S1x768x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x768x1024, .bf16⟩
  | .local _ .vmem, ⟨9, _⟩ => ⟨S1x768x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c3_i32 : BitVec 32 := 3#32
  let v3 : BitVec 1 := Scalar.cmpi .slt arg1 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32_2 : BitVec 32 := 3#32
  let v6 : BitVec 1 := Scalar.cmpi .sge arg1 c3_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x2048x1024 : Shape := ⟨3, ![16, 2048, 1024]⟩
abbrev S2x16x1024x1024 : Shape := ⟨4, ![2, 16, 1024, 1024]⟩
abbrev S1x16x1024x1024 : Shape := ⟨4, ![1, 16, 1024, 1024]⟩
abbrev S16x1024x1024 : Shape := ⟨3, ![16, 1024, 1024]⟩
abbrev S_ : Shape := ⟨0, ![]⟩
abbrev S16x2304x1024 : Shape := ⟨3, ![16, 2304, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S1x16x1024x1024, .f32⟩
  | .hbm, ⟨5, _⟩ => ⟨S16x1024x1024, .f32⟩
  | .hbm, ⟨6, _⟩ => ⟨S1x16x1024x1024, .f32⟩
  | .hbm, ⟨7, _⟩ => ⟨S16x1024x1024, .f32⟩
  | .hbm, ⟨8, _⟩ => ⟨S1x16x1024x1024, .f32⟩
  | .hbm, ⟨9, _⟩ => ⟨S16x1024x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .i32⟩
  | .hbm, ⟨24, _⟩ => ⟨S_, .f32⟩
  | .hbm, ⟨25, _⟩ => ⟨S16x2304x1024, .f32⟩
  | .hbm, ⟨26, _⟩ => ⟨S16x2304x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x3072 : Shape := ⟨2, ![1, 3072]⟩
abbrev S4x3072 : Shape := ⟨2, ![4, 3072]⟩
abbrev S8x3072 : Shape := ⟨2, ![8, 3072]⟩
abbrev S1024x1024 : Shape := ⟨2, ![1024, 1024]⟩
abbrev S16x1024 : Shape := ⟨2, ![16, 1024]⟩
abbrev S1024x1 : Shape := ⟨2, ![1024, 1]⟩
abbrev S16 : Shape := ⟨1, ![16]⟩
abbrev S16x1 : Shape := ⟨2, ![16, 1]⟩
abbrev S1056x1024 : Shape := ⟨2, ![1056, 1024]⟩
abbrev S1056x1 : Shape := ⟨2, ![1056, 1]⟩

abbrev nBuf : Space → Nat
  | .hbm => 23
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S3072, .f32⟩
  | .hbm, ⟨6, _⟩ => ⟨S3x3072, .f32⟩
  | .hbm, ⟨7, _⟩ => ⟨S3072, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S5x1024, .f32⟩
  | .hbm, ⟨13, _⟩ => ⟨S8x1024, .f32⟩
  | .hbm, ⟨14, _⟩ => ⟨S1024x3072, .bf16⟩
  | .hbm, ⟨15, _⟩ => ⟨S1x3072, .f32⟩
  | .hbm, ⟨16, _⟩ => ⟨S_, .f32⟩
  | .hbm, ⟨17, _⟩ => ⟨S4x3072, .f32⟩
  | .hbm, ⟨18, _⟩ => ⟨S8x3072, .f32⟩
  | .hbm, ⟨19, _⟩ => ⟨S1x3072, .f32⟩
  | .hbm, ⟨20, _⟩ => ⟨S16384x1024, .bf16⟩
  | .hbm, ⟨21, _⟩ => ⟨S16384x1024, .bf16⟩
  | .hbm, ⟨22, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S8x1024, .f32⟩
  | .local _ .vmem, ⟨7, _⟩ => ⟨S1024x3072, .bf16⟩
  | .local _ .vmem, ⟨8, _⟩ => ⟨S1x3072, .f32⟩
  | .local _ .vmem, ⟨9, _⟩ => ⟨S8x3072, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S1x3072 : Shape := ⟨2, ![1, 3072]⟩
abbrev S16386x3072 : Shape := ⟨2, ![16386, 3072]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S3072, .f32⟩
  | .hbm, ⟨6, _⟩ => ⟨S3x3072, .f32⟩
  | .hbm, ⟨7, _⟩ => ⟨S3072, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x3072, .f32⟩
  | .hbm, ⟨34, _⟩ => ⟨S1x3072, .f32⟩
  | .hbm, ⟨35, _⟩ => ⟨S16384x3072, .f32⟩
  | .hbm, ⟨36, _⟩ => ⟨S16384x3072, .f32⟩
  | .hbm, ⟨37, _⟩ => ⟨S_, .i32⟩
  | .hbm, ⟨38, _⟩ => ⟨S_, .f32⟩
  | .hbm, ⟨39, _⟩ => ⟨S16386x3072, .f32⟩
  | .hbm, ⟨40, _⟩ => ⟨S16384x3072, .f32⟩
  | .hbm, ⟨41, _⟩ => ⟨S1x3072, .f32⟩
  | .hbm, ⟨42, _⟩ => ⟨S3072, .f32⟩
  | .hbm, ⟨43, _⟩ => ⟨S1x3072, .f32⟩
  | .hbm, ⟨44, _⟩ => ⟨S16384x3072, .f32⟩
  | .hbm, ⟨45, _⟩ => ⟨S16384x3072, .f32⟩
  | .hbm, ⟨46, _⟩ => ⟨S1x3072, .f32⟩
  | .hbm, ⟨47, _⟩ => ⟨S16384x3072, .f32⟩
  | .hbm, ⟨48, _⟩ => ⟨S16384x3072, .f32⟩
  | .hbm, ⟨49, _⟩ => ⟨S16384x3072, .f32⟩
  | .hbm, ⟨50, _⟩ => ⟨S1x3072, .f32⟩
  | .hbm, ⟨51, _⟩ => ⟨S3072, .f32⟩
  | .hbm, ⟨52, _⟩ => ⟨S1x3072, .f32⟩
  | .hbm, ⟨53, _⟩ => ⟨S16384x3072, .f32⟩
  | .hbm, ⟨54, _⟩ => ⟨S16384x3072, .f32⟩
  | .hbm, ⟨55, _⟩ => ⟨S16384x3072, .f32⟩
  | .hbm, ⟨56, _⟩ => ⟨S16384x3072, .f32⟩
  | .hbm, ⟨57, _⟩ => ⟨S1x3072, .f32⟩
  | .hbm, ⟨58, _⟩ => ⟨S3072, .f32⟩
  | .hbm, ⟨59, _⟩ => ⟨S1x3072, .f32⟩
  | .hbm, ⟨60, _⟩ => ⟨S16384x3072, .f32⟩
  | .hbm, ⟨61, _⟩ => ⟨S16384x3072, .f32⟩
  | .hbm, ⟨62, _⟩ => ⟨S16384x3072, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S16384x1024, .bf16⟩
  | .hbm, ⟨68, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S16 : Shape := ⟨1, ![16]⟩
abbrev S1024x128 : Shape := ⟨2, ![1024, 128]⟩
abbrev S128 : Shape := ⟨1, ![128]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x64 : Shape := ⟨2, ![1, 64]⟩
abbrev S16x64 : Shape := ⟨2, ![16, 64]⟩
abbrev S32 : Shape := ⟨1, ![32]⟩
abbrev S16384 : Shape := ⟨1, ![16384]⟩
abbrev S16384x1 : Shape := ⟨2, ![16384, 1]⟩
abbrev S1x128 : Shape := ⟨2, ![1, 128]⟩
abbrev S16384x128 : Shape := ⟨2, ![16384, 128]⟩
abbrev S16640x1024 : Shape := ⟨2, ![16640, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩

abbrev nBuf : Space → Nat
  | .hbm => 94
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S16, .f32⟩
  | .hbm, ⟨8, _⟩ => ⟨S1024x128, .f32⟩
  | .hbm, ⟨9, _⟩ => ⟨S128, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S5x1024, .f32⟩
  | .hbm, ⟨15, _⟩ => ⟨S8x1024, .f32⟩
  | .hbm, ⟨16, _⟩ => ⟨S1024x128, .bf16⟩
  | .hbm, ⟨17, _⟩ => ⟨S1x64, .f32⟩
  | .hbm, ⟨18, _⟩ => ⟨S16x64, .f32⟩
  | .hbm, ⟨19, _⟩ => ⟨S1024, .f32⟩
  | .hbm, ⟨20, _⟩ => ⟨S1x1024, .f32⟩
  | .hbm, ⟨21, _⟩ => ⟨S1x64, .f32⟩
  | .hbm, ⟨22, _⟩ => ⟨S16x64, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S32, .f32⟩
  | .hbm, ⟨27, _⟩ => ⟨S128, .f32⟩
  | .hbm, ⟨28, _⟩ => ⟨S128, .f32⟩
  | .hbm, ⟨29, _⟩ => ⟨S16384, .i32⟩
  | .hbm, ⟨30, _⟩ => ⟨S_, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S16384, .i32⟩
  | .hbm, ⟨39, _⟩ => ⟨S16384, .i32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384, .f32⟩
  | .hbm, ⟨49, _⟩ => ⟨S16384x1, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S_, .i1⟩
  | .hbm, ⟨66, _⟩ => ⟨S16384, .i1⟩
  | .hbm, ⟨67, _⟩ => ⟨S16384, .i1⟩
  | .hbm, ⟨68, _⟩ => ⟨S16384, .i1⟩
  | .hbm, ⟨69, _⟩ => ⟨S16384, .i32⟩
  | .hbm, ⟨70, _⟩ => ⟨S16384, .i32⟩
  | .hbm, ⟨71, _⟩ => ⟨S16384, .i32⟩
  | .hbm, ⟨72, _⟩ => ⟨S16384, .f32⟩
  | .hbm, ⟨73, _⟩ => ⟨S16384x1, .f32⟩
  | .hbm, ⟨74, _⟩ => ⟨S1x128, .f32⟩
  | .hbm, ⟨75, _⟩ => ⟨S16384x128, .f32⟩
  | .hbm, ⟨76, _⟩ => ⟨S16384x128, .f32⟩
  | .hbm, ⟨77, _⟩ => ⟨S16384x128, .f32⟩
  | .hbm, ⟨78, _⟩ => ⟨S1x128, .f32⟩
  | .hbm, ⟨79, _⟩ => ⟨S16384x128, .f32⟩
  | .hbm, ⟨80, _⟩ => ⟨S16384x128, .f32⟩
  | .hbm, ⟨81, _⟩ => ⟨S16384x128, .f32⟩
  | .hbm, ⟨82, _⟩ => ⟨S16384x128, .f32⟩
  | .hbm, ⟨83, _⟩ => ⟨S16384x128, .f32⟩
  | .hbm, ⟨84, _⟩ => ⟨S16384x128, .f32⟩
  | .hbm, ⟨85, _⟩ => ⟨S1x128, .f32⟩
  | .hbm, ⟨86, _⟩ => ⟨S16384x128, .f32⟩
  | .hbm, ⟨87, _⟩ => ⟨S16384x128, .f32⟩
  | .hbm, ⟨88, _⟩ => ⟨S1024x3072, .bf16⟩
  | .hbm, ⟨89, _⟩ => ⟨S16384x1024, .bf16⟩
  | .hbm, ⟨90, _⟩ => ⟨S16640x1024, .bf16⟩
  | .hbm, ⟨91, _⟩ => ⟨S16640x1024, .bf16⟩
  | .hbm, ⟨92, _⟩ => ⟨S16384x1024, .bf16⟩
  | .hbm, ⟨93, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S1024x3072, .bf16⟩
  | .local _ .vmem, ⟨4, _⟩ => ⟨S1024x128, .bf16⟩
  | .local _ .vmem, ⟨5, _⟩ => ⟨S1x1024, .f32⟩
  | .local _ .vmem, ⟨6, _⟩ => ⟨S1x1024, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_3 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_v5 : Ref sig .tc := ⟨.hbm, 59, rfl⟩
abbrev main_call1_v6 : Ref sig .tc := ⟨.hbm, 60, rfl⟩
abbrev main_call1_c_2 : Ref sig .tc := ⟨.hbm, 61, rfl⟩
abbrev main_call1_v7 : Ref sig .tc := ⟨.hbm, 62, rfl⟩
abbrev main_call1_v8 : Ref sig .tc := ⟨.hbm, 63, rfl⟩
abbrev main_call1_c_3 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39_0 : Ref sig .tc := ⟨.hbm, 89, rfl⟩
abbrev main_v39_1 : Ref sig .tc := ⟨.hbm, 90, rfl⟩
abbrev main_v39_2 : Ref sig .tc := ⟨.hbm, 91, rfl⟩
abbrev main_v40 : Ref sig .tc := ⟨.hbm, 92, rfl⟩
abbrev main_v41 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S16 : Shape := ⟨1, ![16]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S256 : Shape := ⟨1, ![256]⟩
abbrev S256x64 : Shape := ⟨2, ![256, 64]⟩
abbrev S1x64 : Shape := ⟨2, ![1, 64]⟩
abbrev S16384x3072 : Shape := ⟨2, ![16384, 3072]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S16384x16x32 : Shape := ⟨3, ![16384, 16, 32]⟩
abbrev S1x16 : Shape := ⟨2, ![1, 16]⟩
abbrev S16384x1x16 : Shape := ⟨3, ![16384, 1, 16]⟩
abbrev S16384x16x16 : Shape := ⟨3, ![16384, 16, 16]⟩

abbrev nBuf : Space → Nat
  | .hbm => 184
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S1024, .f32⟩
  | 4 => ⟨S1024x3072, .f32⟩
  | 5 => ⟨S64, .f32⟩
  | 6 => ⟨S64, .f32⟩
  | 7 => ⟨S16, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S_, .f32⟩
  | 25 => ⟨S1024, .f32⟩
  | 26 => ⟨S1024, .f32⟩
  | 27 => ⟨S1x1024, .f32⟩
  | 28 => ⟨S16384x1024, .f32⟩
  | 29 => ⟨S16384x1024, .f32⟩
  | 30 => ⟨S1x1024, .f32⟩
  | 31 => ⟨S16384x1024, .f32⟩
  | 32 => ⟨S16384x1024, .f32⟩
  | 33 => ⟨S256, .i32⟩
  | 34 => ⟨S256x64, .i32⟩
  | 35 => ⟨S16384, .i32⟩
  | 36 => ⟨S64, .i32⟩
  | 37 => ⟨S1x64, .i32⟩
  | 38 => ⟨S256x64, .i32⟩
  | 39 => ⟨S16384, .i32⟩
  | 40 => ⟨S16384x3072, .f32⟩
  | 41 => ⟨S16384x1024, .f32⟩
  | 42 => ⟨S16384x1024, .f32⟩
  | 43 => ⟨S16384x1024, .f32⟩
  | 44 => ⟨S16384x16x64, .f32⟩
  | 45 => ⟨S16384x16x64, .f32⟩
  | 46 => ⟨S_, .f32⟩
  | 47 => ⟨S16384x16, .f32⟩
  | 48 => ⟨S16384x16x1, .f32⟩
  | 49 => ⟨S_, .f32⟩
  | 50 => ⟨S16384x16x1, .f32⟩
  | 51 => ⟨S16384x16x1, .f32⟩
  | 52 => ⟨S_, .f32⟩
  | 53 => ⟨S16384x16x1, .f32⟩
  | 54 => ⟨S16384x16x1, .f32⟩
  | 55 => ⟨S16384x16x1, .f32⟩
  | 56 => ⟨S16384x16x64, .f32⟩
  | 57 => ⟨S16384x16x64, .f32⟩
  | 58 => ⟨S1x1x64, .f32⟩
  | 59 => ⟨S16384x16x64, .f32⟩
  | 60 => ⟨S16384x16x64, .f32⟩
  | 61 => ⟨S16384x16x32, .f32⟩
  | 62 => ⟨S16384x16x32, .f32⟩
  | 63 => ⟨S16384, .f32⟩
  | 64 => ⟨S16384x1, .f32⟩
  | 65 => ⟨S1x16, .f32⟩
  | 66 => ⟨S16384x16, .f32⟩
  | 67 => ⟨S16384x16, .f32⟩
  | 68 => ⟨S16384x16, .f32⟩
  | 69 => ⟨S16384x16, .f32⟩
  | 70 => ⟨S16384x1x16, .f32⟩
  | 71 => ⟨S16384x16, .f32⟩
  | 72 => ⟨S16384x1x16, .f32⟩
  | 73 => ⟨S16384x16x16, .f32⟩
  | 74 => ⟨S16384x16x16, .f32⟩
  | 75 => ⟨S16384x16x16, .f32⟩
  | 76 => ⟨S16384x16x16, .f32⟩
  | 77 => ⟨S16384x16x16, .f32⟩
  | 78 => ⟨S16384x16x16, .f32⟩
  | 79 => ⟨S16384x16x16, .f32⟩
  | 80 => ⟨S16384x16x16, .f32⟩
  | 81 => ⟨S16384x16x16, .f32⟩
  | 82 => ⟨S16384x16x16, .f32⟩
  | 83 => ⟨S16384x16x16, .f32⟩
  | 84 => ⟨S16384x16x16, .f32⟩
  | 85 => ⟨S16384x16x32, .f32⟩
  | 86 => ⟨S16384, .f32⟩
  | 87 => ⟨S16384x1, .f32⟩
  | 88 => ⟨S1x16, .f32⟩
  | 89 => ⟨S16384x16, .f32⟩
  | 90 => ⟨S16384x16, .f32⟩
  | 91 => ⟨S16384x16, .f32⟩
  | 92 => ⟨S16384x16, .f32⟩
  | 93 => ⟨S16384x1x16, .f32⟩
  | 94 => ⟨S16384x16, .f32⟩
  | 95 => ⟨S16384x1x16, .f32⟩
  | 96 => ⟨S16384x16x16, .f32⟩
  | 97 => ⟨S16384x16x16, .f32⟩
  | 98 => ⟨S16384x16x16, .f32⟩
  | 99 => ⟨S16384x16x16, .f32⟩
  | 100 => ⟨S16384x16x16, .f32⟩
  | 101 => ⟨S16384x16x16, .f32⟩
  | 102 => ⟨S16384x16x16, .f32⟩
  | 103 => ⟨S16384x16x16, .f32⟩
  | 104 => ⟨S16384x16x16, .f32⟩
  | 105 => ⟨S16384x16x16, .f32⟩
  | 106 => ⟨S16384x16x16, .f32⟩
  | 107 => ⟨S16384x16x16, .f32⟩
  | 108 => ⟨S16384x16x32, .f32⟩
  | 109 => ⟨S16384x16x64, .f32⟩
  | 110 => ⟨S16384x1024, .f32⟩
  | 111 => ⟨S_, .f32⟩
  | 112 => ⟨S16384x1024, .f32⟩
  | 113 => ⟨S16384x1024, .f32⟩
  | 114 => ⟨S16384x16x64, .f32⟩
  | 115 => ⟨S16384x16x64, .f32⟩
  | 116 => ⟨S_, .f32⟩
  | 117 => ⟨S16384x16, .f32⟩
  | 118 => ⟨S16384x16x1, .f32⟩
  | 119 => ⟨S_, .f32⟩
  | 120 => ⟨S16384x16x1, .f32⟩
  | 121 => ⟨S16384x16x1, .f32⟩
  | 122 => ⟨S_, .f32⟩
  | 123 => ⟨S16384x16x1, .f32⟩
  | 124 => ⟨S16384x16x1, .f32⟩
  | 125 => ⟨S16384x16x1, .f32⟩
  | 126 => ⟨S16384x16x64, .f32⟩
  | 127 => ⟨S16384x16x64, .f32⟩
  | _ => ⟨S16384x1024, .f32⟩

abbrev hbmTy0_1 (i : Nat) : BufTy := match i % 128 with
  | 0 => ⟨S1x1x64, .f32⟩
  | 1 => ⟨S16384x16x64, .f32⟩
  | 2 => ⟨S16384x16x64, .f32⟩
  | 3 => ⟨S16384x16x32, .f32⟩
  | 4 => ⟨S16384x16x32, .f32⟩
  | 5 => ⟨S16384, .f32⟩
  | 6 => ⟨S16384x1, .f32⟩
  | 7 => ⟨S1x16, .f32⟩
  | 8 => ⟨S16384x16, .f32⟩
  | 9 => ⟨S16384x16, .f32⟩
  | 10 => ⟨S16384x16, .f32⟩
  | 11 => ⟨S16384x16, .f32⟩
  | 12 => ⟨S16384x1x16, .f32⟩
  | 13 => ⟨S16384x16, .f32⟩
  | 14 => ⟨S16384x1x16, .f32⟩
  | 15 => ⟨S16384x16x16, .f32⟩
  | 16 => ⟨S16384x16x16, .f32⟩
  | 17 => ⟨S16384x16x16, .f32⟩
  | 18 => ⟨S16384x16x16, .f32⟩
  | 19 => ⟨S16384x16x16, .f32⟩
  | 20 => ⟨S16384x16x16, .f32⟩
  | 21 => ⟨S16384x16x16, .f32⟩
  | 22 => ⟨S16384x16x16, .f32⟩
  | 23 => ⟨S16384x16x16, .f32⟩
  | 24 => ⟨S16384x16x16, .f32⟩
  | 25 => ⟨S16384x16x16, .f32⟩
  | 26 => ⟨S16384x16x16, .f32⟩
  | 27 => ⟨S16384x16x32, .f32⟩
  | 28 => ⟨S16384, .f32⟩
  | 29 => ⟨S16384x1, .f32⟩
  | 30 => ⟨S1x16, .f32⟩
  | 31 => ⟨S16384x16, .f32⟩
  | 32 => ⟨S16384x16, .f32⟩
  | 33 => ⟨S16384x16, .f32⟩
  | 34 => ⟨S16384x16, .f32⟩
  | 35 => ⟨S16384x1x16, .f32⟩
  | 36 => ⟨S16384x16, .f32⟩
  | 37 => ⟨S16384x1x16, .f32⟩
  | 38 => ⟨S16384x16x16, .f32⟩
  | 39 => ⟨S16384x16x16, .f32⟩
  | 40 => ⟨S16384x16x16, .f32⟩
  | 41 => ⟨S16384x16x16, .f32⟩
  | 42 => ⟨S16384x16x16, .f32⟩
  | 43 => ⟨S16384x16x16, .f32⟩
  | 44 => ⟨S16384x16x16, .f32⟩
  | 45 => ⟨S16384x16x16, .f32⟩
  | 46 => ⟨S16384x16x16, .f32⟩
  | 47 => ⟨S16384x16x16, .f32⟩
  | 48 => ⟨S16384x16x16, .f32⟩
  | 49 => ⟨S16384x16x16, .f32⟩
  | 50 => ⟨S16384x16x32, .f32⟩
  | 51 => ⟨S16384x16x64, .f32⟩
  | 52 => ⟨S16384x1024, .f32⟩
  | 53 => ⟨S16384x1024, .bf16⟩
  | 54 => ⟨S16384x1024, .bf16⟩
  | 55 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_6 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_7 : Ref sig .tc := ⟨.hbm, 116, rfl⟩
abbrev main_v100 : Ref sig .tc := ⟨.hbm, 117, rfl⟩
abbrev main_v101 : Ref sig .tc := ⟨.hbm, 118, rfl⟩
abbrev main_cst_8 : Ref sig .tc := ⟨.hbm, 119, rfl⟩
abbrev main_v102 : Ref sig .tc := ⟨.hbm, 120, rfl⟩
abbrev main_v103 : Ref sig .tc := ⟨.hbm, 121, rfl⟩
abbrev main_cst_9 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩

abbrev nD : Nat := 1
abbrev τ : Topo := Topo.v7x

variable {F : FTy → Type} [FloatOps F]
-- ==== Proof.Heads.lean ====
/-
  The kernel's body as eight times one program. The printed body is the eight heads written out one after another,
  then the block run at the last tile of keys; its parts are cut without regard for the heads. Here the steps of one head
  are one program in the head's number (`headP`), and the printed body is the first block, the eight heads
  and the last block (`body_eq`).
-/
module

public import proofs.«01_k».proof.Proof.Gen.KernelIdeal.Skeleton
public import proofs.«01_k».proof.Proof.Gen.KernelIdeal.Points

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F] [Named F]

/-- The scores of the first component's lanes. -/
def score0 (q : Vec F S512x128 .f32) (k : Vec F S1280x128 .bf16) : FVec F S512x1280 .f32 := k0_pay42 q k
/-- The scores of the second component's lanes. -/
def score1 (q : Vec F S512x128 .f32) (k : Vec F S1280x128 .bf16) : FVec F S512x1280 .f32 :=
  k0_pay52 (iota .tc S512x128 32 [1] iota_S512x128_d1_w32) q k

/-- Whether the point is at the first tile of keys, as the body computes it. -/
def k0_cond1 (i : grid0.Coords) : BitVec 1 := Scalar.cmpi .ne (Scalar.extui (Scalar.cmpi .eq (BitVec.ofNat 32 (i 1).val) 0#32)) 0#32

section
variable (i : grid0.Coords) (arg2 : Memref sig .tc .vmem S512x1024 .f32) (harg2 : arg2.IsWhole) (arg3 : Memref sig .tc .vmem S1280x1024 .bf16) (harg3 : arg3.IsWhole) (arg4 : Memref sig .tc .vmem S1280x1024 .bf16) (harg4 : arg4.IsWhole) (arg5 : Memref sig .tc .vmem S8x64 .f32) (harg5 : arg5.IsWhole) (arg6 : Memref sig .tc .vmem S1x128 .f32) (harg6 : arg6.IsWhole) (arg7 : Memref sig .tc .vmem S512x1024 .bf16) (harg7 : arg7.IsWhole) (arg8 : Memref sig .tc .vmem S16x512x128 .f32) (harg8 : arg8.IsWhole) (arg9 : Memref sig .tc .vmem S16x512x256 .f32) (harg9 : arg9.IsWhole) (arg10 : Memref sig .tc .vmem S512x1280 .f32) (harg10 : arg10.IsWhole) (arg11 : Memref sig .tc .vmem S512x1280 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x1280 .bf16) (harg14 : arg14.IsWhole) (arg15 : Memref sig .tc .vmem S512x1280 .bf16) (harg15 : arg15.IsWhole) (arg16 : Memref sig .tc .vmem S1280x128 .bf16) (harg16 : arg16.IsWhole) (arg17 : Memref sig .tc .vmem S512x128 .f32) (harg17 : arg17.IsWhole) (arg18 : Memref sig .tc .vmem S512x128 .f32) (harg18 : arg18.IsWhole)

/-- The first half of head `u`'s steps: its first component's scores, the head before's first component gathered, and that
    head's second component's weights. -/
def headA (u : Fin 8) : Prog (TpuEff nD τ sig (Elt F) Λ₀ .tc) PUnit := do
  let q0 : Vec F S512x128 .f32 ← Prog.lift (.load arg2 (Rect.unit (s := S512x1024) (k0_off1 (BitVec.ofNat 32 u.val)) S512x128.size (k0_off1_inb u)).toLoadRect (View.loadsAt_vmem h_S512x128))
  let k0 : Vec F S1280x128 .bf16 ← Prog.lift (.load arg3 (Rect.unit (s := S1280x1024) (k0_off2 (BitVec.ofNat 32 u.val)) S1280x128.size (k0_off2_inb u)).toLoadRect (View.loadsAt_vmem h_S1280x128))
  let _d0 : Vec F S512x1280 .f32 ← Prog.lift (.load arg10 (Rect.unit (s := S512x1280) ![0, 0] S512x1280.size inb_S512x1280_S512x1280_0_0).toLoadRect (View.loadsAt_vmem h_S512x1280))
  Prog.lift (.store arg10 (Rect.unit (s := S512x1280) ![0, 0] S512x1280.size inb_S512x1280_S512x1280_0_0) (k0_pay43 (score0 q0 k0)) Finset.univ (View.stores_vmem_bits_univ h_S512x1280 rfl) (.inl rfl))
  let _d1 : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay44 (score0 q0 k0)) Finset.univ (View.stores_vmem_bits_univ h_S512x128 rfl) (.inl rfl))
  let pa : Vec F S512x1280 .bf16 ← Prog.lift (.load arg14 (Rect.unit (s := S512x1280) ![0, 0] S512x1280.size inb_S512x1280_S512x1280_0_0).toLoadRect (View.loadsAt_vmem h_S512x1280))
  let vp : Vec F S1280x128 .bf16 ← Prog.lift (.load arg16 (Rect.unit (s := S1280x128) ![0, 0] S1280x128.size inb_S1280x128_S1280x128_0_0).toLoadRect (View.loadsAt_vmem h_S1280x128))
  let aa : Vec F S512x128 .f32 ← Prog.lift (.load arg17 (Rect.unit (s := S512x128) ![0, 0] S512x128.size inb_S512x128_S512x128_0_0).toLoadRect (View.loadsAt_vmem h_S512x128))
  let acc : Vec F S1x512x256 .f32 ← Prog.lift (.load arg9 (Rect.unit (s := S16x512x256) (k0_off3 (BitVec.ofNat 32 u.val) 0#32) S1x512x256.size (k0_off3_inb u 0)).toLoadRect (View.loadsAt_vmem h_S1x512x256))
  let _d2 : Vec F S1x512x256 .f32 ← Prog.lift (.load arg9 (Rect.unit (s := S16x512x256) (k0_off3 (BitVec.ofNat 32 u.val) 0#32) S1x512x256.size (k0_off3_inb u 0)).toLoadRect (View.loadsAt_vmem h_S1x512x256))
  Prog.lift (.store arg9 (Rect.unit (s := S16x512x256) (k0_off3 (BitVec.ofNat 32 u.val) 0#32) S1x512x256.size (k0_off3_inb u 0)) (k0_pay45 k0_pay41 pa vp aa acc) Finset.univ (View.stores_vmem_bits_univ h_S1x512x256 rfl) (.inl rfl))
  let mold : Vec F S1x512x128 .f32 ← Prog.lift (.load arg8 (Rect.unit (s := S16x512x128) (k0_off4 (BitVec.ofNat 32 u.val)) S1x512x128.size (k0_off4_inb u)).toLoadRect (View.loadsAt_vmem h_S1x512x128))
  let mb : Vec F S512x128 .f32 ← Prog.lift (.load arg13 (Rect.unit (s := S512x128) ![0, 0] S512x128.size inb_S512x128_S512x128_0_0).toLoadRect (View.loadsAt_vmem h_S512x128))
  let _d3 : Vec F S512x128 .f32 ← Prog.lift (.load arg18 (Rect.unit (s := S512x128) ![0, 0] S512x128.size inb_S512x128_S512x128_0_0).toLoadRect (View.loadsAt_vmem h_S512x128))
  Prog.lift (.store arg18 (Rect.unit (s := S512x128) ![0, 0] S512x128.size inb_S512x128_S512x128_0_0) (k0_pay49 (k0_pay48 mold mb)) Finset.univ (View.stores_vmem_bits_univ h_S512x128 rfl) (.inl rfl))
  let sb : Vec F S512x1280 .f32 ← Prog.lift (.load arg11 (Rect.unit (s := S512x1280) ![0, 0] S512x1280.size inb_S512x1280_S512x1280_0_0).toLoadRect (View.loadsAt_vmem h_S512x1280))
  let _d4 : Vec F S512x1280 .bf16 ← Prog.lift (.load arg15 (Rect.unit (s := S512x1280) ![0, 0] S512x1280.size inb_S512x1280_S512x1280_0_0).toLoadRect (View.loadsAt_vmem h_S512x1280))
  Prog.lift (.store arg15 (Rect.unit (s := S512x1280) ![0, 0] S512x1280.size inb_S512x1280_S512x1280_0_0) (k0_pay50 (k0_pay47 mold mb) sb) Finset.univ (View.stores_vmem h_S512x1280 (harg15.storeExact_slice rfl _ packedbf16_S512x1280_S512x1280_0_0) (fun _ => rfl)) (.inl rfl))
  let _d5 : Vec F S1x512x128 .f32 ← Prog.lift (.load arg8 (Rect.unit (s := S16x512x128) (k0_off4 (BitVec.ofNat 32 u.val)) S1x512x128.size (k0_off4_inb u)).toLoadRect (View.loadsAt_vmem h_S1x512x128))
  Prog.lift (.store arg8 (Rect.unit (s := S16x512x128) (k0_off4 (BitVec.ofNat 32 u.val)) S1x512x128.size (k0_off4_inb u)) (k0_pay51 (k0_pay47 mold mb)) Finset.univ (View.stores_vmem_bits_univ h_S1x512x128 rfl) (.inl rfl))

/-- The second half: its second component's scores, the head before's second component gathered, its own first component's
    weights, and its values kept for the next. -/
def headB (u : Fin 8) : Prog (TpuEff nD τ sig (Elt F) Λ₀ .tc) PUnit := do
  let q1 : Vec F S512x128 .f32 ← Prog.lift (.load arg2 (Rect.unit (s := S512x1024) (k0_off1 (BitVec.ofNat 32 u.val)) S512x128.size (k0_off1_inb u)).toLoadRect (View.loadsAt_vmem h_S512x128))
  let k1 : Vec F S1280x128 .bf16 ← Prog.lift (.load arg3 (Rect.unit (s := S1280x1024) (k0_off2 (BitVec.ofNat 32 u.val)) S1280x128.size (k0_off2_inb u)).toLoadRect (View.loadsAt_vmem h_S1280x128))
  let _d0 : Vec F S512x1280 .f32 ← Prog.lift (.load arg11 (Rect.unit (s := S512x1280) ![0, 0] S512x1280.size inb_S512x1280_S512x1280_0_0).toLoadRect (View.loadsAt_vmem h_S512x1280))
  Prog.lift (.store arg11 (Rect.unit (s := S512x1280) ![0, 0] S512x1280.size inb_S512x1280_S512x1280_0_0) (k0_pay53 (score1 q1 k1)) Finset.univ (View.stores_vmem_bits_univ h_S512x1280 rfl) (.inl rfl))
  let _d1 : Vec F S512x128 .f32 ← Prog.lift (.load arg13 (Rect.unit (s := S512x128) ![0, 0] S512x128.size inb_S512x128_S512x128_0_0).toLoadRect (View.loadsAt_vmem h_S512x128))
  Prog.lift (.store arg13 (Rect.unit (s := S512x128) ![0, 0] S512x128.size inb_S512x128_S512x128_0_0) (k0_pay54 (score1 q1 k1)) Finset.univ (View.stores_vmem_bits_univ h_S512x128 rfl) (.inl rfl))
  let pb : Vec F S512x1280 .bf16 ← Prog.lift (.load arg15 (Rect.unit (s := S512x1280) ![0, 0] S512x1280.size inb_S512x1280_S512x1280_0_0).toLoadRect (View.loadsAt_vmem h_S512x1280))
  let vp : Vec F S1280x128 .bf16 ← Prog.lift (.load arg16 (Rect.unit (s := S1280x128) ![0, 0] S1280x128.size inb_S1280x128_S1280x128_0_0).toLoadRect (View.loadsAt_vmem h_S1280x128))
  let ab : Vec F S512x128 .f32 ← Prog.lift (.load arg18 (Rect.unit (s := S512x128) ![0, 0] S512x128.size inb_S512x128_S512x128_0_0).toLoadRect (View.loadsAt_vmem h_S512x128))
  let acc : Vec F S1x512x256 .f32 ← Prog.lift (.load arg9 (Rect.unit (s := S16x512x256) (k0_off3 (BitVec.ofNat 32 u.val) 1#32) S1x512x256.size (k0_off3_inb u 1)).toLoadRect (View.loadsAt_vmem h_S1x512x256))
  let _d2 : Vec F S1x512x256 .f32 ← Prog.lift (.load arg9 (Rect.unit (s := S16x512x256) (k0_off3 (BitVec.ofNat 32 u.val) 1#32) S1x512x256.size (k0_off3_inb u 1)).toLoadRect (View.loadsAt_vmem h_S1x512x256))
  Prog.lift (.store arg9 (Rect.unit (s := S16x512x256) (k0_off3 (BitVec.ofNat 32 u.val) 1#32) S1x512x256.size (k0_off3_inb u 1)) (k0_pay55 k0_pay41 pb vp ab acc) Finset.univ (View.stores_vmem_bits_univ h_S1x512x256 rfl) (.inl rfl))
  let mold : Vec F S1x512x128 .f32 ← Prog.lift (.load arg8 (Rect.unit (s := S16x512x128) (k0_off5 (BitVec.ofNat 32 u.val)) S1x512x128.size (k0_off5_inb u)).toLoadRect (View.loadsAt_vmem h_S1x512x128))
  let ma : Vec F S512x128 .f32 ← Prog.lift (.load arg12 (Rect.unit (s := S512x128) ![0, 0] S512x128.size inb_S512x128_S512x128_0_0).toLoadRect (View.loadsAt_vmem h_S512x128))
  let _d3 : Vec F S512x128 .f32 ← Prog.lift (.load arg17 (Rect.unit (s := S512x128) ![0, 0] S512x128.size inb_S512x128_S512x128_0_0).toLoadRect (View.loadsAt_vmem h_S512x128))
  Prog.lift (.store arg17 (Rect.unit (s := S512x128) ![0, 0] S512x128.size inb_S512x128_S512x128_0_0) (k0_pay59 (k0_pay58 mold ma)) Finset.univ (View.stores_vmem_bits_univ h_S512x128 rfl) (.inl rfl))
  let sa : Vec F S512x1280 .f32 ← Prog.lift (.load arg10 (Rect.unit (s := S512x1280) ![0, 0] S512x1280.size inb_S512x1280_S512x1280_0_0).toLoadRect (View.loadsAt_vmem h_S512x1280))
  let _d4 : Vec F S512x1280 .bf16 ← Prog.lift (.load arg14 (Rect.unit (s := S512x1280) ![0, 0] S512x1280.size inb_S512x1280_S512x1280_0_0).toLoadRect (View.loadsAt_vmem h_S512x1280))
  Prog.lift (.store arg14 (Rect.unit (s := S512x1280) ![0, 0] S512x1280.size inb_S512x1280_S512x1280_0_0) (k0_pay60 (k0_pay57 mold ma) sa) Finset.univ (View.stores_vmem h_S512x1280 (harg14.storeExact_slice rfl _ packedbf16_S512x1280_S512x1280_0_0) (fun _ => rfl)) (.inl rfl))
  let _d5 : Vec F S1x512x128 .f32 ← Prog.lift (.load arg8 (Rect.unit (s := S16x512x128) (k0_off5 (BitVec.ofNat 32 u.val)) S1x512x128.size (k0_off5_inb u)).toLoadRect (View.loadsAt_vmem h_S1x512x128))
  Prog.lift (.store arg8 (Rect.unit (s := S16x512x128) (k0_off5 (BitVec.ofNat 32 u.val)) S1x512x128.size (k0_off5_inb u)) (k0_pay61 (k0_pay57 mold ma)) Finset.univ (View.stores_vmem_bits_univ h_S1x512x128 rfl) (.inl rfl))
  let v : Vec F S1280x128 .bf16 ← Prog.lift (.load arg4 (Rect.unit (s := S1280x1024) (k0_off2 (BitVec.ofNat 32 u.val)) S1280x128.size (k0_off2_inb u)).toLoadRect (View.loadsAt_vmem h_S1280x128))
  let _d6 : Vec F S1280x128 .bf16 ← Prog.lift (.load arg16 (Rect.unit (s := S1280x128) ![0, 0] S1280x128.size inb_S1280x128_S1280x128_0_0).toLoadRect (View.loadsAt_vmem h_S1280x128))
  Prog.lift (.store arg16 (Rect.unit (s := S1280x128) ![0, 0] S1280x128.size inb_S1280x128_S1280x128_0_0) (k0_pay62 v) Finset.univ (View.stores_vmem h_S1280x128 (harg16.storeExact_slice rfl _ packedbf16_S1280x128_S1280x128_0_0) (fun _ => rfl)) (.inl rfl))

/-- The first block, run at the first tile of keys: the state set to nothing seen. -/
def initP : Prog (TpuEff nD τ sig (Elt F) Λ₀ .tc) PUnit := do
  let _ : Vec F S16x512x128 .f32 ← Prog.lift (.load arg8 (Rect.unit (s := S16x512x128) ![0, 0, 0] S16x512x128.size inb_S16x512x128_S16x512x128_0_0_0).toLoadRect (View.loadsAt_vmem h_S16x512x128))
  Prog.lift (.store arg8 (Rect.unit (s := S16x512x128) ![0, 0, 0] S16x512x128.size inb_S16x512x128_S16x512x128_0_0_0) (k0_pay34 (F := F)) Finset.univ (View.stores_vmem_bits_univ h_S16x512x128 rfl) (.inl rfl))
  let _ : Vec F S16x512x256 .f32 ← Prog.lift (.load arg9 (Rect.unit (s := S16x512x256) ![0, 0, 0] S16x512x256.size inb_S16x512x256_S16x512x256_0_0_0).toLoadRect (View.loadsAt_vmem h_S16x512x256))
  Prog.lift (.store arg9 (Rect.unit (s := S16x512x256) ![0, 0, 0] S16x512x256.size inb_S16x512x256_S16x512x256_0_0_0) (k0_pay35 (F := F)) Finset.univ (View.stores_vmem_bits_univ h_S16x512x256 rfl) (.inl rfl))
  let _ : Vec F S512x1280 .bf16 ← Prog.lift (.load arg14 (Rect.unit (s := S512x1280) ![0, 0] S512x1280.size inb_S512x1280_S512x1280_0_0).toLoadRect (View.loadsAt_vmem h_S512x1280))
  Prog.lift (.store arg14 (Rect.unit (s := S512x1280) ![0, 0] S512x1280.size inb_S512x1280_S512x1280_0_0) (k0_pay36 (F := F)) Finset.univ (View.stores_vmem h_S512x1280 (harg14.storeExact_slice rfl _ packedbf16_S512x1280_S512x1280_0_0) (fun _ => rfl)) (.inl rfl))
  let _ : Vec F S512x128 .f32 ← Prog.lift (.load arg17 (Rect.unit (s := S512x128) ![0, 0] S512x128.size inb_S512x128_S512x128_0_0).toLoadRect (View.loadsAt_vmem h_S512x128))
  Prog.lift (.store arg17 (Rect.unit (s := S512x128) ![0, 0] S512x128.size inb_S512x128_S512x128_0_0) (k0_pay37 (F := F)) Finset.univ (View.stores_vmem_bits_univ h_S512x128 rfl) (.inl rfl))
  let _ : Vec F S512x1280 .f32 ← Prog.lift (.load arg11 (Rect.unit (s := S512x1280) ![0, 0] S512x1280.size inb_S512x1280_S512x1280_0_0).toLoadRect (View.loadsAt_vmem h_S512x1280))
  Prog.lift (.store arg11 (Rect.unit (s := S512x1280) ![0, 0] S512x1280.size inb_S512x1280_S512x1280_0_0) (k0_pay38 (F := F)) Finset.univ (View.stores_vmem_bits_univ h_S512x1280 rfl) (.inl rfl))
  let _ : Vec F S512x128 .f32 ← Prog.lift (.load arg13 (Rect.unit (s := S512x128) ![0, 0] S512x128.size inb_S512x128_S512x128_0_0).toLoadRect (View.loadsAt_vmem h_S512x128))
  Prog.lift (.store arg13 (Rect.unit (s := S512x128) ![0, 0] S512x128.size inb_S512x128_S512x128_0_0) (k0_pay39 (F := F)) Finset.univ (View.stores_vmem_bits_univ h_S512x128 rfl) (.inl rfl))
  let _ : Vec F S1280x128 .bf16 ← Prog.lift (.load arg16 (Rect.unit (s := S1280x128) ![0, 0] S1280x128.size inb_S1280x128_S1280x128_0_0).toLoadRect (View.loadsAt_vmem h_S1280x128))
  Prog.lift (.store arg16 (Rect.unit (s := S1280x128) ![0, 0] S1280x128.size inb_S1280x128_S1280x128_0_0) (k0_pay40 (F := F)) Finset.univ (View.stores_vmem h_S1280x128 (harg16.storeExact_slice rfl _ packedbf16_S1280x128_S1280x128_0_0) (fun _ => rfl)) (.inl rfl))

/-- Head `u`'s steps. -/
def headP (u : Fin 8) : Prog (TpuEff nD τ sig (Elt F) Λ₀ .tc) PUnit := do
  headA arg2 arg3 arg8 arg9 arg10 arg11 arg12 arg13 arg14 arg15 harg15 arg16 arg17 arg18 u
  headB arg2 arg3 arg4 arg8 arg9 arg10 arg11 arg12 arg13 arg14 harg14 arg15 arg16 harg16 arg17 arg18 u

/-- The offsets of accumulator `r`. -/
abbrev offAcc (r : Fin 16) : Fin 3 → Nat := ![r.val, 0, 0]
theorem offAcc_inb (r : Fin 16) : ∀ a, offAcc r a + S1x512x256.size a ≤ S16x512x256.size a := by revert r; decide
/-- The offsets of head `u`'s columns in the result's block. -/
abbrev offOut (u : Fin 8) : Fin 2 → Nat := ![0, 128 * u.val]
theorem offOut_inb (u : Fin 8) : ∀ a, offOut u a + S512x128.size a ≤ S512x1024.size a := by revert u; decide
theorem packed_out : ∀ u : Fin 8, (Rect.unit (s := S512x1024) (offOut u) S512x128.size (offOut_inb u)).PackedRows (EltTy.packing .bf16) := by decide

/-- At the last tile, first what is still owed of head 7: its first component gathered, its second component's weights,
    its second component gathered. -/
def lastP : Prog (TpuEff nD τ sig (Elt F) Λ₀ .tc) PUnit := do
  let pa : Vec F S512x1280 .bf16 ← Prog.lift (.load arg14 (Rect.unit (s := S512x1280) ![0, 0] S512x1280.size inb_S512x1280_S512x1280_0_0).toLoadRect (View.loadsAt_vmem h_S512x1280))
  let vp : Vec F S1280x128 .bf16 ← Prog.lift (.load arg16 (Rect.unit (s := S1280x128) ![0, 0] S1280x128.size inb_S1280x128_S1280x128_0_0).toLoadRect (View.loadsAt_vmem h_S1280x128))
  let aa : Vec F S512x128 .f32 ← Prog.lift (.load arg17 (Rect.unit (s := S512x128) ![0, 0] S512x128.size inb_S512x128_S512x128_0_0).toLoadRect (View.loadsAt_vmem h_S512x128))
  let acc : Vec F S1x512x256 .f32 ← Prog.lift (.load arg9 (Rect.unit (s := S16x512x256) ![14, 0, 0] S1x512x256.size inb_S16x512x256_S1x512x256_14_0_0).toLoadRect (View.loadsAt_vmem h_S1x512x256))
  let _d2 : Vec F S1x512x256 .f32 ← Prog.lift (.load arg9 (Rect.unit (s := S16x512x256) ![14, 0, 0] S1x512x256.size inb_S16x512x256_S1x512x256_14_0_0).toLoadRect (View.loadsAt_vmem h_S1x512x256))
  Prog.lift (.store arg9 (Rect.unit (s := S16x512x256) ![14, 0, 0] S1x512x256.size inb_S16x512x256_S1x512x256_14_0_0) (k0_pay45 k0_pay41 pa vp aa acc) Finset.univ (View.stores_vmem_bits_univ h_S1x512x256 rfl) (.inl rfl))
  let mold : Vec F S1x512x128 .f32 ← Prog.lift (.load arg8 (Rect.unit (s := S16x512x128) ![15, 0, 0] S1x512x128.size inb_S16x512x128_S1x512x128_15_0_0).toLoadRect (View.loadsAt_vmem h_S1x512x128))
  let mb : Vec F S512x128 .f32 ← Prog.lift (.load arg13 (Rect.unit (s := S512x128) ![0, 0] S512x128.size inb_S512x128_S512x128_0_0).toLoadRect (View.loadsAt_vmem h_S512x128))
  let _d3 : Vec F S512x128 .f32 ← Prog.lift (.load arg18 (Rect.unit (s := S512x128) ![0, 0] S512x128.size inb_S512x128_S512x128_0_0).toLoadRect (View.loadsAt_vmem h_S512x128))
  Prog.lift (.store arg18 (Rect.unit (s := S512x128) ![0, 0] S512x128.size inb_S512x128_S512x128_0_0) (k0_pay49 (k0_pay48 mold mb)) Finset.univ (View.stores_vmem_bits_univ h_S512x128 rfl) (.inl rfl))
  let sb : Vec F S512x1280 .f32 ← Prog.lift (.load arg11 (Rect.unit (s := S512x1280) ![0, 0] S512x1280.size inb_S512x1280_S512x1280_0_0).toLoadRect (View.loadsAt_vmem h_S512x1280))
  let _d4 : Vec F S512x1280 .bf16 ← Prog.lift (.load arg15 (Rect.unit (s := S512x1280) ![0, 0] S512x1280.size inb_S512x1280_S512x1280_0_0).toLoadRect (View.loadsAt_vmem h_S512x1280))
  Prog.lift (.store arg15 (Rect.unit (s := S512x1280) ![0, 0] S512x1280.size inb_S512x1280_S512x1280_0_0) (k0_pay50 (k0_pay47 mold mb) sb) Finset.univ (View.stores_vmem h_S512x1280 (harg15.storeExact_slice rfl _ packedbf16_S512x1280_S512x1280_0_0) (fun _ => rfl)) (.inl rfl))
  let _d5 : Vec F S1x512x128 .f32 ← Prog.lift (.load arg8 (Rect.unit (s := S16x512x128) ![15, 0, 0] S1x512x128.size inb_S16x512x128_S1x512x128_15_0_0).toLoadRect (View.loadsAt_vmem h_S1x512x128))
  Prog.lift (.store arg8 (Rect.unit (s := S16x512x128) ![15, 0, 0] S1x512x128.size inb_S16x512x128_S1x512x128_15_0_0) (k0_pay51 (k0_pay47 mold mb)) Finset.univ (View.stores_vmem_bits_univ h_S1x512x128 rfl) (.inl rfl))
  let pb : Vec F S512x1280 .bf16 ← Prog.lift (.load arg15 (Rect.unit (s := S512x1280) ![0, 0] S512x1280.size inb_S512x1280_S512x1280_0_0).toLoadRect (View.loadsAt_vmem h_S512x1280))
  let vp' : Vec F S1280x128 .bf16 ← Prog.lift (.load arg16 (Rect.unit (s := S1280x128) ![0, 0] S1280x128.size inb_S1280x128_S1280x128_0_0).toLoadRect (View.loadsAt_vmem h_S1280x128))
  let ab : Vec F S512x128 .f32 ← Prog.lift (.load arg18 (Rect.unit (s := S512x128) ![0, 0] S512x128.size inb_S512x128_S512x128_0_0).toLoadRect (View.loadsAt_vmem h_S512x128))
  let acc' : Vec F S1x512x256 .f32 ← Prog.lift (.load arg9 (Rect.unit (s := S16x512x256) ![15, 0, 0] S1x512x256.size inb_S16x512x256_S1x512x256_15_0_0).toLoadRect (View.loadsAt_vmem h_S1x512x256))
  let _d6 : Vec F S1x512x256 .f32 ← Prog.lift (.load arg9 (Rect.unit (s := S16x512x256) ![15, 0, 0] S1x512x256.size inb_S16x512x256_S1x512x256_15_0_0).toLoadRect (View.loadsAt_vmem h_S1x512x256))
  Prog.lift (.store arg9 (Rect.unit (s := S16x512x256) ![15, 0, 0] S1x512x256.size inb_S16x512x256_S1x512x256_15_0_0) (k0_pay55 k0_pay41 pb vp' ab acc') Finset.univ (View.stores_vmem_bits_univ h_S1x512x256 rfl) (.inl rfl))

/-- Then head `u`'s result, from its two accumulators. -/
def outP (lam : FVec F S1x1 .f32) (u : Fin 8) : Prog (TpuEff nD τ sig (Elt F) Λ₀ .tc) PUnit := do
  let a0 : Vec F S1x512x256 .f32 ← Prog.lift (.load arg9 (Rect.unit (s := S16x512x256) (offAcc ⟨2 * u.val, by omega⟩) S1x512x256.size (offAcc_inb ⟨2 * u.val, by omega⟩)).toLoadRect (View.loadsAt_vmem h_S1x512x256))
  let a1 : Vec F S1x512x256 .f32 ← Prog.lift (.load arg9 (Rect.unit (s := S16x512x256) (offAcc ⟨2 * u.val + 1, by omega⟩) S1x512x256.size (offAcc_inb ⟨2 * u.val + 1, by omega⟩)).toLoadRect (View.loadsAt_vmem h_S1x512x256))
  let g : Vec F S1x128 .f32 ← Prog.lift (.load arg6 (Rect.unit (s := S1x128) ![0, 0] S1x128.size inb_S1x128_S1x128_0_0).toLoadRect (View.loadsAt_vmem h_S1x128))
  let _d : Vec F S512x128 .bf16 ← Prog.lift (.load arg7 (Rect.unit (s := S512x1024) (offOut u) S512x128.size (offOut_inb u)).toLoadRect (View.loadsAt_vmem h_S512x128))
  Prog.lift (.store arg7 (Rect.unit (s := S512x1024) (offOut u) S512x128.size (offOut_inb u)) (k0_pay14 lam (k0_pay13 a0) a1 g) Finset.univ (View.stores_vmem h_S512x128 (harg7.storeExact_slice rfl _ (packed_out u)) (fun _ => rfl)) (.inl rfl))

/-- The eight heads' results, with the learned weight computed once. -/
def outsP : Prog (TpuEff nD τ sig (Elt F) Λ₀ .tc) PUnit := do
  let rows : Vec F S8x64 .f32 ← Prog.lift (.load arg5 (Rect.unit (s := S8x64) ![0, 0] S8x64.size inb_S8x64_S8x64_0_0).toLoadRect (View.loadsAt_vmem h_S8x64))
  outP arg6 arg7 harg7 arg9 (k0_pay12 rows) 0
  outP arg6 arg7 harg7 arg9 (k0_pay12 rows) 1
  outP arg6 arg7 harg7 arg9 (k0_pay12 rows) 2
  outP arg6 arg7 harg7 arg9 (k0_pay12 rows) 3
  outP arg6 arg7 harg7 arg9 (k0_pay12 rows) 4
  outP arg6 arg7 harg7 arg9 (k0_pay12 rows) 5
  outP arg6 arg7 harg7 arg9 (k0_pay12 rows) 6
  outP arg6 arg7 harg7 arg9 (k0_pay12 rows) 7

/-- The whole body. -/
def bodyP : Prog (TpuEff nD τ sig (Elt F) Λ₀ .tc) PUnit := do
  if k0_cond1 i = 1#1 then initP arg8 arg9 arg11 arg13 arg14 harg14 arg16 harg16 arg17 else pure ⟨⟩
  headP arg2 arg3 arg4 arg8 arg9 arg10 arg11 arg12 arg13 arg14 harg14 arg15 harg15 arg16 harg16 arg17 arg18 0
  headP arg2 arg3 arg4 arg8 arg9 arg10 arg11 arg12 arg13 arg14 harg14 arg15 harg15 arg16 harg16 arg17 arg18 1
  headP arg2 arg3 arg4 arg8 arg9 arg10 arg11 arg12 arg13 arg14 harg14 arg15 harg15 arg16 harg16 arg17 arg18 2
  headP arg2 arg3 arg4 arg8 arg9 arg10 arg11 arg12 arg13 arg14 harg14 arg15 harg15 arg16 harg16 arg17 arg18 3
  headP arg2 arg3 arg4 arg8 arg9 arg10 arg11 arg12 arg13 arg14 harg14 arg15 harg15 arg16 harg16 arg17 arg18 4
  headP arg2 arg3 arg4 arg8 arg9 arg10 arg11 arg12 arg13 arg14 harg14 arg15 harg15 arg16 harg16 arg17 arg18 5
  headP arg2 arg3 arg4 arg8 arg9 arg10 arg11 arg12 arg13 arg14 harg14 arg15 harg15 arg16 harg16 arg17 arg18 6
  headP arg2 arg3 arg4 arg8 arg9 arg10 arg11 arg12 arg13 arg14 harg14 arg15 harg15 arg16 harg16 arg17 arg18 7
  if k0_cond2 i = 1#1 then do
    lastP arg8 arg9 arg11 arg13 arg14 arg15 harg15 arg16 arg17 arg18
    outsP arg5 arg6 arg7 harg7 arg9
  else pure ⟨⟩

set_option maxRecDepth 65536 in
set_option maxHeartbeats 600000 in
/-- The printed body is that. -/
theorem body_eq : cc0_diff_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    = bodyP (F := F) i arg2 arg3 arg4 arg5 arg6 arg7 harg7 arg8 arg9 arg10 arg11 arg12 arg13 arg14 harg14 arg15 harg15 arg16 harg16 arg17 arg18 := by
  rw [cc0_diff_attention_eq_skeleton]
  unfold cc0_diff_attention_skel bodyP
  simp only [k0_part43_eq_skeleton, k0_part43_skel, k0_part42_eq_skeleton, k0_part42_skel, k0_part41_eq_skeleton, k0_part41_skel, k0_part40_eq_skeleton, k0_part40_skel, k0_part39_eq_skeleton, k0_part39_skel, k0_part38_eq_skeleton, k0_part38_skel, k0_part37_eq_skeleton, k0_part37_skel, k0_part36_eq_skeleton, k0_part36_skel, k0_part35_eq_skeleton, k0_part35_skel, k0_part34_eq_skeleton, k0_part34_skel, k0_part33_eq_skeleton, k0_part33_skel, k0_part32_eq_skeleton, k0_part32_skel, k0_part31_eq_skeleton, k0_part31_skel, k0_part30_eq_skeleton, k0_part30_skel, k0_part29_eq_skeleton, k0_part29_skel, k0_part28_eq_skeleton, k0_part28_skel, k0_part27_eq_skeleton, k0_part27_skel, k0_part26_eq_skeleton, k0_part26_skel, k0_part25_eq_skeleton, k0_part25_skel, k0_part24_eq_skeleton, k0_part24_skel, k0_part23_eq_skeleton, k0_part23_skel, k0_part22_eq_skeleton, k0_part22_skel, k0_part21_eq_skeleton, k0_part21_skel, k0_part20_eq_skeleton, k0_part20_skel, k0_part19_eq_skeleton, k0_part19_skel, k0_part18_eq_skeleton, k0_part18_skel, k0_part17_eq_skeleton, k0_part17_skel, k0_part16_eq_skeleton, k0_part16_skel, k0_part15_eq_skeleton, k0_part15_skel, k0_part14_eq_skeleton, k0_part14_skel, k0_part13_eq_skeleton, k0_part13_skel, k0_part12_eq_skeleton, k0_part12_skel, k0_part11_eq_skeleton, k0_part11_skel, k0_part10_eq_skeleton, k0_part10_skel, k0_part9_eq_skeleton, k0_part9_skel]
  by_cases h1 : k0_cond1 i = 1#1 <;> by_cases h2 : k0_cond2 i = 1#1
  all_goals have h1' := h1
  all_goals unfold k0_cond1 at h1'
  all_goals simp only [h1, h1', h2, ↓reduceIte, ↓reduceDIte]
  all_goals clear h1 h1' h2
  all_goals unfold headP
  all_goals simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel,
    initP, headA, headB, lastP, outsP, outP, Prog.bind_assoc, Prog.lift, Prog.bind_op, Prog.bind_ret, Prog.pure_eq_ret]
  all_goals rfl

end

end Cert.Proof.KernelIdeal

end
-- ==== Proof.HeadRun.lean ====
/-
  The heads' programs run. The buffers the body keeps from head to head and from tile to tile are one record (`St`), and each
  program takes the record to the next one: `stepA`, `stepB` the two halves of a head, `initSt` the first block,
  `stepLast` what the last tile still owes, `outAll` the eight heads' columns of the result's block.
-/
module

public import proofs.«01_k».proof.Proof.Heads
public import proofs.«01_k».proof.Proof.Gen.KernelIdeal.Frame
public import Idealize.ShloMosaic.Lib.VecWindow
public import Idealize.ShloMosaic.Lib.Exec

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the body carries from head to head and from tile to tile. -/
structure St (F : FTy → Type) where
  m : Vec F S16x512x128 .f32
  acc : Vec F S16x512x256 .f32
  sa : Vec F S512x1280 .f32
  sb : Vec F S512x1280 .f32
  ma : Vec F S512x128 .f32
  mb : Vec F S512x128 .f32
  pa : Vec F S512x1280 .bf16
  pb : Vec F S512x1280 .bf16
  vp : Vec F S1280x128 .bf16
  aa : Vec F S512x128 .f32
  ab : Vec F S512x128 .f32

/-- Head `u`'s columns of the block of queries, -/
def qOf (x : Vec F S512x1024 .f32) (u : Fin 8) : Vec F S512x128 .f32 :=
  VecWindow.window x (k0_off1 (BitVec.ofNat 32 u.val)) S512x128.size (k0_off1_inb u)
/-- of a tile of keys or values. -/
def kOf (x : Vec F S1280x1024 .bf16) (u : Fin 8) : Vec F S1280x128 .bf16 :=
  VecWindow.window x (k0_off2 (BitVec.ofNat 32 u.val)) S1280x128.size (k0_off2_inb u)
/-- The running maxima at given offsets, -/
def mAt (x : Vec F S16x512x128 .f32) (off : Fin 3 → ℕ) (inb : ∀ a, off a + S1x512x128.size a ≤ S16x512x128.size a) : Vec F S1x512x128 .f32 :=
  VecWindow.window x off S1x512x128.size inb
/-- and the accumulators. -/
def accAt (x : Vec F S16x512x256 .f32) (off : Fin 3 → ℕ) (inb : ∀ a, off a + S1x512x256.size a ≤ S16x512x256.size a) : Vec F S1x512x256 .f32 :=
  VecWindow.window x off S1x512x256.size inb

/-- The first half of head `u`. -/
def stepA (u : Fin 8) (q : Vec F S512x1024 .f32) (k : Vec F S1280x1024 .bf16) (S : St F) : St F :=
  { S with
    sa := k0_pay43 (score0 (qOf q u) (kOf k u))
    ma := k0_pay44 (score0 (qOf q u) (kOf k u))
    acc := VecWindow.put S.acc (k0_off3 (BitVec.ofNat 32 u.val) 0#32) S1x512x256.size
      (k0_pay45 k0_pay41 S.pa S.vp S.aa (accAt S.acc (k0_off3 (BitVec.ofNat 32 u.val) 0#32) (k0_off3_inb u 0)))
    ab := k0_pay49 (k0_pay48 (mAt S.m (k0_off4 (BitVec.ofNat 32 u.val)) (k0_off4_inb u)) S.mb)
    pb := k0_pay50 (k0_pay47 (mAt S.m (k0_off4 (BitVec.ofNat 32 u.val)) (k0_off4_inb u)) S.mb) S.sb
    m := VecWindow.put S.m (k0_off4 (BitVec.ofNat 32 u.val)) S1x512x128.size
      (k0_pay51 (k0_pay47 (mAt S.m (k0_off4 (BitVec.ofNat 32 u.val)) (k0_off4_inb u)) S.mb)) }

/-- The second half. -/
def stepB (u : Fin 8) (q : Vec F S512x1024 .f32) (k v : Vec F S1280x1024 .bf16) (S : St F) : St F :=
  { S with
    sb := k0_pay53 (score1 (qOf q u) (kOf k u))
    mb := k0_pay54 (score1 (qOf q u) (kOf k u))
    acc := VecWindow.put S.acc (k0_off3 (BitVec.ofNat 32 u.val) 1#32) S1x512x256.size
      (k0_pay55 k0_pay41 S.pb S.vp S.ab (accAt S.acc (k0_off3 (BitVec.ofNat 32 u.val) 1#32) (k0_off3_inb u 1)))
    aa := k0_pay59 (k0_pay58 (mAt S.m (k0_off5 (BitVec.ofNat 32 u.val)) (k0_off5_inb u)) S.ma)
    pa := k0_pay60 (k0_pay57 (mAt S.m (k0_off5 (BitVec.ofNat 32 u.val)) (k0_off5_inb u)) S.ma) S.sa
    m := VecWindow.put S.m (k0_off5 (BitVec.ofNat 32 u.val)) S1x512x128.size
      (k0_pay61 (k0_pay57 (mAt S.m (k0_off5 (BitVec.ofNat 32 u.val)) (k0_off5_inb u)) S.ma))
    vp := k0_pay62 (kOf v u) }

/-- Head `u`. -/
def stepHead (u : Fin 8) (q : Vec F S512x1024 .f32) (k v : Vec F S1280x1024 .bf16) (S : St F) : St F :=
  stepB u q k v (stepA u q k S)

/-- The first block. -/
def initSt (S : St F) : St F :=
  { S with m := k0_pay34, acc := k0_pay35, pa := k0_pay36, aa := k0_pay37, sb := k0_pay38, mb := k0_pay39, vp := k0_pay40 }

/-- What the last tile still owes of head 7. -/
def stepLast (S : St F) : St F :=
  let mn := k0_pay47 (mAt S.m ![15, 0, 0] inb_S16x512x128_S1x512x128_15_0_0) S.mb
  let al := k0_pay49 (k0_pay48 (mAt S.m ![15, 0, 0] inb_S16x512x128_S1x512x128_15_0_0) S.mb)
  let a := VecWindow.put S.acc ![14, 0, 0] S1x512x256.size
    (k0_pay45 k0_pay41 S.pa S.vp S.aa (accAt S.acc ![14, 0, 0] inb_S16x512x256_S1x512x256_14_0_0))
  { S with
    ab := al
    pb := k0_pay50 mn S.sb
    m := VecWindow.put S.m ![15, 0, 0] S1x512x128.size (k0_pay51 mn)
    acc := VecWindow.put a ![15, 0, 0] S1x512x256.size
      (k0_pay55 k0_pay41 (k0_pay50 mn S.sb) S.vp al (accAt a ![15, 0, 0] inb_S16x512x256_S1x512x256_15_0_0)) }

/-- Head `u`'s columns of the result. -/
def outHead (lam : FVec F S1x1 .f32) (acc : Vec F S16x512x256 .f32) (g : Vec F S1x128 .f32) (u : Fin 8) : FVec F S512x128 .bf16 :=
  k0_pay14 lam (k0_pay13 (accAt acc (offAcc ⟨2 * u.val, by omega⟩) (offAcc_inb ⟨2 * u.val, by omega⟩)))
    (accAt acc (offAcc ⟨2 * u.val + 1, by omega⟩) (offAcc_inb ⟨2 * u.val + 1, by omega⟩)) g

/-- The result's block with head `u`'s columns written. -/
def outStep (lam : FVec F S1x1 .f32) (acc : Vec F S16x512x256 .f32) (g : Vec F S1x128 .f32) (u : Fin 8) (o : Vec F S512x1024 .bf16) : Vec F S512x1024 .bf16 :=
  VecWindow.put o (offOut u) S512x128.size (outHead lam acc g u)

section
variable (c : Dev nD) (E : Set ℕ) (arg2 : Memref sig .tc .vmem S512x1024 .f32) (arg3 : Memref sig .tc .vmem S1280x1024 .bf16) (arg4 : Memref sig .tc .vmem S1280x1024 .bf16) (arg5 : Memref sig .tc .vmem S8x64 .f32) (arg6 : Memref sig .tc .vmem S1x128 .f32) (arg7 : Memref sig .tc .vmem S512x1024 .bf16) (harg7 : arg7.IsWhole) (arg8 : Memref sig .tc .vmem S16x512x128 .f32) (arg9 : Memref sig .tc .vmem S16x512x256 .f32) (arg10 : Memref sig .tc .vmem S512x1280 .f32) (arg11 : Memref sig .tc .vmem S512x1280 .f32) (arg12 : Memref sig .tc .vmem S512x128 .f32) (arg13 : Memref sig .tc .vmem S512x128 .f32) (arg14 : Memref sig .tc .vmem S512x1280 .bf16) (harg14 : arg14.IsWhole) (arg15 : Memref sig .tc .vmem S512x1280 .bf16) (harg15 : arg15.IsWhole) (arg16 : Memref sig .tc .vmem S1280x128 .bf16) (harg16 : arg16.IsWhole) (arg17 : Memref sig .tc .vmem S512x128 .f32) (arg18 : Memref sig .tc .vmem S512x128 .f32)

/-- The record held in its eleven buffers. -/
def held (S : St F) : sProp 𝕄 :=
  iprop(owns (c : Thread nD τ) arg8 fullShare S.m ∗ owns (c : Thread nD τ) arg9 fullShare S.acc ∗ owns (c : Thread nD τ) arg10 fullShare S.sa ∗ owns (c : Thread nD τ) arg11 fullShare S.sb ∗ owns (c : Thread nD τ) arg12 fullShare S.ma ∗ owns (c : Thread nD τ) arg13 fullShare S.mb ∗ owns (c : Thread nD τ) arg14 fullShare S.pa ∗ owns (c : Thread nD τ) arg15 fullShare S.pb ∗ owns (c : Thread nD τ) arg16 fullShare S.vp ∗ owns (c : Thread nD τ) arg17 fullShare S.aa ∗ owns (c : Thread nD τ) arg18 fullShare S.ab)

set_option maxHeartbeats 2000000 in
/-- The first half of a head runs `stepA`. -/
theorem headA_sound (u : Fin 8) (x2 : Vec F S512x1024 .f32) (x3 : Vec F S1280x1024 .bf16) (S : St F) (K : PUnit → sProp 𝕄) :
    iprop(owns (c : Thread nD τ) arg2 fullShare x2 ∗ owns (c : Thread nD τ) arg3 fullShare x3
      ∗ held c arg8 arg9 arg10 arg11 arg12 arg13 arg14 arg15 arg16 arg17 arg18 S
      ∗ (iprop(owns (c : Thread nD τ) arg2 fullShare x2 ∗ owns (c : Thread nD τ) arg3 fullShare x3 ∗ held c arg8 arg9 arg10 arg11 arg12 arg13 arg14 arg15 arg16 arg17 arg18 (stepA u x2 x3 S)) -∗ K ⟨⟩))
      ⊢ wp frame (wpE (defs₀ (F := F)) Variants.none (c : Thread nD τ) none) E
          (headA arg2 arg3 arg8 arg9 arg10 arg11 arg12 arg13 arg14 arg15 harg15 arg16 arg17 arg18 u) K := by
  unfold held headA
  unfold owns
  iintro ⟨⟨%f2, %h2, H2⟩, ⟨%f3, %h3, H3⟩, ⟨⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, Hk⟩
  have e11 : ∀ inb, arg11.view.readAt (Elt F) (Rect.unit ![0, 0] ![512, 1280] inb).toLoadRect f11 = S.sb := fun inb => (View.readAt_full _ _ _).trans h11
  have e13 : ∀ inb, arg13.view.readAt (Elt F) (Rect.unit ![0, 0] ![512, 128] inb).toLoadRect f13 = S.mb := fun inb => (View.readAt_full _ _ _).trans h13
  have e14 : ∀ inb, arg14.view.readAt (Elt F) (Rect.unit ![0, 0] ![512, 1280] inb).toLoadRect f14 = S.pa := fun inb => (View.readAt_full _ _ _).trans h14
  have e16 : ∀ inb, arg16.view.readAt (Elt F) (Rect.unit ![0, 0] ![1280, 128] inb).toLoadRect f16 = S.vp := fun inb => (View.readAt_full _ _ _).trans h16
  have e17 : ∀ inb, arg17.view.readAt (Elt F) (Rect.unit ![0, 0] ![512, 128] inb).toLoadRect f17 = S.aa := fun inb => (View.readAt_full _ _ _).trans h17
  have w0 : ∀ inb, arg2.view.readAt (Elt F) (Rect.unit (k0_off1 (BitVec.ofNat 32 u.val)) ![512, 128] inb).toLoadRect f2 = qOf x2 u := fun inb => by subst_vars; first | rfl | (rw [← h2]; rfl)
  have w1 : ∀ inb, arg3.view.readAt (Elt F) (Rect.unit (k0_off2 (BitVec.ofNat 32 u.val)) ![1280, 128] inb).toLoadRect f3 = kOf x3 u := fun inb => by subst_vars; first | rfl | (rw [← h3]; rfl)
  have w2 : ∀ inb, arg8.view.readAt (Elt F) (Rect.unit (k0_off4 (BitVec.ofNat 32 u.val)) ![1, 512, 128] inb).toLoadRect f8 = mAt S.m (k0_off4 (BitVec.ofNat 32 u.val)) (k0_off4_inb u) := fun inb => by subst_vars; first | rfl | (rw [← h8]; rfl)
  have w3 : ∀ inb, arg9.view.readAt (Elt F) (Rect.unit (k0_off3 (BitVec.ofNat 32 u.val) 0#32) ![1, 512, 256] inb).toLoadRect f9 = accAt S.acc (k0_off3 (BitVec.ofNat 32 u.val) 0#32) (k0_off3_inb u 0) := fun inb => by subst_vars; first | rfl | (rw [← h9]; rfl)
  sl_exec
  sl_step
  iapply Hk
  isplitl [H2]
  · iexists f2; isplitr; · ipureintro; exact h2
    iexact H2
  isplitl [H3]
  · iexists f3; isplitr; · ipureintro; exact h3
    iexact H3
  isplitl [H8]
  · iexists _; isplitr
    swap; · iexact H8
    ipureintro; refine (View.read_writes_cons_put _ _ _ _ _ rfl).trans ?_; simp only [View.writes_nil, h8, e11, e13, e14, e16, e17, w0, w1, w2, w3]; rfl
  isplitl [H9]
  · iexists _; isplitr
    swap; · iexact H9
    ipureintro; refine (View.read_writes_cons_put _ _ _ _ _ rfl).trans ?_; simp only [View.writes_nil, h9, e11, e13, e14, e16, e17, w0, w1, w2, w3]; rfl
  isplitl [H10]
  · iexists _; isplitr
    swap; · iexact H10
    ipureintro; refine (View.read_writes_full _ _ _ _ _).trans ?_; dsimp only [stepA, stepB, score0, score1]
  isplitl [H11]
  · iexists _; isplitr
    swap; · iexact H11
    ipureintro; exact h11
  isplitl [H12]
  · iexists _; isplitr
    swap; · iexact H12
    ipureintro; refine (View.read_writes_full _ _ _ _ _).trans ?_; dsimp only [stepA, stepB, score0, score1]
  isplitl [H13]
  · iexists _; isplitr
    swap; · iexact H13
    ipureintro; exact h13
  isplitl [H14]
  · iexists _; isplitr
    swap; · iexact H14
    ipureintro; exact h14
  isplitl [H15]
  · iexists _; isplitr
    swap; · iexact H15
    ipureintro; refine (View.read_writes_full _ _ _ _ _).trans ?_; dsimp only [stepA, stepB, score0, score1]
  isplitl [H16]
  · iexists _; isplitr
    swap; · iexact H16
    ipureintro; exact h16
  isplitl [H17]
  · iexists _; isplitr
    swap; · iexact H17
    ipureintro; exact h17
  iexists _; isplitr
  swap; · iexact H18
  ipureintro; refine (View.read_writes_full _ _ _ _ _).trans ?_; dsimp only [stepA, stepB, score0, score1]

set_option maxHeartbeats 2000000 in
/-- The second half runs `stepB`. -/
theorem headB_sound (u : Fin 8) (x2 : Vec F S512x1024 .f32) (x3 x4 : Vec F S1280x1024 .bf16) (S : St F) (K : PUnit → sProp 𝕄) :
    iprop(owns (c : Thread nD τ) arg2 fullShare x2 ∗ owns (c : Thread nD τ) arg3 fullShare x3 ∗ owns (c : Thread nD τ) arg4 fullShare x4
      ∗ held c arg8 arg9 arg10 arg11 arg12 arg13 arg14 arg15 arg16 arg17 arg18 S
      ∗ (iprop(owns (c : Thread nD τ) arg2 fullShare x2 ∗ owns (c : Thread nD τ) arg3 fullShare x3 ∗ owns (c : Thread nD τ) arg4 fullShare x4 ∗ held c arg8 arg9 arg10 arg11 arg12 arg13 arg14 arg15 arg16 arg17 arg18 (stepB u x2 x3 x4 S)) -∗ K ⟨⟩))
      ⊢ wp frame (wpE (defs₀ (F := F)) Variants.none (c : Thread nD τ) none) E
          (headB arg2 arg3 arg4 arg8 arg9 arg10 arg11 arg12 arg13 arg14 harg14 arg15 arg16 harg16 arg17 arg18 u) K := by
  unfold held headB
  unfold owns
  iintro ⟨⟨%f2, %h2, H2⟩, ⟨%f3, %h3, H3⟩, ⟨%f4, %h4, H4⟩, ⟨⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, Hk⟩
  have e10 : ∀ inb, arg10.view.readAt (Elt F) (Rect.unit ![0, 0] ![512, 1280] inb).toLoadRect f10 = S.sa := fun inb => (View.readAt_full _ _ _).trans h10
  have e12 : ∀ inb, arg12.view.readAt (Elt F) (Rect.unit ![0, 0] ![512, 128] inb).toLoadRect f12 = S.ma := fun inb => (View.readAt_full _ _ _).trans h12
  have e15 : ∀ inb, arg15.view.readAt (Elt F) (Rect.unit ![0, 0] ![512, 1280] inb).toLoadRect f15 = S.pb := fun inb => (View.readAt_full _ _ _).trans h15
  have e16 : ∀ inb, arg16.view.readAt (Elt F) (Rect.unit ![0, 0] ![1280, 128] inb).toLoadRect f16 = S.vp := fun inb => (View.readAt_full _ _ _).trans h16
  have e18 : ∀ inb, arg18.view.readAt (Elt F) (Rect.unit ![0, 0] ![512, 128] inb).toLoadRect f18 = S.ab := fun inb => (View.readAt_full _ _ _).trans h18
  have w0 : ∀ inb, arg2.view.readAt (Elt F) (Rect.unit (k0_off1 (BitVec.ofNat 32 u.val)) ![512, 128] inb).toLoadRect f2 = qOf x2 u := fun inb => by subst_vars; first | rfl | (rw [← h2]; rfl)
  have w1 : ∀ inb, arg3.view.readAt (Elt F) (Rect.unit (k0_off2 (BitVec.ofNat 32 u.val)) ![1280, 128] inb).toLoadRect f3 = kOf x3 u := fun inb => by subst_vars; first | rfl | (rw [← h3]; rfl)
  have w2 : ∀ inb, arg4.view.readAt (Elt F) (Rect.unit (k0_off2 (BitVec.ofNat 32 u.val)) ![1280, 128] inb).toLoadRect f4 = kOf x4 u := fun inb => by subst_vars; first | rfl | (rw [← h4]; rfl)
  have w3 : ∀ inb, arg8.view.readAt (Elt F) (Rect.unit (k0_off5 (BitVec.ofNat 32 u.val)) ![1, 512, 128] inb).toLoadRect f8 = mAt S.m (k0_off5 (BitVec.ofNat 32 u.val)) (k0_off5_inb u) := fun inb => by subst_vars; first | rfl | (rw [← h8]; rfl)
  have w4 : ∀ inb, arg9.view.readAt (Elt F) (Rect.unit (k0_off3 (BitVec.ofNat 32 u.val) 1#32) ![1, 512, 256] inb).toLoadRect f9 = accAt S.acc (k0_off3 (BitVec.ofNat 32 u.val) 1#32) (k0_off3_inb u 1) := fun inb => by subst_vars; first | rfl | (rw [← h9]; rfl)
  sl_exec
  sl_step
  iapply Hk
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H8]
  · iexists _; isplitr
    swap; · iexact H8
    ipureintro; refine (View.read_writes_cons_put _ _ _ _ _ rfl).trans ?_; simp only [View.writes_nil, h8, e10, e12, e15, e16, e18, w0, w1, w2, w3, w4]; rfl
  isplitl [H9]
  · iexists _; isplitr
    swap; · iexact H9
    ipureintro; refine (View.read_writes_cons_put _ _ _ _ _ rfl).trans ?_; simp only [View.writes_nil, h9, e10, e12, e15, e16, e18, w0, w1, w2, w3, w4]; rfl
  isplitl [H10]
  · iexists _; isplitr
    swap; · iexact H10
    ipureintro; exact h10
  isplitl [H11]
  · iexists _; isplitr
    swap; · iexact H11
    ipureintro; refine (View.read_writes_full _ _ _ _ _).trans ?_; dsimp only [stepA, stepB, score0, score1]
  isplitl [H12]
  · iexists _; isplitr
    swap; · iexact H12
    ipureintro; exact h12
  isplitl [H13]
  · iexists _; isplitr
    swap; · iexact H13
    ipureintro; refine (View.read_writes_full _ _ _ _ _).trans ?_; dsimp only [stepA, stepB, score0, score1]
  isplitl [H14]
  · iexists _; isplitr
    swap; · iexact H14
    ipureintro; refine (View.read_writes_full _ _ _ _ _).trans ?_; dsimp only [stepA, stepB, score0, score1]
  isplitl [H15]
  · iexists _; isplitr
    swap; · iexact H15
    ipureintro; exact h15
  isplitl [H16]
  · iexists _; isplitr
    swap; · iexact H16
    ipureintro; refine (View.read_writes_full _ _ _ _ _).trans ?_; dsimp only [stepA, stepB, score0, score1]
  isplitl [H17]
  · iexists _; isplitr
    swap; · iexact H17
    ipureintro; refine (View.read_writes_full _ _ _ _ _).trans ?_; dsimp only [stepA, stepB, score0, score1]
  iexists _; isplitr
  swap; · iexact H18
  ipureintro; exact h18

set_option maxHeartbeats 2000000 in
/-- The first block runs `initSt`. -/
theorem init_sound (S : St F) (K : PUnit → sProp 𝕄) :
    iprop(held c arg8 arg9 arg10 arg11 arg12 arg13 arg14 arg15 arg16 arg17 arg18 S
      ∗ (iprop(held c arg8 arg9 arg10 arg11 arg12 arg13 arg14 arg15 arg16 arg17 arg18 (initSt S)) -∗ K ⟨⟩))
      ⊢ wp frame (wpE (defs₀ (F := F)) Variants.none (c : Thread nD τ) none) E
          (initP arg8 arg9 arg11 arg13 arg14 harg14 arg16 harg16 arg17) K := by
  unfold held initP
  unfold owns
  iintro ⟨⟨⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, Hk⟩
  sl_exec
  sl_step
  iapply Hk
  isplitl [H8]
  · iexists _; isplitr
    swap; · iexact H8
    ipureintro; refine (View.read_writes_full _ _ _ _ _).trans ?_; rfl
  isplitl [H9]
  · iexists _; isplitr
    swap; · iexact H9
    ipureintro; refine (View.read_writes_full _ _ _ _ _).trans ?_; rfl
  isplitl [H10]
  · iexists _; isplitr
    swap; · iexact H10
    ipureintro; exact h10
  isplitl [H11]
  · iexists _; isplitr
    swap; · iexact H11
    ipureintro; refine (View.read_writes_full _ _ _ _ _).trans ?_; rfl
  isplitl [H12]
  · iexists _; isplitr
    swap; · iexact H12
    ipureintro; exact h12
  isplitl [H13]
  · iexists _; isplitr
    swap; · iexact H13
    ipureintro; refine (View.read_writes_full _ _ _ _ _).trans ?_; rfl
  isplitl [H14]
  · iexists _; isplitr
    swap; · iexact H14
    ipureintro; refine (View.read_writes_full _ _ _ _ _).trans ?_; rfl
  isplitl [H15]
  · iexists _; isplitr
    swap; · iexact H15
    ipureintro; exact h15
  isplitl [H16]
  · iexists _; isplitr
    swap; · iexact H16
    ipureintro; refine (View.read_writes_full _ _ _ _ _).trans ?_; rfl
  isplitl [H17]
  · iexists _; isplitr
    swap; · iexact H17
    ipureintro; refine (View.read_writes_full _ _ _ _ _).trans ?_; rfl
  iexists _; isplitr
  swap; · iexact H18
  ipureintro; exact h18

set_option maxHeartbeats 2000000 in
/-- The last block's first part runs `stepLast`. -/
theorem last_sound (S : St F) (K : PUnit → sProp 𝕄) :
    iprop(held c arg8 arg9 arg10 arg11 arg12 arg13 arg14 arg15 arg16 arg17 arg18 S
      ∗ (iprop(held c arg8 arg9 arg10 arg11 arg12 arg13 arg14 arg15 arg16 arg17 arg18 (stepLast S)) -∗ K ⟨⟩))
      ⊢ wp frame (wpE (defs₀ (F := F)) Variants.none (c : Thread nD τ) none) E
          (lastP arg8 arg9 arg11 arg13 arg14 arg15 harg15 arg16 arg17 arg18) K := by
  unfold held lastP
  unfold owns
  iintro ⟨⟨⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, Hk⟩
  have e11 : ∀ inb, arg11.view.readAt (Elt F) (Rect.unit ![0, 0] ![512, 1280] inb).toLoadRect f11 = S.sb := fun inb => (View.readAt_full _ _ _).trans h11
  have e13 : ∀ inb, arg13.view.readAt (Elt F) (Rect.unit ![0, 0] ![512, 128] inb).toLoadRect f13 = S.mb := fun inb => (View.readAt_full _ _ _).trans h13
  have e14 : ∀ inb, arg14.view.readAt (Elt F) (Rect.unit ![0, 0] ![512, 1280] inb).toLoadRect f14 = S.pa := fun inb => (View.readAt_full _ _ _).trans h14
  have e16 : ∀ inb, arg16.view.readAt (Elt F) (Rect.unit ![0, 0] ![1280, 128] inb).toLoadRect f16 = S.vp := fun inb => (View.readAt_full _ _ _).trans h16
  have e17 : ∀ inb, arg17.view.readAt (Elt F) (Rect.unit ![0, 0] ![512, 128] inb).toLoadRect f17 = S.aa := fun inb => (View.readAt_full _ _ _).trans h17
  have w0 : ∀ inb, arg8.view.readAt (Elt F) (Rect.unit ![15, 0, 0] ![1, 512, 128] inb).toLoadRect f8 = mAt S.m ![15, 0, 0] inb_S16x512x128_S1x512x128_15_0_0 := fun inb => by subst_vars; first | rfl | (rw [← h8]; rfl)
  have w1 : ∀ inb, arg9.view.readAt (Elt F) (Rect.unit ![14, 0, 0] ![1, 512, 256] inb).toLoadRect f9 = accAt S.acc ![14, 0, 0] inb_S16x512x256_S1x512x256_14_0_0 := fun inb => by subst_vars; first | rfl | (rw [← h9]; rfl)
  sl_exec
  sl_step
  iapply Hk
  isplitl [H8]
  · iexists _; isplitr
    swap; · iexact H8
    ipureintro; refine (View.read_writes_cons_put _ _ _ _ _ rfl).trans ?_; simp only [View.writes_nil, h8, e11, e13, e14, e16, e17, w0, w1]; rfl
  isplitl [H9]
  · iexists _; isplitr
    swap; · iexact H9
    ipureintro
    refine (View.read_writes_cons_put _ _ _ _ _ rfl).trans ?_
    rw [View.read_writes_cons_put _ _ _ _ _ rfl, View.writes_nil, h9]
    unfold last_sound.sl.pb last_sound.sl.ab last_sound.sl.acc'
    have r15 : ∀ inb, arg15.view.readCov (last_sound.sl.H15_1 S) (Rect.unit ![0, 0] S512x1280.size inb).toLoadRect = (stepLast S).pb := fun inb => View.readCov_full _ inb _ _ _
    have r18 : ∀ inb, arg18.view.readCov (last_sound.sl.H18_1 S) (Rect.unit ![0, 0] S512x128.size inb).toLoadRect = (stepLast S).ab := fun inb => View.readCov_full _ inb _ _ _
    rw [r15, r18]
    have r9 : ∀ inb, arg9.view.readAt (Elt F) (Rect.unit (s := S16x512x256) ![15, 0, 0] S1x512x256.size inb).toLoadRect f9 = accAt (VecWindow.put S.acc ![14, 0, 0] S1x512x256.size (k0_pay45 k0_pay41 S.pa S.vp S.aa (accAt S.acc ![14, 0, 0] inb_S16x512x256_S1x512x256_14_0_0))) ![15, 0, 0] inb_S16x512x256_S1x512x256_15_0_0 := fun inb => by
      unfold accAt
      rw [VecWindow.window_put_of_disjoint _ _ _ _ _ _ _ 0 (Or.inr (by decide)), ← h9]
      rfl
    rw [r9]
    rfl
  isplitl [H10]
  · iexists _; isplitr
    swap; · iexact H10
    ipureintro; exact h10
  isplitl [H11]
  · iexists _; isplitr
    swap; · iexact H11
    ipureintro; exact h11
  isplitl [H12]
  · iexists _; isplitr
    swap; · iexact H12
    ipureintro; exact h12
  isplitl [H13]
  · iexists _; isplitr
    swap; · iexact H13
    ipureintro; exact h13
  isplitl [H14]
  · iexists _; isplitr
    swap; · iexact H14
    ipureintro; exact h14
  isplitl [H15]
  · iexists _; isplitr
    swap; · iexact H15
    ipureintro; refine (View.read_writes_full _ _ _ _ _).trans ?_; rfl
  isplitl [H16]
  · iexists _; isplitr
    swap; · iexact H16
    ipureintro; exact h16
  isplitl [H17]
  · iexists _; isplitr
    swap; · iexact H17
    ipureintro; exact h17
  iexists _; isplitr
  swap; · iexact H18
  ipureintro; refine (View.read_writes_full _ _ _ _ _).trans ?_; rfl

end

end Cert.Proof.KernelIdeal

end
-- ==== Proof.BodyRun.lean ====
/-
  The body run: the eight heads in order, before them the first block at a row's first tile, after them at its last tile what
  head 7 still owes and the result's block.
-/
module

public import proofs.«01_k».proof.Proof.HeadRun

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The eight heads in order. -/
def stepTile (q : Vec F S512x1024 .f32) (k v : Vec F S1280x1024 .bf16) (S : St F) : St F :=
  stepHead 7 q k v (stepHead 6 q k v (stepHead 5 q k v (stepHead 4 q k v (stepHead 3 q k v (stepHead 2 q k v (stepHead 1 q k v (stepHead 0 q k v S)))))))

/-- The eight heads' columns of the result written in order. -/
def outAll (lam : FVec F S1x1 .f32) (acc : Vec F S16x512x256 .f32) (g : Vec F S1x128 .f32) (o : Vec F S512x1024 .bf16) : Vec F S512x1024 .bf16 :=
  outStep lam acc g 7 (outStep lam acc g 6 (outStep lam acc g 5 (outStep lam acc g 4 (outStep lam acc g 3 (outStep lam acc g 2 (outStep lam acc g 1 (outStep lam acc g 0 o)))))))

section
variable (c : Dev nD) (E : Set ℕ) (arg2 : Memref sig .tc .vmem S512x1024 .f32) (arg3 : Memref sig .tc .vmem S1280x1024 .bf16) (arg4 : Memref sig .tc .vmem S1280x1024 .bf16) (arg5 : Memref sig .tc .vmem S8x64 .f32) (arg6 : Memref sig .tc .vmem S1x128 .f32) (arg7 : Memref sig .tc .vmem S512x1024 .bf16) (harg7 : arg7.IsWhole) (arg8 : Memref sig .tc .vmem S16x512x128 .f32) (arg9 : Memref sig .tc .vmem S16x512x256 .f32) (arg10 : Memref sig .tc .vmem S512x1280 .f32) (arg11 : Memref sig .tc .vmem S512x1280 .f32) (arg12 : Memref sig .tc .vmem S512x128 .f32) (arg13 : Memref sig .tc .vmem S512x128 .f32) (arg14 : Memref sig .tc .vmem S512x1280 .bf16) (harg14 : arg14.IsWhole) (arg15 : Memref sig .tc .vmem S512x1280 .bf16) (harg15 : arg15.IsWhole) (arg16 : Memref sig .tc .vmem S1280x128 .bf16) (harg16 : arg16.IsWhole) (arg17 : Memref sig .tc .vmem S512x128 .f32) (arg18 : Memref sig .tc .vmem S512x128 .f32)

/-- One head's columns written. -/
theorem out_sound (lam : FVec F S1x1 .f32) (acc : Vec F S16x512x256 .f32) (g : Vec F S1x128 .f32) (u : Fin 8) (o : Vec F S512x1024 .bf16) (K : PUnit → sProp 𝕄) :
    iprop(owns (c : Thread nD τ) arg9 fullShare acc ∗ owns (c : Thread nD τ) arg6 fullShare g ∗ owns (c : Thread nD τ) arg7 fullShare o
      ∗ (iprop(owns (c : Thread nD τ) arg9 fullShare acc ∗ owns (c : Thread nD τ) arg6 fullShare g ∗ owns (c : Thread nD τ) arg7 fullShare (outStep lam acc g u o)) -∗ K ⟨⟩))
      ⊢ wp frame (wpE (defs₀ (F := F)) Variants.none (c : Thread nD τ) none) E (outP arg6 arg7 harg7 arg9 lam u) K := by
  unfold outP owns
  iintro ⟨⟨%f9, %h9, H9⟩, ⟨%f6, %h6, H6⟩, ⟨%f7, %h7, H7⟩, Hk⟩
  have e6 : ∀ inb, arg6.view.readAt (Elt F) (Rect.unit ![0, 0] ![1, 128] inb).toLoadRect f6 = g := fun inb => (View.readAt_full _ _ _).trans h6
  have w0 : ∀ inb : (∀ a, offAcc ⟨2 * u.val, by omega⟩ a + S1x512x256.size a ≤ S16x512x256.size a), arg9.view.readAt (Elt F) (Rect.unit (offAcc ⟨2 * u.val, by omega⟩) ![1, 512, 256] inb).toLoadRect f9 = accAt acc (offAcc ⟨2 * u.val, by omega⟩) (offAcc_inb ⟨2 * u.val, by omega⟩) := fun inb => by subst_vars; rfl
  have w1 : ∀ inb : (∀ a, offAcc ⟨2 * u.val + 1, by omega⟩ a + S1x512x256.size a ≤ S16x512x256.size a), arg9.view.readAt (Elt F) (Rect.unit (offAcc ⟨2 * u.val + 1, by omega⟩) ![1, 512, 256] inb).toLoadRect f9 = accAt acc (offAcc ⟨2 * u.val + 1, by omega⟩) (offAcc_inb ⟨2 * u.val + 1, by omega⟩) := fun inb => by subst_vars; rfl
  sl_exec
  sl_step
  iapply Hk
  isplitl [H9]
  · iexists f9; isplitr; · ipureintro; exact h9
    iexact H9
  isplitl [H6]
  · iexists f6; isplitr; · ipureintro; exact h6
    iexact H6
  iexists _; isplitr
  swap; · iexact H7
  ipureintro; refine (View.read_writes_cons_put _ _ _ _ _ rfl).trans ?_; simp only [View.writes_nil, h7, e6, w0, w1]; rfl

/-- The result's block written. -/
theorem outs_sound (x5 : Vec F S8x64 .f32) (acc : Vec F S16x512x256 .f32) (g : Vec F S1x128 .f32) (o : Vec F S512x1024 .bf16) (K : PUnit → sProp 𝕄) :
    iprop(owns (c : Thread nD τ) arg9 fullShare acc ∗ owns (c : Thread nD τ) arg5 fullShare x5 ∗ owns (c : Thread nD τ) arg6 fullShare g ∗ owns (c : Thread nD τ) arg7 fullShare o
      ∗ (iprop(owns (c : Thread nD τ) arg9 fullShare acc ∗ owns (c : Thread nD τ) arg5 fullShare x5 ∗ owns (c : Thread nD τ) arg6 fullShare g ∗ owns (c : Thread nD τ) arg7 fullShare (outAll (k0_pay12 x5) acc g o)) -∗ K ⟨⟩))
      ⊢ wp frame (wpE (defs₀ (F := F)) Variants.none (c : Thread nD τ) none) E (outsP arg5 arg6 arg7 harg7 arg9) K := by
  unfold outsP
  have e5 : ∀ f5 : BufTy.Contents (Elt F) arg5.view.ty, arg5.view.read (Elt F) f5 = x5 → ∀ inb, arg5.view.readAt (Elt F) (Rect.unit (s := S8x64) ![0, 0] S8x64.size inb).toLoadRect f5 = x5 := fun f5 h inb => (View.readAt_full _ _ _).trans h
  iintro ⟨H9, H5, H6, H7, Hk⟩
  rw [wp_bind]
  unfold outAll
  generalize hD : (fun rows : Vec F S8x64 .f32 => wp frame (wpE (defs₀ (F := F)) Variants.none (c : Thread nD τ) none) E _ K) = D
  have hS : iprop(owns (c : Thread nD τ) arg5 fullShare x5 ∗ (owns (c : Thread nD τ) arg5 fullShare x5 -∗ D x5)) ⊢ wp frame (wpE (defs₀ (F := F)) Variants.none (c : Thread nD τ) none) E (Prog.lift (.load arg5 (Rect.unit (s := S8x64) ![0, 0] S8x64.size inb_S8x64_S8x64_0_0).toLoadRect (View.loadsAt_vmem h_S8x64))) D := by
    unfold owns
    iintro ⟨⟨%f5, %h5, H5⟩, Hk⟩
    sl_exec
    sl_step
    rw [e5 f5 h5]
    iapply Hk
    iexists f5; isplitr; · ipureintro; exact h5
    iexact H5
  iapply hS
  isplitl [H5]; · iexact H5
  iintro H5
  subst hD
  beta_reduce
  iterate 7
    rw [wp_bind]
    iapply (out_sound (F := F) c E arg6 arg7 harg7 arg9 (k0_pay12 x5) acc g)
    isplitl [H9]; · iexact H9
    isplitl [H6]; · iexact H6
    isplitl [H7]; · iexact H7
    iintro ⟨H9, H6, H7⟩
  iapply (out_sound (F := F) c E arg6 arg7 harg7 arg9 (k0_pay12 x5) acc g)
  isplitl [H9]; · iexact H9
  isplitl [H6]; · iexact H6
  isplitl [H7]; · iexact H7
  iintro ⟨H9, H6, H7⟩
  iapply Hk
  isplitl [H9]; · iexact H9
  isplitl [H5]; · iexact H5
  isplitl [H6]; · iexact H6
  iexact H7

/-- One head. -/
theorem head_sound (u : Fin 8) (x2 : Vec F S512x1024 .f32) (x3 x4 : Vec F S1280x1024 .bf16) (S : St F) (K : PUnit → sProp 𝕄) :
    iprop(owns (c : Thread nD τ) arg2 fullShare x2 ∗ owns (c : Thread nD τ) arg3 fullShare x3 ∗ owns (c : Thread nD τ) arg4 fullShare x4
      ∗ held c arg8 arg9 arg10 arg11 arg12 arg13 arg14 arg15 arg16 arg17 arg18 S
      ∗ (iprop(owns (c : Thread nD τ) arg2 fullShare x2 ∗ owns (c : Thread nD τ) arg3 fullShare x3 ∗ owns (c : Thread nD τ) arg4 fullShare x4 ∗ held c arg8 arg9 arg10 arg11 arg12 arg13 arg14 arg15 arg16 arg17 arg18 (stepHead u x2 x3 x4 S)) -∗ K ⟨⟩))
      ⊢ wp frame (wpE (defs₀ (F := F)) Variants.none (c : Thread nD τ) none) E
          (headP arg2 arg3 arg4 arg8 arg9 arg10 arg11 arg12 arg13 arg14 harg14 arg15 harg15 arg16 harg16 arg17 arg18 u) K := by
  unfold headP
  rw [wp_bind]
  iintro ⟨H2, H3, H4, HS, Hk⟩
  iapply (headA_sound (F := F))
  isplitl [H2]; · iexact H2
  isplitl [H3]; · iexact H3
  isplitl [HS]; · iexact HS
  iintro ⟨H2, H3, HS⟩
  iapply (headB_sound (F := F))
  isplitl [H2]; · iexact H2
  isplitl [H3]; · iexact H3
  isplitl [H4]; · iexact H4
  isplitl [HS]; · iexact HS
  iexact Hk

/-- The eight heads. -/
theorem tile_sound (x2 : Vec F S512x1024 .f32) (x3 x4 : Vec F S1280x1024 .bf16) (S : St F) (P : Prog (TpuEff nD τ sig (Elt F) Λ₀ .tc) PUnit) (K : PUnit → sProp 𝕄) :
    iprop(owns (c : Thread nD τ) arg2 fullShare x2 ∗ owns (c : Thread nD τ) arg3 fullShare x3 ∗ owns (c : Thread nD τ) arg4 fullShare x4
      ∗ held c arg8 arg9 arg10 arg11 arg12 arg13 arg14 arg15 arg16 arg17 arg18 S
      ∗ (iprop(owns (c : Thread nD τ) arg2 fullShare x2 ∗ owns (c : Thread nD τ) arg3 fullShare x3 ∗ owns (c : Thread nD τ) arg4 fullShare x4 ∗ held c arg8 arg9 arg10 arg11 arg12 arg13 arg14 arg15 arg16 arg17 arg18 (stepTile x2 x3 x4 S)) -∗ wp frame (wpE (defs₀ (F := F)) Variants.none (c : Thread nD τ) none) E P K))
      ⊢ wp frame (wpE (defs₀ (F := F)) Variants.none (c : Thread nD τ) none) E
          (do
            headP arg2 arg3 arg4 arg8 arg9 arg10 arg11 arg12 arg13 arg14 harg14 arg15 harg15 arg16 harg16 arg17 arg18 0
            headP arg2 arg3 arg4 arg8 arg9 arg10 arg11 arg12 arg13 arg14 harg14 arg15 harg15 arg16 harg16 arg17 arg18 1
            headP arg2 arg3 arg4 arg8 arg9 arg10 arg11 arg12 arg13 arg14 harg14 arg15 harg15 arg16 harg16 arg17 arg18 2
            headP arg2 arg3 arg4 arg8 arg9 arg10 arg11 arg12 arg13 arg14 harg14 arg15 harg15 arg16 harg16 arg17 arg18 3
            headP arg2 arg3 arg4 arg8 arg9 arg10 arg11 arg12 arg13 arg14 harg14 arg15 harg15 arg16 harg16 arg17 arg18 4
            headP arg2 arg3 arg4 arg8 arg9 arg10 arg11 arg12 arg13 arg14 harg14 arg15 harg15 arg16 harg16 arg17 arg18 5
            headP arg2 arg3 arg4 arg8 arg9 arg10 arg11 arg12 arg13 arg14 harg14 arg15 harg15 arg16 harg16 arg17 arg18 6
            headP arg2 arg3 arg4 arg8 arg9 arg10 arg11 arg12 arg13 arg14 harg14 arg15 harg15 arg16 harg16 arg17 arg18 7
            P) K := by
  iintro ⟨H2, H3, H4, HS, Hk⟩
  unfold stepTile
  iterate 8
    rw [wp_bind]
    iapply (head_sound (F := F))
    isplitl [H2]; · iexact H2
    isplitl [H3]; · iexact H3
    isplitl [H4]; · iexact H4
    isplitl [HS]; · iexact HS
    iintro ⟨H2, H3, H4, HS⟩
  iapply Hk
  isplitl [H2]; · iexact H2
  isplitl [H3]; · iexact H3
  isplitl [H4]; · iexact H4
  iexact HS

variable (i : grid0.Coords)

/-- The body at a tile that is not a row's last. -/
theorem body_mid (h2 : ¬ k0_cond2 i = 1#1) (x2 : Vec F S512x1024 .f32) (x3 x4 : Vec F S1280x1024 .bf16) (S : St F) (K : PUnit → sProp 𝕄) :
    iprop(owns (c : Thread nD τ) arg2 fullShare x2 ∗ owns (c : Thread nD τ) arg3 fullShare x3 ∗ owns (c : Thread nD τ) arg4 fullShare x4
      ∗ held c arg8 arg9 arg10 arg11 arg12 arg13 arg14 arg15 arg16 arg17 arg18 S
      ∗ (iprop(owns (c : Thread nD τ) arg2 fullShare x2 ∗ owns (c : Thread nD τ) arg3 fullShare x3 ∗ owns (c : Thread nD τ) arg4 fullShare x4 ∗ held c arg8 arg9 arg10 arg11 arg12 arg13 arg14 arg15 arg16 arg17 arg18 (stepTile x2 x3 x4 (if k0_cond1 i = 1#1 then initSt S else S))) -∗ K ⟨⟩))
      ⊢ wp frame (wpE (defs₀ (F := F)) Variants.none (c : Thread nD τ) none) E
          (bodyP i arg2 arg3 arg4 arg5 arg6 arg7 harg7 arg8 arg9 arg10 arg11 arg12 arg13 arg14 harg14 arg15 harg15 arg16 harg16 arg17 arg18) K := by
  unfold bodyP
  iintro ⟨H2, H3, H4, HS, Hk⟩
  by_cases h1 : k0_cond1 i = 1#1
  · simp only [h1, h2, if_true, if_false]
    rw [wp_bind]
    iapply (init_sound (F := F))
    isplitl [HS]; · iexact HS
    iintro HS
    iapply (tile_sound (F := F))
    isplitl [H2]; · iexact H2
    isplitl [H3]; · iexact H3
    isplitl [H4]; · iexact H4
    isplitl [HS]; · iexact HS
    iintro H
    sl_step
    iapply Hk
    iexact H
  · simp only [h1, h2, if_false]
    iapply (tile_sound (F := F))
    isplitl [H2]; · iexact H2
    isplitl [H3]; · iexact H3
    isplitl [H4]; · iexact H4
    isplitl [HS]; · iexact HS
    iintro H
    sl_step
    iapply Hk
    iexact H

/-- What the last tile adds to the heads, run. -/
theorem end_sound (x5 : Vec F S8x64 .f32) (x6 : Vec F S1x128 .f32) (o : Vec F S512x1024 .bf16) (S : St F) (K : PUnit → sProp 𝕄) :
    iprop(owns (c : Thread nD τ) arg5 fullShare x5 ∗ owns (c : Thread nD τ) arg6 fullShare x6 ∗ owns (c : Thread nD τ) arg7 fullShare o
      ∗ held c arg8 arg9 arg10 arg11 arg12 arg13 arg14 arg15 arg16 arg17 arg18 S
      ∗ (iprop(owns (c : Thread nD τ) arg5 fullShare x5 ∗ owns (c : Thread nD τ) arg6 fullShare x6 ∗ owns (c : Thread nD τ) arg7 fullShare (outAll (k0_pay12 x5) (stepLast S).acc x6 o)
        ∗ held c arg8 arg9 arg10 arg11 arg12 arg13 arg14 arg15 arg16 arg17 arg18 (stepLast S)) -∗ K ⟨⟩))
      ⊢ wp frame (wpE (defs₀ (F := F)) Variants.none (c : Thread nD τ) none) E
          (do
            lastP arg8 arg9 arg11 arg13 arg14 arg15 harg15 arg16 arg17 arg18
            outsP arg5 arg6 arg7 harg7 arg9) K := by
  rw [wp_bind]
  iintro ⟨H5, H6, H7, HS, Hk⟩
  iapply (last_sound (F := F))
  isplitl [HS]; · iexact HS
  iintro HS
  unfold held
  icases HS with ⟨H8, H9, HR⟩
  iapply (outs_sound (F := F))
  isplitl [H9]; · iexact H9
  isplitl [H5]; · iexact H5
  isplitl [H6]; · iexact H6
  isplitl [H7]; · iexact H7
  iintro ⟨H9, H5, H6, H7⟩
  iapply Hk
  isplitl [H5]; · iexact H5
  isplitl [H6]; · iexact H6
  isplitl [H7]; · iexact H7
  isplitl [H8]; · iexact H8
  isplitl [H9]; · iexact H9
  iexact HR

/-- The body at a row's last tile. -/
theorem body_last (h2 : k0_cond2 i = 1#1) (x2 : Vec F S512x1024 .f32) (x3 x4 : Vec F S1280x1024 .bf16) (x5 : Vec F S8x64 .f32) (x6 : Vec F S1x128 .f32) (o : Vec F S512x1024 .bf16) (S : St F) (K : PUnit → sProp 𝕄) :
    iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare o
      ∗ held c arg8 arg9 arg10 arg11 arg12 arg13 arg14 arg15 arg16 arg17 arg18 S
      ∗ (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare (outAll (k0_pay12 x5) (stepLast (stepTile x2 x3 x4 (if k0_cond1 i = 1#1 then initSt S else S))).acc x6 o)
        ∗ held c arg8 arg9 arg10 arg11 arg12 arg13 arg14 arg15 arg16 arg17 arg18 (stepLast (stepTile x2 x3 x4 (if k0_cond1 i = 1#1 then initSt S else S)))) -∗ K ⟨⟩))
      ⊢ wp frame (wpE (defs₀ (F := F)) Variants.none (c : Thread nD τ) none) E
          (bodyP i arg2 arg3 arg4 arg5 arg6 arg7 harg7 arg8 arg9 arg10 arg11 arg12 arg13 arg14 harg14 arg15 harg15 arg16 harg16 arg17 arg18) K := by
  unfold bodyP
  iintro ⟨H2, H3, H4, H5, H6, H7, HS, Hk⟩
  by_cases h1 : k0_cond1 i = 1#1
  · simp only [h1, h2, if_true]
    rw [wp_bind]
    iapply (init_sound (F := F))
    isplitl [HS]; · iexact HS
    iintro HS
    iapply (tile_sound (F := F))
    isplitl [H2]; · iexact H2
    isplitl [H3]; · iexact H3
    isplitl [H4]; · iexact H4
    isplitl [HS]; · iexact HS
    iintro ⟨H2, H3, H4, HS⟩
    iapply (end_sound (F := F))
    isplitl [H5]; · iexact H5
    isplitl [H6]; · iexact H6
    isplitl [H7]; · iexact H7
    isplitl [HS]; · iexact HS
    iintro ⟨H5, H6, H7, HS⟩
    iapply Hk
    isplitl [H2]; · iexact H2
    isplitl [H3]; · iexact H3
    isplitl [H4]; · iexact H4
    isplitl [H5]; · iexact H5
    isplitl [H6]; · iexact H6
    isplitl [H7]; · iexact H7
    iexact HS
  · simp only [h1, h2, if_true, if_false]
    iapply (tile_sound (F := F))
    isplitl [H2]; · iexact H2
    isplitl [H3]; · iexact H3
    isplitl [H4]; · iexact H4
    isplitl [HS]; · iexact HS
    iintro ⟨H2, H3, H4, HS⟩
    iapply (end_sound (F := F))
    isplitl [H5]; · iexact H5
    isplitl [H6]; · iexact H6
    isplitl [H7]; · iexact H7
    isplitl [HS]; · iexact HS
    iintro ⟨H5, H6, H7, HS⟩
    iapply Hk
    isplitl [H2]; · iexact H2
    isplitl [H3]; · iexact H3
    isplitl [H4]; · iexact H4
    isplitl [H5]; · iexact H5
    isplitl [H6]; · iexact H6
    isplitl [H7]; · iexact H7
    iexact HS
end

end Cert.Proof.KernelIdeal

end
-- ==== Proof.Run.lean ====
/-
  The run. Between two tiles the buffers hold one record: at a row's first tile whatever they held, at the others what the
  row's tiles before left (`stAt`). From it the result's block after a row's last tile, and from that the run.
-/
module

public import proofs.«01_k».proof.Proof.BodyRun
public import Idealize.ShloMosaic.Lib.ValueIdxCore
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The result's block, in one piece -/

/-- The result's block: column `y` of it is column `y % 128` of head `y / 128`. -/
def outBlk (lam : FVec F S1x1 .f32) (acc : Vec F S16x512x256 .f32) (g : Vec F S1x128 .f32) : Vec F S512x1024 .bf16 := fun y =>
  outHead lam acc g ⟨(y 1).val / 128, Nat.div_lt_of_lt_mul (y 1).isLt⟩ (ValueIdx.ix2 (n0 := 512) (n1 := 128) (y 0) ⟨(y 1).val % 128, Nat.mod_lt _ (by decide)⟩)

theorem outStep_apply (lam : FVec F S1x1 .f32) (acc : Vec F S16x512x256 .f32) (g : Vec F S1x128 .f32) (u : Fin 8) (o : Vec F S512x1024 .bf16) (y : S512x1024.Idx) :
    outStep lam acc g u o y = if (y 1).val / 128 = u.val then outBlk lam acc g y else o y := by
  have h0 : (y 0).val < 512 := (y 0).isLt
  have h1 : (y 1).val < 1024 := (y 1).isLt
  unfold outStep VecWindow.put
  by_cases h : (y 1).val / 128 = u.val
  · have hu : u = ⟨(y 1).val / 128, Nat.div_lt_of_lt_mul (y 1).isLt⟩ := Fin.ext h.symm
    have hm : ∀ a, offOut u a ≤ (y a).val ∧ (y a).val < offOut u a + S512x128.size a := fun a => by
      fin_cases a
      · exact ⟨Nat.zero_le _, by show (y 0).val < 0 + 512; omega⟩
      · exact ⟨by show 128 * u.val ≤ (y 1).val; omega, by show (y 1).val < 128 * u.val + 128; omega⟩
    rw [if_pos h, dif_pos hm]
    unfold outBlk
    rw [← hu]
    exact congrArg (outHead lam acc g u) (funext fun a => Fin.ext (by
      fin_cases a
      · show (y 0).val - 0 = (y 0).val; omega
      · show (y 1).val - 128 * u.val = (y 1).val % 128; omega))
  · have hm : ¬ ∀ a, offOut u a ≤ (y a).val ∧ (y a).val < offOut u a + S512x128.size a := fun hm => by
      have h2 : 128 * u.val ≤ (y 1).val ∧ (y 1).val < 128 * u.val + 128 := hm 1
      omega
    rw [if_neg h, dif_neg hm]

/-- The eight stores leave it, whatever was there. -/
theorem outAll_eq (lam : FVec F S1x1 .f32) (acc : Vec F S16x512x256 .f32) (g : Vec F S1x128 .f32) (o : Vec F S512x1024 .bf16) : outAll lam acc g o = outBlk lam acc g := by
  funext y
  have h1 : (y 1).val < 1024 := (y 1).isLt
  unfold outAll
  simp only [outStep_apply]
  generalize hb : outBlk lam acc g y = b
  have h8 : (y 1).val / 128 < 8 := by omega
  revert h8
  generalize (y 1).val / 128 = w
  intro h8
  interval_cases w <;> rfl

/-! ## The record between two tiles -/

/-- The first block's contents, in every buffer. -/
def start : St F where
  m := k0_pay34
  acc := k0_pay35
  sa := k0_pay38
  sb := k0_pay38
  ma := k0_pay39
  mb := k0_pay39
  pa := k0_pay36
  pb := k0_pay36
  vp := k0_pay40
  aa := k0_pay37
  ab := k0_pay37

/-- What the first block leaves as it was is written before it is read. -/
theorem stepTile_init (q : Vec F S512x1024 .f32) (k v : Vec F S1280x1024 .bf16) (S : St F) : stepTile q k v (initSt S) = stepTile q k v start := by
  have h : stepHead 0 q k v (initSt S) = stepHead 0 q k v start := rfl
  unfold stepTile
  rw [h]

variable (m : (ℓ : Loc nD τ sig) → Buf (Elt F) ℓ) (ρ : Dev nD → PrngReg)

/-- The record before tile `n`, -/
def stAt (c : Dev nD) : ℕ → St F
  | 0 => start
  | n + 1 => if h : n < grid0.N then
      stepTile (iblk m c 0 ⟨n, h⟩) (iblk m c 1 ⟨n, h⟩) (iblk m c 2 ⟨n, h⟩) (if n % 13 = 0 then start else stAt c n)
    else start

theorem stAt_succ (c : Dev nD) (t : Fin cfg0.N) : stAt m c (t.val + 1)
    = stepTile (iblk m c 0 t) (iblk m c 1 t) (iblk m c 2 t) (if t.val % 13 = 0 then start else stAt m c t.val) := by
  rw [stAt, dif_pos t.isLt]

/-- and the result's block a row's last tile leaves. -/
def outAt (c : Dev nD) (t : Fin cfg0.N) : Vec F S512x1024 .bf16 :=
  outBlk (k0_pay12 (iblk m c 3 t)) (stepLast (stAt m c (t.val + 1))).acc (iblk m c 4 t)

/-- The buffers hold the record. -/
def heldc (c : Dev nD) (S : St F) : sProp 𝕄 :=
  held c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) S

/-- What holds between tiles. -/
def inv (c : Dev nD) (n : ℕ) : sProp 𝕄 := iprop((∃ S, ⌜n % 13 ≠ 0 → S = stAt m c n⌝ ∗ heldc c S) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := inv m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-! ## The two conditions, over the points -/

theorem coord1 (t : Fin cfg0.N) : (grid0.coords t 1).val = t.val % 13 := by
  have h := Pipeline.Grid.coords_val (G := grid0) t 1 (S := 1) (B := 13) (by decide) rfl
  rw [h, Nat.div_one]

theorem cond_of (n : ℕ) (hn : n < 13) : (Scalar.cmpi .ne (Scalar.extui (Scalar.cmpi .eq (BitVec.ofNat 32 n) 0#32) : BitVec 32) 0#32 = 1#1 ↔ n = 0)
    ∧ (Scalar.cmpi .ne (Scalar.extui (Scalar.cmpi .eq (BitVec.ofNat 32 n) 12#32) : BitVec 32) 0#32 = 1#1 ↔ n = 12) := by
  interval_cases n <;> decide

theorem cond1_iff (t : Fin cfg0.N) : k0_cond1 (grid0.coords t) = 1#1 ↔ t.val % 13 = 0 := by
  have h := (cond_of (t.val % 13) (Nat.mod_lt _ (by decide))).1
  rw [← coord1] at h
  rw [coord1] at h
  unfold k0_cond1
  rw [coord1]
  exact h

theorem cond2_iff (t : Fin cfg0.N) : k0_cond2 (grid0.coords t) = 1#1 ↔ t.val % 13 = 12 := by
  have h := (cond_of (t.val % 13) (Nat.mod_lt _ (by decide))).2
  unfold k0_cond2
  dsimp only
  rw [coord1]
  exact h

/-! ## The body obligation -/

/-- The record the heads start from. -/
theorem from_eq (c : Dev nD) (t : Fin cfg0.N) (S : St F) (hS : t.val % 13 ≠ 0 → S = stAt m c t.val) :
    stepTile (iblk m c 0 t) (iblk m c 1 t) (iblk m c 2 t) (if k0_cond1 (grid0.coords t) = 1#1 then initSt S else S) = stAt m c (t.val + 1) := by
  rw [stAt_succ]
  by_cases h : t.val % 13 = 0
  · rw [if_pos ((cond1_iff t).mpr h), if_pos h]; exact stepTile_init _ _ _ _
  · rw [if_neg (fun h' => h ((cond1_iff t).mp h')), if_neg h, hS h]

theorem defs₀_row (t : Fin cfg0.N) :
    defs₀ (F := F) .tc cfg0.body (cfg0.bodyArgs t (cfg0.slots t)) = bodyAt0 t := by
  unfold defs₀; rw [Defs.onTc_tc]

/-- At a tile that is not a row's last, -/
theorem sound_mid (c : Dev nD) (t : Fin cfg0.N) (ht : ¬ t.val % 13 = 12) (K : PUnit → sProp 𝕄) :
    iprop(inv m c t.val ∗ owns (c : Thread nD τ) (st0_0 t) fullShare (iblk m c 0 t) ∗ owns (c : Thread nD τ) (st0_1 t) fullShare (iblk m c 1 t) ∗ owns (c : Thread nD τ) (st0_2 t) fullShare (iblk m c 2 t)
        ∗ (iprop(inv m c (t.val + 1) ∗ owns (c : Thread nD τ) (st0_0 t) fullShare (iblk m c 0 t) ∗ owns (c : Thread nD τ) (st0_1 t) fullShare (iblk m c 1 t) ∗ owns (c : Thread nD τ) (st0_2 t) fullShare (iblk m c 2 t)) -∗ K ⟨⟩))
      ⊢ wp frame (wpE (defs₀ (F := F)) Variants.none c none) Set.univ (bodyAt0 t) K := by
  unfold bodyAt0
  rw [body_eq]
  unfold inv heldc
  iintro ⟨⟨⟨%S, %hS, HS⟩, Hr⟩, H0, H1, H2, Hk⟩
  iapply (body_mid (F := F) (h2 := fun h => ht ((cond2_iff t).mp h)) (x2 := iblk m c 0 t) (x3 := iblk m c 1 t) (x4 := iblk m c 2 t) (S := S))
  isplitl [H0]; · iexact H0
  isplitl [H1]; · iexact H1
  isplitl [H2]; · iexact H2
  isplitl [HS]; · iexact HS
  rw [from_eq m c t S hS]
  iintro ⟨H0, H1, H2, HS⟩
  iapply Hk
  isplitl [HS Hr]
  · isplitl [HS]
    · iexists _; isplitr; swap
      · iexact HS
      · ipureintro; exact fun _ => rfl
    · iexact Hr
  isplitl [H0]; · iexact H0
  isplitl [H1]; · iexact H1
  iexact H2

/-- and at a row's last. -/
theorem sound_last (c : Dev nD) (t : Fin cfg0.N) (ht : t.val % 13 = 12) (d : Vec F S512x1024 .bf16) (K : PUnit → sProp 𝕄) :
    iprop(inv m c t.val ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare d
        ∗ (iprop(inv m c (t.val + 1) ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (outAt m c t)) -∗ K ⟨⟩))
      ⊢ wp frame (wpE (defs₀ (F := F)) Variants.none c none) Set.univ (bodyAt0 t) K := by
  unfold bodyAt0
  rw [body_eq]
  unfold inv heldc
  iintro ⟨⟨⟨%S, %hS, HS⟩, Hr⟩, H0, H1, H2, H3, H4, H5, Hk⟩
  iapply (body_last (F := F) (h2 := (cond2_iff t).mpr ht) (x2 := iblk m c 0 t) (x3 := iblk m c 1 t) (x4 := iblk m c 2 t) (x5 := iblk m c 3 t) (x6 := iblk m c 4 t) (o := d) (S := S))
  isplitl [H0]; · iexact H0
  isplitl [H1]; · iexact H1
  isplitl [H2]; · iexact H2
  isplitl [H3]; · iexact H3
  isplitl [H4]; · iexact H4
  isplitl [H5]; · iexact H5
  isplitl [HS]; · iexact HS
  rw [from_eq m c t S hS, outAll_eq]
  iintro ⟨H0, H1, H2, H3, H4, H5, HS⟩
  iapply Hk
  isplitl [HS Hr]
  · isplitl [HS]
    · iexists _; isplitr; swap
      · iexact HS
      · ipureintro; intro h; exfalso; omega
    · iexact Hr
  isplitl [H0]; · iexact H0
  isplitl [H1]; · iexact H1
  isplitl [H2]; · iexact H2
  isplitl [H3]; · iexact H3
  isplitl [H4]; · iexact H4
  iexact H5

/-- The obligation at every point. -/
theorem body_obligation (c : Dev nD) : BodyObligation (dats (F := F) m 0 c) (defs₀ (F := F)) Variants.none () Set.univ := fun t => by
  rw [bigSep_W0, bigSep_W0, defs₀_row]
  rw [show (dats m 0 c).Φ t.castSucc = inv m c t.val from rfl, show (dats m 0 c).Φ t.succ = inv m c (t.val + 1) from rfl,
    show (dats m 0 c).owesAt () t.succ = (dats m 0 c).owesAt () t.castSucc from rfl]
  by_cases ht : t.val % 13 = 12
  · have hi : (!(k0_cond2 (grid0.coords t) == 1#1)) = false := by rw [(cond2_iff t).mpr ht]; rfl
    simp only [hi, before0_0, before0_1, before0_2, before0_3, before0_4, after0_0, after0_1, after0_2, after0_3, after0_4, after0_5]
    iintro ⟨HΦ, Ho, ⟨%d0, H0⟩, ⟨%d1, H1⟩, ⟨%d2, H2⟩, ⟨%d3, H3⟩, ⟨%d4, H4⟩, ⟨%d5, H5⟩⟩
    iapply (sound_last m c t ht)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    iintro ⟨HΦ, H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hi : (!(k0_cond2 (grid0.coords t) == 1#1)) = true := by
      have := fun h => ht ((cond2_iff t).mp h)
      simp only [Bool.not_eq_true', beq_eq_false_iff_ne]; exact this
    have hf : (cfg0.win 5).flush t = false := by
      have := fun h => ht ((flush0_5 t).mp h)
      simpa using this
    simp only [hi, hf, before0_0, before0_1, before0_2, before0_3, before0_4, after0_0, after0_1, after0_2, after0_3, after0_4]
    iintro ⟨HΦ, Ho, ⟨%d0, H0⟩, ⟨%d1, H1⟩, ⟨%d2, H2⟩, ⟨%d3, H3⟩, ⟨%d4, H4⟩, H5⟩
    iapply (sound_mid m c t ht)
    isplitl [HΦ]; · iexact HΦ
    isplitl [H0]; · iexact H0
    isplitl [H1]; · iexact H1
    isplitl [H2]; · iexact H2
    iintro ⟨HΦ, H0, H1, H2⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-! ## The run and the frame -/

/-- The scratch buffers and the generator register as the region finds them are the invariant before the first tile, -/
theorem inv_intro (c : Dev nD) : Pipeline.ΦA spec0 c ⊢ (dats (F := F) m 0 c).Φ 0 := by
  show Pipeline.ΦA spec0 c ⊢ inv m c 0
  unfold Pipeline.ΦA inv heldc held
  rw [scopedRest0_eq]
  simp only [owns_whole]
  iintro ⟨⟨⟨%s0, H0⟩, ⟨%s1, H1⟩, ⟨%s2, H2⟩, ⟨%s3, H3⟩, ⟨%s4, H4⟩, ⟨%s5, H5⟩, ⟨%s6, H6⟩, ⟨%s7, H7⟩, ⟨%s8, H8⟩, ⟨%s9, H9⟩, ⟨%s10, H10⟩⟩, Hr⟩
  isplitr [Hr]
  · iexists (⟨s0, s1, s2, s3, s4, s5, s6, s7, s8, s9, s10⟩ : St F)
    isplitr; · ipureintro; intro h; exact absurd rfl h
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hr

/-- and the invariant after the last gives them back. -/
theorem inv_exit (c : Dev nD) : (dats (F := F) m 0 c).Φ (Fin.last cfg0.N) ⊢ Pipeline.ΦA spec0 c := by
  show inv m c 416 ⊢ Pipeline.ΦA spec0 c
  unfold Pipeline.ΦA inv heldc held
  rw [scopedRest0_eq]
  simp only [owns_whole]
  iintro ⟨⟨%S, -, H0, H1, H2, H3, H4, H5, H6, H7, H8, H9, H10⟩, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10
  · iexact Hr

set_option backward.isDefEq.respectTransparency.types false in
/-- The run: the arrays end at what the proof data says, the other buffers as they were, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_intro m) (hout := inv_exit m)

/-- The frame: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Proof.KernelIdeal

end
-- ==== Proof.Spec.lean ====
/-
  What both programs compute, over the real entries of the arrays: a head's two components' softmax-weighted values, their
  difference under the weight, and its normalisation.
-/
module

public import Idealize.ShloMosaic.Lib.Pointwise
public import Idealize.ShloMosaic.Lib.IdealHost

@[expose] public section

noncomputable section

namespace Cert.Proof.Spec

open Idealize.ShloMosaic

/-- An array of extended reals of two axes, and of one. -/
abbrev Mat (a b : ℕ) := (⟨2, ![a, b]⟩ : Shape).Idx → EReal
abbrev Row (a : ℕ) := (⟨1, ![a]⟩ : Shape).Idx → EReal

/-- Every entry is a real. -/
def Fin2 {s : Shape} (x : s.Idx → EReal) : Prop := ∀ i, ∃ r : ℝ, x i = r

/-- An entry as a real, zero outside the array. -/
def at2 {a b : ℕ} (x : Mat a b) (i j : ℕ) : ℝ := if h : i < a ∧ j < b then (x (ix2 ⟨i, h.1⟩ ⟨j, h.2⟩)).toReal else 0

theorem at2_coe {a b : ℕ} (x : Mat a b) (hx : Fin2 x) (i : Fin a) (j : Fin b) : x (ix2 i j) = (at2 x i j : ℝ) := by
  unfold at2
  rw [dif_pos ⟨i.isLt, j.isLt⟩]
  obtain ⟨r, hr⟩ := hx (ix2 i j)
  rw [show (ix2 (⟨i.val, i.isLt⟩ : Fin a) (⟨j.val, j.isLt⟩ : Fin b)) = ix2 i j from rfl, hr, EReal.toReal_coe]

/-- The keys (or the values): the layer's own positions, then the context's. -/
def cat (l : Mat 16384 1024) (c : Mat 256 1024) (j x : ℕ) : ℝ := if j < 16384 then at2 l j x else at2 c (j - 16384) x

variable (q kl vl : Mat 16384 1024) (kc vc : Mat 256 1024)

/-- Component `c`'s score of a query against a key. -/
def S (c r j : ℕ) : ℝ := (∑ x : Fin 64, at2 q r (64 * c + x) * cat kl kc j (64 * c + x)) / 8

/-- The softmax's denominator, -/
def den (c r : ℕ) : ℝ := ∑ j ∈ Finset.range 16640, Real.exp (S q kl kc c r j)
/-- and its numerator against a column of the values. -/
def num (c r x : ℕ) : ℝ := ∑ j ∈ Finset.range 16640, Real.exp (S q kl kc c r j) * cat vl vc j x

theorem den_pos (c r : ℕ) : 0 < den q kl kc c r :=
  Finset.sum_pos (fun j _ => Real.exp_pos _) ⟨0, by simp⟩

/-- The weight of the second component. -/
def lam (a b c d : Row 64) : EReal :=
  Ideal.exp (∑ x : Fin 64, a (ix1 x) * b (ix1 x)) - Ideal.exp (∑ x : Fin 64, c (ix1 x) * d (ix1 x)) + Ideal.ofBits FTy.f32 1052116297#32

/-- The difference of the two components' outputs. -/
def o (L : EReal) (h r x : ℕ) : EReal :=
  ((num q kl vl kc vc (2 * h) r (128 * h + x) / den q kl kc (2 * h) r : ℝ) : EReal)
    - L * ((num q kl vl kc vc (2 * h + 1) r (128 * h + x) / den q kl kc (2 * h + 1) r : ℝ) : EReal)

/-- The layer's result. -/
def res (L : EReal) (g : Row 128) (r : Fin 16384) (e : Fin 1024) : EReal :=
  o q kl vl kc vc L (e.val / 128) r (e.val % 128)
    * Ideal.rsqrt (Ideal.div (∑ x : Fin 128, o q kl vl kc vc L (e.val / 128) r x * o q kl vl kc vc L (e.val / 128) r x) (Ideal.ofBits FTy.f32 1124073472#32)
        + Ideal.ofBits FTy.f32 925353388#32)
    * (g (ix1 ⟨e.val % 128, Nat.mod_lt _ (by decide)⟩) * Ideal.ofBits FTy.f32 1059388764#32)

/-- The lowest value the running maxima start from is a real, -/
theorem low_real : ∃ r : ℝ, Ideal.ofBits FTy.f32 4048155338#32 = r := by
  simp [Ideal.ofBits, Ideal.ieee, -EReal.coe_mul]
  exact ⟨_, rfl⟩
/-- the scale of the scores is an eighth, -/
theorem eighth : Ideal.ofBits FTy.f32 1040187392#32 = ((1 / 8 : ℝ) : EReal) := by
  simp [Ideal.ofBits, Ideal.ieee, -EReal.coe_mul]; norm_num
/-- the weight's offset is a real, -/
theorem off_real : ∃ r : ℝ, Ideal.ofBits FTy.f32 1052116297#32 = r := by
  simp [Ideal.ofBits, Ideal.ieee, -EReal.coe_mul]
/-- and the maxima's unit is the bottom. -/
theorem neg_inf : Ideal.ofBits FTy.f32 4286578688#32 = ⊥ := by simp [Ideal.ofBits, Ideal.ieee]
theorem pos_inf : Ideal.ofBits FTy.f32 0x7F800000#32 = ⊤ := by simp [Ideal.ofBits, Ideal.ieee]

theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin1_sum (a b : Row 64) (ha : Fin2 a) (hb : Fin2 b) : ∃ r : ℝ, (∑ x : Fin 64, a (ix1 x) * b (ix1 x)) = r := by
  choose fa hfa using ha
  choose fb hfb using hb
  exact ⟨∑ x : Fin 64, fa (ix1 x) * fb (ix1 x), by rw [coe_sum']; exact Finset.sum_congr rfl fun x _ => by rw [hfa, hfb, EReal.coe_mul]⟩

theorem lam_real (a b c d : Row 64) (ha : Fin2 a) (hb : Fin2 b) (hc : Fin2 c) (hd : Fin2 d) : ∃ r : ℝ, lam a b c d = r := by
  obtain ⟨x, hx⟩ := fin1_sum a b ha hb
  obtain ⟨y, hy⟩ := fin1_sum c d hc hd
  obtain ⟨z, hz⟩ := off_real
  unfold lam
  rw [hx, hy, hz]
  exact ⟨Real.exp x - Real.exp y + z, by rw [Ideal.exp_coe, Ideal.exp_coe, EReal.coe_add, EReal.coe_sub]⟩

/-- The larger of reals, folded from below all of them, over a set that is not empty, is a real. -/
theorem fold_max_real {ι : Type*} (s : Finset ι) (hs : s.Nonempty) (f : ι → EReal) (hf : ∀ i, ∃ x : ℝ, f i = x) :
    ∃ x : ℝ, s.fold max (⊥ : EReal) f = x := by
  have h1 : s.fold max (⊥ : EReal) f ≠ ⊤ := by
    intro h
    have h2 : (⊤ : EReal) ≤ s.fold max ⊥ f := ge_of_eq h
    rw [Finset.le_fold_max] at h2
    rcases h2 with h2 | ⟨i, _, h2⟩
    · exact absurd h2 (by simp)
    · obtain ⟨x, hx⟩ := hf i
      rw [hx] at h2
      exact absurd h2 (by simp)
  have h3 : s.fold max (⊥ : EReal) f ≠ ⊥ := by
    intro h
    have h2 : s.fold max (⊥ : EReal) f ≤ ⊥ := le_of_eq h
    rw [Finset.fold_max_le] at h2
    obtain ⟨i, hi⟩ := hs
    have h4 := h2.2 i hi
    obtain ⟨x, hx⟩ := hf i
    rw [hx] at h4
    exact absurd h4 (by simp)
  exact ⟨_, (EReal.coe_toReal h1 h3).symm⟩

/-- A common scale leaves a quotient. -/
theorem div_scaled (w a b : ℝ) (hw : w ≠ 0) (hb : b ≠ 0) : Ideal.div ((w * a : ℝ) : EReal) ((w * b : ℝ) : EReal) = ((a / b : ℝ) : EReal) := by
  rw [Ideal.div_coe (mul_ne_zero hw hb), ← EReal.coe_mul]
  congr 1
  field_simp

/-- A maximum of reals over an axis that is not empty is a real. -/
theorem max_real {s t u : Shape} {a : Fin s.rank} (x : FVec Ideal s .f32) (hx : Fin2 x) (init : FVec Ideal u .f32) (h' : s.ReducesTo [a] t) (h : s.Reduces [a] t)
    (hu : 0 < u.numel) (hi : (init (Shape.Idx.first hu) : EReal) = ⊥) (ha : 0 < s.size a) (j : t.Idx) :
    ∃ y : ℝ, (Host.reduce (FloatOps.maximumf (F := Ideal) (φ := .f32)) x init h' hu j : EReal) = y := by
  rw [Host.reduce_eq_fold_single (FloatOps.maximumf (F := Ideal) (φ := .f32)) x init h' h hu j, hi]
  exact fold_max_real Finset.univ ⟨⟨0, ha⟩, Finset.mem_univ _⟩ (x ∘ h.lift j) (fun i => hx _)

theorem max_bot {s : Shape} (x y : FVec Ideal s .f32) (j : s.Idx) (h : (x j : EReal) = ⊥) : maximumf x y j = y j := by
  show max (x j : EReal) (y j) = _
  rw [h, max_bot_left]

/-- Where the reference keeps a key. -/
def ρ (j : ℕ) : ℕ := if j < 256 then 16384 + j else j - 256

theorem sum_swap (f : ℕ → ℝ) (a b : ℕ) :
    ∑ j ∈ Finset.range (a + b), f (if j < a then b + j else j - a) = ∑ j ∈ Finset.range (b + a), f j := by
  rw [Finset.sum_range_add, Finset.sum_range_add, add_comm]
  congr 1
  · exact Finset.sum_congr rfl fun x hx => by rw [if_neg (by omega), Nat.add_sub_cancel_left]
  · exact Finset.sum_congr rfl fun x hx => by rw [if_pos (Finset.mem_range.1 hx)]

/-- A sum over the keys in the reference's order is the sum over them. -/
theorem sum_ρ (f : ℕ → ℝ) : ∑ x : Fin 16640, f (ρ x) = ∑ j ∈ Finset.range 16640, f j :=
  (Finset.sum_range fun j => f (ρ j)).symm.trans (sum_swap f 256 16384)

end Cert.Proof.Spec

end
-- ==== Proof.Pay.lean ====
/-
  The kernel's vector expressions read at an index, at the ideal values.
-/
module

public import proofs.«01_k».proof.Proof.HeadRun
public import proofs.«01_k».proof.Proof.Spec
public import Idealize.ShloMosaic.Lib.Pointwise
public import Idealize.ShloMosaic.Lib.IdealHost

@[expose] public section

noncomputable section

namespace Cert.Proof.KernelIdeal

open Cert.KernelIdeal Cert.KernelIdeal.Gen
open Idealize.ShloMosaic Idealize.ShloMosaic.TcCoe

/-- A finite sum of reals is the sum of their extended values. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale of the scores. -/
def kq : ℝ := (8 * Real.log 2)⁻¹

theorem named_kq : (Named.named (F := Ideal) κ "qk_scale" (φ := .f32) 1043900987#32 : EReal) = (kq : EReal) := rfl
theorem named_none (b : BitVec 32) : (Named.named (F := Ideal) κ "no_score" (φ := .f32) b : EReal) = ⊥ := rfl

/-- A tile of values beside a column of ones, read at a lane of the accumulator. -/
def vx (v : Vec Ideal S1280x128 .bf16) (x : Fin 1280) (e : Fin 256) : EReal :=
  if h : e.val < 128 then v (ix2 x ⟨e.val, h⟩) else if e.val = 128 then 1 else 0

theorem ones_eq (k : ℕ) (h : k < 128) : (Scalar.select (IntOp.cmpi CmpIPredicate.eq (BitVec.ofNat 32 k) 0#32) (1 : EReal) 0) = if k = 0 then 1 else 0 := by
  have : (IntOp.cmpi CmpIPredicate.eq (BitVec.ofNat 32 k) 0#32) = if k = 0 then 1#1 else 0#1 :=
    (by decide +kernel : ∀ x : Fin 128, (IntOp.cmpi CmpIPredicate.eq (BitVec.ofNat 32 x.val) 0#32) = if x.val = 0 then 1#1 else 0#1) ⟨k, h⟩
  rw [this]; split <;> rfl

/-- An accumulator taking in a tile. -/
theorem pay45_apply (p : Vec Ideal S512x1280 .bf16) (v : Vec Ideal S1280x128 .bf16) (a : Vec Ideal S512x128 .f32) (acc : Vec Ideal S1x512x256 .f32) (r : Fin 512) (e : Fin 256) :
    k0_pay45 k0_pay41 p v a acc (ix3 0 r e)
      = a (ix2 r ⟨e.val % 128, Nat.mod_lt _ (by decide)⟩) * acc (ix3 0 r e) + ∑ x : Fin 1280, (p (ix2 r x) : EReal) * vx v x e := by
  have he := e.isLt
  pointwise [k0_pay45, k0_pay41]
  unfold vx
  by_cases h : e.val < 128
  · have : e.val % 128 = e.val := Nat.mod_eq_of_lt h
    simp only [h, dif_pos, this]
  · have : e.val % 128 = e.val - 128 := by omega
    simp only [h, dif_neg, not_false_eq_true, this]
    rw [ones_eq _ (by omega)]
    simp only [show (e.val - 128 = 0) ↔ e.val = 128 by omega]

theorem pay55_apply (p : Vec Ideal S512x1280 .bf16) (v : Vec Ideal S1280x128 .bf16) (a : Vec Ideal S512x128 .f32) (acc : Vec Ideal S1x512x256 .f32) (r : Fin 512) (e : Fin 256) :
    k0_pay55 k0_pay41 p v a acc (ix3 0 r e)
      = a (ix2 r ⟨e.val % 128, Nat.mod_lt _ (by decide)⟩) * acc (ix3 0 r e) + ∑ x : Fin 1280, (p (ix2 r x) : EReal) * vx v x e :=
  pay45_apply p v a acc r e

theorem pay47_apply (m : Vec Ideal S1x512x128 .f32) (b : Vec Ideal S512x128 .f32) (r : Fin 512) (l : Fin 128) :
    k0_pay47 m b (ix2 r l) = max (m (ix3 0 r l) : EReal) (b (ix2 r l)) := by
  pointwise [k0_pay47, k0_pay46]

theorem pay57_apply (m : Vec Ideal S1x512x128 .f32) (b : Vec Ideal S512x128 .f32) (r : Fin 512) (l : Fin 128) :
    k0_pay57 m b (ix2 r l) = max (m (ix3 0 r l) : EReal) (b (ix2 r l)) := pay47_apply m b r l

theorem pay49_apply (m : Vec Ideal S1x512x128 .f32) (b : Vec Ideal S512x128 .f32) (r : Fin 512) (l : Fin 128) :
    k0_pay49 (k0_pay48 m b) (ix2 r l) = Ideal.exp2 (m (ix3 0 r l) - max (m (ix3 0 r l) : EReal) (b (ix2 r l))) := by
  pointwise [k0_pay49, k0_pay48, k0_pay47, k0_pay46]
  rfl

theorem pay59_apply (m : Vec Ideal S1x512x128 .f32) (b : Vec Ideal S512x128 .f32) (r : Fin 512) (l : Fin 128) :
    k0_pay59 (k0_pay58 m b) (ix2 r l) = Ideal.exp2 (m (ix3 0 r l) - max (m (ix3 0 r l) : EReal) (b (ix2 r l))) := pay49_apply m b r l

theorem pay50_apply (m : Vec Ideal S512x128 .f32) (s : Vec Ideal S512x1280 .f32) (r : Fin 512) (x : Fin 1280) :
    k0_pay50 m s (ix2 r x) = Ideal.exp2 (s (ix2 r x) - m (ix2 r 0)) := by
  pointwise [k0_pay50]
  rfl

theorem pay60_apply (m : Vec Ideal S512x128 .f32) (s : Vec Ideal S512x1280 .f32) (r : Fin 512) (x : Fin 1280) :
    k0_pay60 m s (ix2 r x) = Ideal.exp2 (s (ix2 r x) - m (ix2 r 0)) := pay50_apply m s r x

theorem pay51_apply (m : Vec Ideal S512x128 .f32) (r : Fin 512) (l : Fin 128) :
    k0_pay51 (F := Ideal) m (ix3 0 r l) = m (ix2 r l) := by
  pointwise [k0_pay51]

theorem pay61_apply (m : Vec Ideal S512x128 .f32) (r : Fin 512) (l : Fin 128) :
    k0_pay61 (F := Ideal) m (ix3 0 r l) = m (ix2 r l) := pay51_apply m r l

theorem pay43_apply (s : Vec Ideal S512x1280 .f32) (r : Fin 512) (x : Fin 1280) : k0_pay43 (F := Ideal) s (ix2 r x) = s (ix2 r x) := by
  pointwise [k0_pay43]

theorem pay53_apply (s : Vec Ideal S512x1280 .f32) (r : Fin 512) (x : Fin 1280) : k0_pay53 (F := Ideal) s (ix2 r x) = s (ix2 r x) := pay43_apply s r x

theorem pay62_apply (s : Vec Ideal S1280x128 .bf16) (r : Fin 1280) (x : Fin 128) : k0_pay62 s (ix2 r x) = s (ix2 r x) := by
  pointwise [k0_pay62]

theorem pay44_real (s : Vec Ideal S512x1280 .f32) (hs : ∀ y, ∃ x : ℝ, (s y : EReal) = x) : ∃ B : Fin 512 → ℝ, ∀ r l, k0_pay44 (F := Ideal) s (ix2 r l) = (B r : EReal) := by
  have h : ∀ r : Fin 512, ∃ x : ℝ, (reduceFold reduces_S512x1280_S512 (FloatOps.maximumf (F := Ideal) (φ := .f32)) (FloatOps.ofBits (F := Ideal) FTy.f32 4286578688#32) s (ix1 r) : EReal) = x := fun r => by
    rw [reduceFold_eq_fold]
    have hne : (Finset.univ.filter fun i => reduces_S512x1280_S512.drop i = ix1 r).Nonempty :=
      ⟨reduces_S512x1280_S512.lift (ix1 r) ⟨0, by decide⟩, Finset.mem_filter.2 ⟨Finset.mem_univ _, Shape.Reduces.drop_lift _ _ _⟩⟩
    exact Spec.fold_max_real _ hne _ hs
  choose B hB using h
  refine ⟨B, fun r l => ?_⟩
  rw [← hB r]
  pointwise [k0_pay44]

/-- One component's score: the products over that component's half of a head's lanes. -/
def sc (Q K : ℕ → ℝ) (u cc : ℕ) : ℝ := ∑ x : Fin 128, if x.val / 64 = cc then Q (128 * u + x) * kq * K (128 * u + x) else 0

theorem sel0 (x : Fin 128) (a : EReal) : Scalar.select
        (IntOp.andi (IntOp.cmpi CmpIPredicate.sge (BitVec.ofNat 32 x.val) 0#32)
          (IntOp.cmpi CmpIPredicate.slt (BitVec.ofNat 32 x.val) 64#32)) a 0 = if x.val / 64 = 0 then a else 0 := by
  have : (IntOp.andi (IntOp.cmpi CmpIPredicate.sge (BitVec.ofNat 32 x.val) 0#32)
          (IntOp.cmpi CmpIPredicate.slt (BitVec.ofNat 32 x.val) 64#32)) = if x.val / 64 = 0 then 1#1 else 0#1 := by
    revert x; decide +kernel
  rw [this]; split <;> rfl

theorem sel1 (x : Fin 128) (a : EReal) : Scalar.select
        (IntOp.andi (IntOp.cmpi CmpIPredicate.sge (BitVec.ofNat 32 x.val) 64#32)
          (IntOp.cmpi CmpIPredicate.slt (BitVec.ofNat 32 x.val) 128#32)) a 0 = if x.val / 64 = 1 then a else 0 := by
  have : (IntOp.andi (IntOp.cmpi CmpIPredicate.sge (BitVec.ofNat 32 x.val) 64#32)
          (IntOp.cmpi CmpIPredicate.slt (BitVec.ofNat 32 x.val) 128#32)) = if x.val / 64 = 1 then 1#1 else 0#1 := by
    revert x; decide +kernel
  rw [this]; split <;> rfl

theorem score0_apply (q : Vec Ideal S512x128 .f32) (k : Vec Ideal S1280x128 .bf16) (r : Fin 512) (j : Fin 1280) (u : ℕ) (Q K : ℕ → ℝ)
    (hq : ∀ x : Fin 128, q (ix2 r x) = (Q (128 * u + x) : EReal)) (hk : ∀ x : Fin 128, k (ix2 j x) = (K (128 * u + x) : EReal)) :
    score0 q k (ix2 r j) = (sc Q K u 0 : EReal) := by
  pointwise [score0, k0_pay42]
  unfold sc
  rw [coe_sum]
  refine Finset.sum_congr rfl fun x _ => ?_
  rw [sel0, hq, hk, named_kq]
  split
  · simp
  · simp

theorem score1_apply (q : Vec Ideal S512x128 .f32) (k : Vec Ideal S1280x128 .bf16) (r : Fin 512) (j : Fin 1280) (u : ℕ) (Q K : ℕ → ℝ)
    (hq : ∀ x : Fin 128, q (ix2 r x) = (Q (128 * u + x) : EReal)) (hk : ∀ x : Fin 128, k (ix2 j x) = (K (128 * u + x) : EReal)) :
    score1 q k (ix2 r j) = (sc Q K u 1 : EReal) := by
  pointwise [score1, k0_pay52]
  unfold sc
  rw [coe_sum]
  refine Finset.sum_congr rfl fun x _ => ?_
  rw [sel1, hq, hk, named_kq]
  split
  · simp
  · simp

/-- One head's normalised difference, at the ideal values. -/
def nrm (lam : EReal) (a b : Fin 256 → EReal) (g : Fin 128 → EReal) (l : Fin 128) : EReal :=
  let o : Fin 128 → EReal := fun l => Ideal.div (a ⟨l.val, by omega⟩) (a 128) - lam * Ideal.div (b ⟨l.val, by omega⟩) (b 128)
  o l * Ideal.rsqrt (Ideal.div (∑ x : Fin 128, o x * o x) (Ideal.ofBits FTy.f32 1124073472#32) + Ideal.ofBits FTy.f32 925353388#32)
    * (g l * Ideal.ofBits FTy.f32 1059388764#32)

theorem pay14_apply (lam : FVec Ideal S1x1 .f32) (a b : Vec Ideal S1x512x256 .f32) (g : Vec Ideal S1x128 .f32) (r : Fin 512) (l : Fin 128) :
    k0_pay14 lam (k0_pay13 a) b g (ix2 r l)
      = nrm (lam (ix2 0 0)) (fun e => a (ix3 0 r e)) (fun e => b (ix3 0 r e)) (fun x => g (ix2 0 x)) l := by
  pointwise [k0_pay14, k0_pay13]
  rfl

theorem pay12_apply (a : Vec Ideal S8x64 .f32) : k0_pay12 a (ix2 0 0) =
    Ideal.exp (∑ x : Fin 64, (a (ix2 0 x) : EReal) * a (ix2 1 x)) - Ideal.exp (∑ x : Fin 64, (a (ix2 2 x) : EReal) * a (ix2 3 x))
      + Ideal.ofBits FTy.f32 1052116297#32 := by
  pointwise [k0_pay12]

end Cert.Proof.KernelIdeal

end
-- ==== Proof.Steps.lean ====
/-
  One head's step read entry by entry: which rows of the running maxima and of the accumulators it writes, and what.
-/
module

public import proofs.«01_k».proof.Proof.Pay

@[expose] public section

noncomputable section

namespace Cert.Proof.KernelIdeal

open Cert.KernelIdeal Cert.KernelIdeal.Gen
open Idealize.ShloMosaic Idealize.ShloMosaic.TcCoe

/-- The row of the running maxima and of the accumulators that holds component `c` of head `h`. -/
def row (h : Fin 8) (c : Fin 2) : Fin 16 := ⟨2 * h.val + c.val, by omega⟩
/-- The head before. -/
def prev (u : Fin 8) : Fin 8 := ⟨(u.val + 7) % 8, Nat.mod_lt _ (by decide)⟩

theorem off14 : (![14, 0, 0] : Fin 3 → ℕ) = ![(row 7 0).val, 0, 0] := rfl
theorem off15 : (![15, 0, 0] : Fin 3 → ℕ) = ![(row 7 1).val, 0, 0] := rfl
theorem off3_eq0 : ∀ u : Fin 8, k0_off3 (BitVec.ofNat 32 u.val) 0#32 = ![(row (prev u) 0).val, 0, 0] := by decide +kernel
theorem off3_eq1 : ∀ u : Fin 8, k0_off3 (BitVec.ofNat 32 u.val) 1#32 = ![(row (prev u) 1).val, 0, 0] := by decide +kernel
theorem off4_eq : ∀ u : Fin 8, k0_off4 (BitVec.ofNat 32 u.val) = ![(row (prev u) 1).val, 0, 0] := by decide +kernel
theorem off5_eq : ∀ u : Fin 8, k0_off5 (BitVec.ofNat 32 u.val) = ![(row u 0).val, 0, 0] := by decide +kernel
theorem row_ne : ∀ (u v : Fin 8), row u 0 ≠ row v 1 := by decide +kernel
theorem row_inj : ∀ (u v : Fin 8) (c d : Fin 2), row u c = row v d → u = v ∧ c = d := by decide +kernel
theorem prev_ne : ∀ u : Fin 8, prev u ≠ u := by decide +kernel

theorem mAt_apply (x : Vec Ideal S16x512x128 .f32) (off) (inb) (i : Fin 16) (h : off = ![i.val, 0, 0]) (r : Fin 512) (l : Fin 128) :
    mAt x off inb (ix3 0 r l) = x (ix3 i r l) := by
  subst h
  unfold mAt VecWindow.window
  refine congrArg x (funext fun a => Fin.ext ?_)
  fin_cases a
  · show i.val + 1 * 0 = i.val; omega
  · show 0 + 1 * r.val = r.val; omega
  · show 0 + 1 * l.val = l.val; omega

theorem accAt_apply (x : Vec Ideal S16x512x256 .f32) (off) (inb) (i : Fin 16) (h : off = ![i.val, 0, 0]) (r : Fin 512) (l : Fin 256) :
    accAt x off inb (ix3 0 r l) = x (ix3 i r l) := by
  subst h
  unfold accAt VecWindow.window
  refine congrArg x (funext fun a => Fin.ext ?_)
  fin_cases a
  · show i.val + 1 * 0 = i.val; omega
  · show 0 + 1 * r.val = r.val; omega
  · show 0 + 1 * l.val = l.val; omega

theorem putM_apply (x : Vec Ideal S16x512x128 .f32) (off) (w : Vec Ideal S1x512x128 .f32) (o : Fin 16) (h : off = ![o.val, 0, 0]) (i : Fin 16) (r : Fin 512) (l : Fin 128) :
    VecWindow.put x off S1x512x128.size w (ix3 i r l) = if i = o then w (ix3 0 r l) else x (ix3 i r l) := by
  subst h
  unfold VecWindow.put
  by_cases hi : i = o
  · subst hi
    have hm : ∀ a : Fin 3, (![i.val, 0, 0] : Fin 3 → ℕ) a ≤ ((ix3 i r l : S16x512x128.Idx) a).val ∧ ((ix3 i r l : S16x512x128.Idx) a).val < (![i.val, 0, 0] : Fin 3 → ℕ) a + S1x512x128.size a := by
      intro a
      fin_cases a
      · exact ⟨le_rfl, Nat.lt_succ_self _⟩
      · exact ⟨Nat.zero_le _, by show r.val < 0 + 512; omega⟩
      · exact ⟨Nat.zero_le _, by show l.val < 0 + 128; omega⟩
    rw [dif_pos hm, if_pos rfl]
    refine congrArg w (funext fun a => Fin.ext ?_)
    fin_cases a
    · show i.val - i.val = 0; omega
    · show r.val - 0 = r.val; omega
    · show l.val - 0 = l.val; omega
  · rw [if_neg hi, dif_neg]
    intro hm
    have h0 := hm 0
    exact hi (Fin.ext (by
      have h1 : o.val ≤ i.val := h0.1
      have h2 : i.val < o.val + 1 := h0.2
      omega))

theorem putAcc_apply (x : Vec Ideal S16x512x256 .f32) (off) (w : Vec Ideal S1x512x256 .f32) (o : Fin 16) (h : off = ![o.val, 0, 0]) (i : Fin 16) (r : Fin 512) (l : Fin 256) :
    VecWindow.put x off S1x512x256.size w (ix3 i r l) = if i = o then w (ix3 0 r l) else x (ix3 i r l) := by
  subst h
  unfold VecWindow.put
  by_cases hi : i = o
  · subst hi
    have hm : ∀ a : Fin 3, (![i.val, 0, 0] : Fin 3 → ℕ) a ≤ ((ix3 i r l : S16x512x256.Idx) a).val ∧ ((ix3 i r l : S16x512x256.Idx) a).val < (![i.val, 0, 0] : Fin 3 → ℕ) a + S1x512x256.size a := by
      intro a
      fin_cases a
      · exact ⟨le_rfl, Nat.lt_succ_self _⟩
      · exact ⟨Nat.zero_le _, by show r.val < 0 + 512; omega⟩
      · exact ⟨Nat.zero_le _, by show l.val < 0 + 256; omega⟩
    rw [dif_pos hm, if_pos rfl]
    refine congrArg w (funext fun a => Fin.ext ?_)
    fin_cases a
    · show i.val - i.val = 0; omega
    · show r.val - 0 = r.val; omega
    · show l.val - 0 = l.val; omega
  · rw [if_neg hi, dif_neg]
    intro hm
    have h0 := hm 0
    exact hi (Fin.ext (by
      have h1 : o.val ≤ i.val := h0.1
      have h2 : i.val < o.val + 1 := h0.2
      omega))

/-- What the first component of the pending head still owes its accumulator. -/
def owedP (S : St Ideal) (i : Fin 16) (r : Fin 512) (e : Fin 256) : EReal :=
  S.aa (ix2 r ⟨e.val % 128, Nat.mod_lt _ (by decide)⟩) * S.acc (ix3 i r e) + ∑ x : Fin 1280, (S.pa (ix2 r x) : EReal) * vx S.vp x e
/-- What the second component's running maximum becomes, -/
def nextM (S : St Ideal) (i : Fin 16) (r : Fin 512) (l : Fin 128) : EReal := max (S.m (ix3 i r l) : EReal) (S.mb (ix2 r l))
/-- and its accumulator. -/
def owedS (S : St Ideal) (i : Fin 16) (r : Fin 512) (e : Fin 256) : EReal :=
  Ideal.exp2 (S.m (ix3 i r ⟨e.val % 128, Nat.mod_lt _ (by decide)⟩) - nextM S i r ⟨e.val % 128, Nat.mod_lt _ (by decide)⟩) * S.acc (ix3 i r e)
    + ∑ x : Fin 1280, Ideal.exp2 (S.sb (ix2 r x) - nextM S i r 0) * vx S.vp x e

variable (q : Vec Ideal S512x1024 .f32) (k v : Vec Ideal S1280x1024 .bf16) (S : St Ideal) (u : Fin 8)

theorem stepA_m (i : Fin 16) (r : Fin 512) (l : Fin 128) :
    (stepA u q k S).m (ix3 i r l) = if i = row (prev u) 1 then nextM S i r l else S.m (ix3 i r l) := by
  refine (putM_apply S.m _ _ _ (off4_eq u) i r l).trans ?_
  by_cases h : i = row (prev u) 1
  · rw [if_pos h, if_pos h, pay51_apply, pay47_apply, mAt_apply _ _ _ _ (off4_eq u), ← h]; rfl
  · rw [if_neg h, if_neg h]

theorem stepA_acc (i : Fin 16) (r : Fin 512) (e : Fin 256) :
    (stepA u q k S).acc (ix3 i r e) = if i = row (prev u) 0 then owedP S i r e else S.acc (ix3 i r e) := by
  refine (putAcc_apply S.acc _ _ _ (off3_eq0 u) i r e).trans ?_
  by_cases h : i = row (prev u) 0
  · rw [if_pos h, if_pos h, pay45_apply, accAt_apply _ _ _ _ (off3_eq0 u), ← h]; rfl
  · rw [if_neg h, if_neg h]

theorem stepA_ab (r : Fin 512) (l : Fin 128) :
    (stepA u q k S).ab (ix2 r l) = Ideal.exp2 (S.m (ix3 (row (prev u) 1) r l) - nextM S (row (prev u) 1) r l) := by
  refine (pay49_apply _ _ r l).trans ?_
  rw [mAt_apply _ _ _ _ (off4_eq u)]; rfl

theorem stepA_pb (r : Fin 512) (x : Fin 1280) :
    (stepA u q k S).pb (ix2 r x) = Ideal.exp2 (S.sb (ix2 r x) - nextM S (row (prev u) 1) r 0) := by
  refine (pay50_apply _ _ r x).trans ?_
  rw [pay47_apply, mAt_apply _ _ _ _ (off4_eq u)]; rfl

theorem stepA_ma : (stepA u q k S).ma = k0_pay44 (F := Ideal) (score0 (qOf q u) (kOf k u)) := by dsimp only [stepA]
theorem stepA_sa : (stepA u q k S).sa = k0_pay43 (F := Ideal) (score0 (qOf q u) (kOf k u)) := by dsimp only [stepA]

theorem pay54_eq (s : Vec Ideal S512x1280 .f32) : k0_pay54 (F := Ideal) s = k0_pay44 (F := Ideal) s := by
  unfold k0_pay54 k0_pay44
  rfl

/-- The running maxima after head `u`. -/
theorem step_m (i : Fin 16) (r : Fin 512) (l : Fin 128) :
    (stepHead u q k v S).m (ix3 i r l) = if i = row u 0 then max (S.m (ix3 i r l) : EReal) (k0_pay44 (F := Ideal) (score0 (qOf q u) (kOf k u)) (ix2 r l))
      else if i = row (prev u) 1 then nextM S i r l else S.m (ix3 i r l) := by
  refine (putM_apply (stepA u q k S).m _ _ _ (off5_eq u) i r l).trans ?_
  by_cases h : i = row u 0
  · rw [if_pos h, if_pos h, pay61_apply, pay57_apply, mAt_apply _ _ _ _ (off5_eq u), ← h, stepA_m, if_neg (h ▸ row_ne u (prev u)), stepA_ma]
  · rw [if_neg h, if_neg h, stepA_m]

/-- The accumulators. -/
theorem step_acc (i : Fin 16) (r : Fin 512) (e : Fin 256) :
    (stepHead u q k v S).acc (ix3 i r e) = if i = row (prev u) 0 then owedP S i r e
      else if i = row (prev u) 1 then owedS S i r e else S.acc (ix3 i r e) := by
  refine (putAcc_apply (stepA u q k S).acc _ _ _ (off3_eq1 u) i r e).trans ?_
  by_cases h : i = row (prev u) 1
  · have hn : ¬ i = row (prev u) 0 := fun h' => row_ne (prev u) (prev u) (h' ▸ h)
    rw [if_pos h, if_neg hn, if_pos h, pay55_apply, accAt_apply _ _ _ _ (off3_eq1 u), ← h, stepA_acc, if_neg hn, stepA_ab, ← h]
    simp only [stepA_pb, ← h]
    rfl
  · rw [if_neg h, if_neg h, stepA_acc]

theorem step_aa (r : Fin 512) (l : Fin 128) :
    (stepHead u q k v S).aa (ix2 r l) = Ideal.exp2 (S.m (ix3 (row u 0) r l) - max (S.m (ix3 (row u 0) r l) : EReal) (k0_pay44 (F := Ideal) (score0 (qOf q u) (kOf k u)) (ix2 r l))) := by
  refine (pay59_apply _ _ r l).trans ?_
  rw [mAt_apply _ _ _ _ (off5_eq u), stepA_m, if_neg (row_ne u (prev u)), stepA_ma]

theorem step_pa (r : Fin 512) (x : Fin 1280) :
    (stepHead u q k v S).pa (ix2 r x) = Ideal.exp2 (score0 (qOf q u) (kOf k u) (ix2 r x) - max (S.m (ix3 (row u 0) r 0) : EReal) (k0_pay44 (F := Ideal) (score0 (qOf q u) (kOf k u)) (ix2 r 0))) := by
  refine (pay60_apply _ _ r x).trans ?_
  rw [pay57_apply, mAt_apply _ _ _ _ (off5_eq u), stepA_m, if_neg (row_ne u (prev u)), stepA_ma, stepA_sa, pay43_apply]

theorem step_sb (r : Fin 512) (x : Fin 1280) : (stepHead u q k v S).sb (ix2 r x) = score1 (qOf q u) (kOf k u) (ix2 r x) := by
  show k0_pay53 (F := Ideal) (score1 (qOf q u) (kOf k u)) (ix2 r x) = _
  rw [pay53_apply]

theorem step_mb (r : Fin 512) (l : Fin 128) : (stepHead u q k v S).mb (ix2 r l) = k0_pay44 (F := Ideal) (score1 (qOf q u) (kOf k u)) (ix2 r l) := by
  dsimp only [stepHead, stepB]
  exact congrFun (pay54_eq _) _

theorem step_vp (x : Fin 1280) (l : Fin 128) : (stepHead u q k v S).vp (ix2 x l) = kOf v u (ix2 x l) := by
  show k0_pay62 (F := Ideal) (kOf v u) (ix2 x l) = _
  rw [pay62_apply]

theorem qOf_apply (r : Fin 512) (x : Fin 128) : qOf q u (ix2 r x) = q (ix2 r ⟨128 * u.val + x.val, by omega⟩) := by
  unfold qOf VecWindow.window
  refine congrArg q (funext fun a => Fin.ext ?_)
  have h0 : k0_off1 (BitVec.ofNat 32 u.val) 0 = 0 := congrFun (k0_off1_eq u) 0
  have h1 : k0_off1 (BitVec.ofNat 32 u.val) 1 = 128 * u.val := congrFun (k0_off1_eq u) 1
  fin_cases a
  · show k0_off1 (BitVec.ofNat 32 u.val) 0 + 1 * r.val = r.val; omega
  · show k0_off1 (BitVec.ofNat 32 u.val) 1 + 1 * x.val = 128 * u.val + x.val; omega

theorem kOf_apply (r : Fin 1280) (x : Fin 128) : kOf k u (ix2 r x) = k (ix2 r ⟨128 * u.val + x.val, by omega⟩) := by
  unfold kOf VecWindow.window
  refine congrArg k (funext fun a => Fin.ext ?_)
  have h0 : k0_off2 (BitVec.ofNat 32 u.val) 0 = 0 := congrFun (k0_off2_eq u) 0
  have h1 : k0_off2 (BitVec.ofNat 32 u.val) 1 = 128 * u.val := congrFun (k0_off2_eq u) 1
  fin_cases a
  · show k0_off2 (BitVec.ofNat 32 u.val) 0 + 1 * r.val = r.val; omega
  · show k0_off2 (BitVec.ofNat 32 u.val) 1 + 1 * x.val = 128 * u.val + x.val; omega

/-- The accumulators once the last head is settled. -/
theorem last_acc (i : Fin 16) (r : Fin 512) (e : Fin 256) :
    (stepLast S).acc (ix3 i r e) = if i = row 7 0 then owedP S i r e else if i = row 7 1 then owedS S i r e else S.acc (ix3 i r e) := by
  refine (putAcc_apply _ _ _ (row 7 1) off15 i r e).trans ?_
  by_cases h : i = row 7 1
  · have hn : ¬ i = row 7 0 := fun h' => row_ne 7 7 (h' ▸ h)
    rw [if_pos h, if_neg hn, if_pos h, pay55_apply, accAt_apply _ _ _ (row 7 1) off15, putAcc_apply _ _ _ (row 7 0) off14, if_neg (row_ne 7 7).symm, pay49_apply, mAt_apply _ _ _ (row 7 1) off15]
    simp only [pay50_apply, pay47_apply, mAt_apply _ _ _ (row 7 1) off15, ← h]
    rfl
  · rw [if_neg h, if_neg h, putAcc_apply _ _ _ (row 7 0) off14]
    by_cases h0 : i = row 7 0
    · rw [if_pos h0, if_pos h0, pay45_apply, accAt_apply _ _ _ (row 7 0) off14, ← h0]; rfl
    · rw [if_neg h0, if_neg h0]

end Cert.Proof.KernelIdeal

end
-- ==== Proof.Online.lean ====
/-
  The running softmax. For one block of queries, after the tiles below `n`, a head's accumulator is the sum over the keys
  seen so far of two to the score times the value, scaled by two to minus the running maximum; which real number the
  running maximum is does not matter. Head `u`'s step settles the head before it and leaves head `u` pending.
-/
module

public import proofs.«01_k».proof.Proof.Steps

@[expose] public section

noncomputable section

namespace Cert.Proof.KernelIdeal

open Cert.KernelIdeal Cert.KernelIdeal.Gen
open Idealize.ShloMosaic Idealize.ShloMosaic.TcCoe

variable (Q : Fin 512 → ℕ → ℝ) (K V : ℕ → ℕ → ℝ)

/-- The values of key `j` beside a one. -/
def vv (u j e : ℕ) : ℝ := if e < 128 then V j (128 * u + e) else if e = 128 then 1 else 0

/-- The weighted values of the keys of the first `n` tiles. -/
def W (u cc n : ℕ) (r : Fin 512) (e : ℕ) : ℝ := ∑ j ∈ Finset.range (1280 * n), (2 : ℝ) ^ sc (Q r) (K j) u cc * vv V u j e

theorem W_zero (u cc : ℕ) (r : Fin 512) (e : ℕ) : W Q K V u cc 0 r e = 0 := by simp [W]

theorem W_succ (u cc n : ℕ) (r : Fin 512) (e : ℕ) : W Q K V u cc (n + 1) r e
    = W Q K V u cc n r e + ∑ x : Fin 1280, (2 : ℝ) ^ sc (Q r) (K (1280 * n + x)) u cc * vv V u (1280 * n + x) e := by
  unfold W
  rw [Nat.mul_succ, Finset.sum_range_add, Finset.sum_range (n := 1280)]

theorem coe_max (a b : ℝ) : ((max a b : ℝ) : EReal) = max (a : EReal) (b : EReal) := EReal.coe_strictMono.monotone.map_max

theorem two_mul_exp (a b : ℝ) : (2 : ℝ) ^ (a + b) = (2 : ℝ) ^ a * (2 : ℝ) ^ b := Real.rpow_add (by norm_num) a b

theorem exp2_sub (a b : ℝ) : Ideal.exp2 ((a : EReal) - (b : EReal)) = ((2 : ℝ) ^ (a - b) : ℝ) := by
  rw [← EReal.coe_sub, Ideal.exp2_coe]; rfl

/-- A tile taken in under a new maximum. -/
theorem take_in (M X w : ℝ) (s v : Fin 1280 → ℝ) :
    Ideal.exp2 ((M : EReal) - (X : EReal)) * (((2 : ℝ) ^ (-M) * w : ℝ) : EReal) + ∑ x, Ideal.exp2 ((s x : EReal) - (X : EReal)) * (v x : EReal)
      = (((2 : ℝ) ^ (-X) * (w + ∑ x, (2 : ℝ) ^ s x * v x) : ℝ) : EReal) := by
  have h1 : ∀ x, Ideal.exp2 ((s x : EReal) - (X : EReal)) * (v x : EReal) = (((2 : ℝ) ^ (-X) * ((2 : ℝ) ^ s x * v x) : ℝ) : EReal) := fun x => by
    rw [exp2_sub, ← EReal.coe_mul, sub_eq_add_neg, two_mul_exp]
    congr 1; ring
  simp only [h1]
  rw [← coe_sum, exp2_sub, ← EReal.coe_mul, ← EReal.coe_add, ← Finset.mul_sum, sub_eq_add_neg, two_mul_exp]
  congr 1
  have h2 : (2 : ℝ) ^ M * (2 : ℝ) ^ (-M) = 1 := by rw [← two_mul_exp]; simp
  linear_combination (2 : ℝ) ^ (-X) * w * h2

/-- A tile of values beside its ones, at real values. -/
theorem vx_real (v : Vec Ideal S1280x128 .bf16) (u n : ℕ) (hv : ∀ (x : Fin 1280) (l : Fin 128), (v (ix2 x l) : EReal) = (V (1280 * n + x) (128 * u + l) : ℝ))
    (x : Fin 1280) (e : Fin 256) : vx v x e = (vv V u (1280 * n + x) e : ℝ) := by
  unfold vx vv
  by_cases h : e.val < 128
  · rw [dif_pos h, if_pos h, hv]
  · rw [dif_neg h, if_neg h]
    by_cases h' : e.val = 128
    · rw [if_pos h', if_pos h']; rfl
    · rw [if_neg h', if_neg h']; rfl

/-- A component whose accumulator holds the keys of the first `n` tiles. -/
def Settled (S : St Ideal) (h : Fin 8) (c : Fin 2) (n : ℕ) : Prop :=
  ∃ M : Fin 512 → ℝ, (∀ r l, (S.m (ix3 (row h c) r l) : EReal) = M r)
    ∧ ∀ r e, (S.acc (ix3 (row h c) r e) : EReal) = ((2 : ℝ) ^ (-M r) * W Q K V h c n r e : ℝ)

/-- The first component of a head whose last tile is owed. -/
def PendP (S : St Ideal) (h : Fin 8) (n : ℕ) : Prop :=
  ∃ M : Fin 512 → ℝ, (∀ r l, (S.m (ix3 (row h 0) r l) : EReal) = M r)
    ∧ ∀ r e, owedP S (row h 0) r e = ((2 : ℝ) ^ (-M r) * W Q K V h 0 n r e : ℝ)

/-- The second component. -/
def PendS (S : St Ideal) (h : Fin 8) (n : ℕ) : Prop :=
  ∃ M : Fin 512 → ℝ, (∀ r l, nextM S (row h 1) r l = M r)
    ∧ ∀ r e, owedS S (row h 1) r e = ((2 : ℝ) ^ (-M r) * W Q K V h 1 n r e : ℝ)

/-- Before head `u`'s step, the heads holding `cnt h` tiles: the head before is pending, the others are settled. -/
def Inv (S : St Ideal) (p : Fin 8) (cnt : Fin 8 → ℕ) : Prop :=
  PendP Q K V S p (cnt p) ∧ PendS Q K V S p (cnt p) ∧ ∀ h, h ≠ p → ∀ c, Settled Q K V S h c (cnt h)

theorem step_inv (q : Vec Ideal S512x1024 .f32) (k v : Vec Ideal S1280x1024 .bf16) (n : ℕ)
    (hq : ∀ (r : Fin 512) (x : Fin 1024), (q (ix2 r x) : EReal) = (Q r x : ℝ))
    (hk : ∀ (x : Fin 1280) (l : Fin 1024), (k (ix2 x l) : EReal) = (K (1280 * n + x) l : ℝ))
    (hv : ∀ (x : Fin 1280) (l : Fin 1024), (v (ix2 x l) : EReal) = (V (1280 * n + x) l : ℝ))
    (S : St Ideal) (u : Fin 8) (cnt cnt' : Fin 8 → ℕ) (hu : cnt u = n) (hu' : cnt' u = n + 1) (hc : ∀ h, h ≠ u → cnt' h = cnt h)
    (hI : Inv Q K V S (prev u) cnt) : Inv Q K V (stepHead u q k v S) u cnt' := by
  have hs0 : ∀ (r : Fin 512) (x : Fin 1280), (score0 (qOf q u) (kOf k u) (ix2 r x) : EReal) = (sc (Q r) (K (1280 * n + x)) u 0 : ℝ) :=
    fun r x => score0_apply _ _ r x u _ _ (fun l => by rw [qOf_apply, hq]) (fun l => by rw [kOf_apply, hk])
  have hs1 : ∀ (r : Fin 512) (x : Fin 1280), (score1 (qOf q u) (kOf k u) (ix2 r x) : EReal) = (sc (Q r) (K (1280 * n + x)) u 1 : ℝ) :=
    fun r x => score1_apply _ _ r x u _ _ (fun l => by rw [qOf_apply, hq]) (fun l => by rw [kOf_apply, hk])
  obtain ⟨B0, hB0⟩ := pay44_real (score0 (qOf q u) (kOf k u)) (fun y => by
    obtain ⟨r, x, rfl⟩ : ∃ (r : Fin 512) (x : Fin 1280), y = ix2 r x := ⟨y 0, y 1, (ix2_eta y).symm⟩
    exact ⟨_, hs0 r x⟩)
  obtain ⟨B1, hB1⟩ := pay44_real (score1 (qOf q u) (kOf k u)) (fun y => by
    obtain ⟨r, x, rfl⟩ : ∃ (r : Fin 512) (x : Fin 1280), y = ix2 r x := ⟨y 0, y 1, (ix2_eta y).symm⟩
    exact ⟨_, hs1 r x⟩)
  have hvp : ∀ (x : Fin 1280) (e : Fin 256), vx (stepHead u q k v S).vp x e = (vv V u (1280 * n + x) e : ℝ) :=
    vx_real V _ u n (fun x l => by rw [step_vp, kOf_apply, hv])
  obtain ⟨hP, hS, hO⟩ := hI
  have hup : u ≠ prev u := (prev_ne u).symm
  refine ⟨?_, ?_, ?_⟩
  · obtain ⟨M, hM, hA⟩ := hO u hup 0
    refine ⟨fun r => max (M r) (B0 r), fun r l => ?_, fun r e => ?_⟩
    · rw [step_m, if_pos rfl, hM, hB0, coe_max]
    · unfold owedP
      rw [step_acc, if_neg (fun h => hup (row_inj _ _ _ _ h).1), if_neg (row_ne u (prev u)), step_aa, hM, hB0, hA, ← coe_max]
      simp only [step_pa, hM, hB0, hs0, hvp, ← coe_max]
      rw [take_in, hu', W_succ, hu]; rfl
  · obtain ⟨M, hM, hA⟩ := hO u hup 1
    have hnm : ∀ r l, nextM (stepHead u q k v S) (row u 1) r l = ((max (M r) (B1 r) : ℝ) : EReal) := fun r l => by
      unfold nextM
      rw [step_m, if_neg (row_ne u u).symm, if_neg (fun h => hup (row_inj _ _ _ _ h).1), hM, step_mb, hB1, ← coe_max]
    refine ⟨fun r => max (M r) (B1 r), hnm, fun r e => ?_⟩
    unfold owedS
    simp only [hnm]
    rw [step_m, if_neg (row_ne u u).symm, if_neg (fun h => hup (row_inj _ _ _ _ h).1), hM,
      step_acc, if_neg (row_ne (prev u) u).symm, if_neg (fun h => hup (row_inj _ _ _ _ h).1), hA]
    simp only [step_sb, hs1, hvp]
    rw [take_in, hu', W_succ, hu]; rfl
  · intro h hne c
    rw [hc h hne]
    by_cases hp : h = prev u
    · subst hp
      fin_cases c
      · obtain ⟨M, hM, hA⟩ := hP
        refine ⟨M, fun r l => ?_, fun r e => ?_⟩
        · show ((stepHead u q k v S).m (ix3 (row (prev u) 0) r l) : EReal) = _
          rw [step_m, if_neg (fun h => hne (row_inj _ _ _ _ h).1), if_neg (row_ne _ _), hM]
        · show ((stepHead u q k v S).acc (ix3 (row (prev u) 0) r e) : EReal) = _
          rw [step_acc, if_pos rfl, hA]
      · obtain ⟨M, hM, hA⟩ := hS
        refine ⟨M, fun r l => ?_, fun r e => ?_⟩
        · show ((stepHead u q k v S).m (ix3 (row (prev u) 1) r l) : EReal) = _
          rw [step_m, if_neg (row_ne _ _).symm, if_pos rfl, hM]
        · show ((stepHead u q k v S).acc (ix3 (row (prev u) 1) r e) : EReal) = _
          rw [step_acc, if_neg (row_ne _ _).symm, if_pos rfl, hA]
    · obtain ⟨M, hM, hA⟩ := hO h hp c
      refine ⟨M, fun r l => ?_, fun r e => ?_⟩
      · rw [step_m, if_neg (fun h' => hne (row_inj _ _ _ _ h').1), if_neg (fun h' => hp (row_inj _ _ _ _ h').1), hM]
      · rw [step_acc, if_neg (fun h' => hp (row_inj _ _ _ _ h').1), if_neg (fun h' => hp (row_inj _ _ _ _ h').1), hA]

end Cert.Proof.KernelIdeal

end
-- ==== Proof.Blocks.lean ====
/-
  The blocks the kernel's body reads, as entries of the arrays @main was called with.
-/
module

public import proofs.«01_k».proof.Proof.Run
public import proofs.«01_k».proof.Proof.Online
public import Idealize.ShloMosaic.Lib.Claim
public import Idealize.ShloMosaic.Lib.Pipeline.ValueKit.Point

@[expose] public section

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

theorem idx0 : ∀ t : Fin cfg0.N, win0_0.index t = ![t.val / 13, 0] ∧ win0_1.index t = ![t.val % 13, 0] ∧ win0_2.index t = ![t.val % 13, 0] ∧ win0_3.index t = ![0, 0] ∧ win0_4.index t = ![0, 0] ∧ win0_5.index t = ![t.val / 13, 0] := by
  decide +kernel

theorem iq_apply (t : Fin cfg0.N) (r : Fin 512) (x : Fin 1024) :
    iblk m c 0 t (ix2 r x) = m ((c.tc : Thread nD τ).loc main_arg0) (ix2 ⟨t.val / 13 * 512 + r.val, by have := t.isLt; have : cfg0.N = 416 := rfl; omega⟩ x) := by
  blk_ext [iblk, V, idx0 t]

theorem ik_apply (t : Fin cfg0.N) (r : Fin 1280) (x : Fin 1024) :
    iblk m c 1 t (ix2 r x) = if h : t.val % 13 * 1280 + r.val < 16384 then m ((c.tc : Thread nD τ).loc main_arg1) (ix2 ⟨t.val % 13 * 1280 + r.val, h⟩ x)
      else m ((c.tc : Thread nD τ).loc main_arg3) (ix2 ⟨t.val % 13 * 1280 + r.val - 16384, by omega⟩ x) := by
  have : iblk m c 1 t (ix2 r x) = V m c main_v1 (ix2 ⟨t.val % 13 * 1280 + r.val, by omega⟩ x) := by
    blk_ext [iblk, idx0 t]
  rw [this]
  entry_read
  pointwise

theorem iv_apply (t : Fin cfg0.N) (r : Fin 1280) (x : Fin 1024) :
    iblk m c 2 t (ix2 r x) = if h : t.val % 13 * 1280 + r.val < 16384 then m ((c.tc : Thread nD τ).loc main_arg2) (ix2 ⟨t.val % 13 * 1280 + r.val, h⟩ x)
      else m ((c.tc : Thread nD τ).loc main_arg4) (ix2 ⟨t.val % 13 * 1280 + r.val - 16384, by omega⟩ x) := by
  have : iblk m c 2 t (ix2 r x) = V m c main_v3 (ix2 ⟨t.val % 13 * 1280 + r.val, by omega⟩ x) := by
    blk_ext [iblk, idx0 t]
  rw [this]
  entry_read
  pointwise

theorem ig_apply (t : Fin cfg0.N) (x : Fin 128) :
    iblk m c 4 t (ix2 0 x) = m ((c.tc : Thread nD τ).loc main_arg9) (ix1 x) := by
  have : iblk m c 4 t (ix2 0 x) = V m c main_v10 (ix2 0 x) := by
    blk_ext [iblk, idx0 t]
  rw [this]
  entry_read
  pointwise

/-- The eight rows the kernel takes its weight from. -/
def rows8 (a b c d : Vec Ideal S1x64 .f32) (e : Vec Ideal S4x64 .f32) : Vec Ideal S8x64 .f32 :=
  concatenate S8x64 0 [⟨S1x64, a⟩, ⟨S1x64, b⟩, ⟨S1x64, c⟩, ⟨S1x64, d⟩, ⟨S4x64, e⟩] concatenates_S1x64_S1x64_S1x64_S1x64_S4x64_S8x64_d0

theorem V_rows : V m c main_v9 = rows8 (broadcastInDim S1x64 ![1] bcast_S64_S1x64_1 (m ((c.tc : Thread nD τ).loc main_arg5)))
    (broadcastInDim S1x64 ![1] bcast_S64_S1x64_1 (m ((c.tc : Thread nD τ).loc main_arg6))) (broadcastInDim S1x64 ![1] bcast_S64_S1x64_1 (m ((c.tc : Thread nD τ).loc main_arg7)))
    (broadcastInDim S1x64 ![1] bcast_S64_S1x64_1 (m ((c.tc : Thread nD τ).loc main_arg8))) (broadcastInDim S4x64 ![] bcast_S_S4x64 (constant (F := Ideal) S_ .f32 0x00000000#32)) := by
  unfold V hostOps0
  simp only [StableHlo.after_cons, StableHlo.after_nil]
  after_results_step
  after_results_step
  refine (rfl : _ = rows8 _ _ _ _ _).trans ?_
  dsimp only [Matrix.cons_val]
  repeat after_results_step

theorem rows8_apply (a b c d e) (x : Fin 64) : rows8 a b c d e (ix2 0 x) = a (ix2 0 x) ∧ rows8 a b c d e (ix2 1 x) = b (ix2 0 x) ∧ rows8 a b c d e (ix2 2 x) = c (ix2 0 x) ∧ rows8 a b c d e (ix2 3 x) = d (ix2 0 x) := by
  refine ⟨?_, ?_, ?_, ?_⟩
  all_goals pointwise [rows8]

theorem il_apply (t : Fin cfg0.N) (x : Fin 64) :
    iblk m c 3 t (ix2 0 x) = m ((c.tc : Thread nD τ).loc main_arg5) (ix1 x) ∧ iblk m c 3 t (ix2 1 x) = m ((c.tc : Thread nD τ).loc main_arg6) (ix1 x)
     ∧ iblk m c 3 t (ix2 2 x) = m ((c.tc : Thread nD τ).loc main_arg7) (ix1 x) ∧ iblk m c 3 t (ix2 3 x) = m ((c.tc : Thread nD τ).loc main_arg8) (ix1 x) := by
  have : ∀ y : Fin 8, iblk m c 3 t (ix2 y x) = V m c main_v9 (ix2 y x) := fun y => by
    blk_ext [iblk, idx0 t]
  obtain ⟨h0, h1, h2, h3⟩ := rows8_apply (broadcastInDim S1x64 ![1] bcast_S64_S1x64_1 (m ((c.tc : Thread nD τ).loc main_arg5)))
    (broadcastInDim S1x64 ![1] bcast_S64_S1x64_1 (m ((c.tc : Thread nD τ).loc main_arg6))) (broadcastInDim S1x64 ![1] bcast_S64_S1x64_1 (m ((c.tc : Thread nD τ).loc main_arg7)))
    (broadcastInDim S1x64 ![1] bcast_S64_S1x64_1 (m ((c.tc : Thread nD τ).loc main_arg8))) (broadcastInDim S4x64 ![] bcast_S_S4x64 (constant (F := Ideal) S_ .f32 0x00000000#32)) x
  rw [this 0, this 1, this 2, this 3, V_rows, h0, h1, h2, h3]
  refine ⟨?_, ?_, ?_, ?_⟩
  all_goals pointwise

end Cert.Proof.KernelIdeal

end
-- ==== Proof.Kern.lean ====
/-
  The kernel's result: the running softmax over the grid's thirteen tiles of keys, the last head settled, and a block of
  the result as the layer's mathematics at its rows.
-/
module

public import proofs.«01_k».proof.Proof.Blocks

@[expose] public section

noncomputable section

namespace Cert.Proof.KernelIdeal

open Cert.KernelIdeal Cert.KernelIdeal.Gen
open Idealize.ShloMosaic Idealize.ShloMosaic.TcCoe

section Blocks
variable (Q : Fin 512 → ℕ → ℝ) (K V : ℕ → ℕ → ℝ)

theorem start_m (y) : ((start (F := Ideal)).m y : EReal) = Ideal.ofBits FTy.f32 4048155338#32 := by
  show k0_pay34 (F := Ideal) y = _
  pointwise [k0_pay34]
theorem start_acc (y) : ((start (F := Ideal)).acc y : EReal) = 0 := by
  show k0_pay35 (F := Ideal) y = _
  pointwise [k0_pay35]
theorem start_pa (y) : ((start (F := Ideal)).pa y : EReal) = 0 := by
  show k0_pay36 (F := Ideal) y = _
  pointwise [k0_pay36]
theorem start_sb (y) : ((start (F := Ideal)).sb y : EReal) = ⊥ := by
  show k0_pay38 (F := Ideal) y = _
  pointwise [k0_pay38]
  rfl
theorem start_mb (y) : ((start (F := Ideal)).mb y : EReal) = ⊥ := by
  show k0_pay39 (F := Ideal) y = _
  pointwise [k0_pay39]
  rfl

/-- Before a block's first tile no head holds a key. -/
theorem start_inv : Inv Q K V (start (F := Ideal)) 7 (fun _ => 0) := by
  obtain ⟨r0, hr⟩ := Spec.low_real
  refine ⟨⟨fun _ => r0, fun r l => by rw [start_m, hr], fun r e => ?_⟩, ⟨fun _ => r0, fun r l => ?_, fun r e => ?_⟩, fun h _ c => ⟨fun _ => r0, fun r l => by rw [start_m, hr], fun r e => ?_⟩⟩
  · unfold owedP
    simp only [start_acc, start_pa, W_zero, mul_zero, zero_mul, Finset.sum_const_zero, add_zero, EReal.coe_zero]
  · unfold nextM
    rw [start_m, start_mb, hr, max_bot_right]
  · unfold owedS nextM
    simp only [start_acc, start_sb, start_mb, start_m, hr, max_bot_right, W_zero, mul_zero, EReal.bot_sub, Ideal.exp2_bot, zero_mul, Finset.sum_const_zero, add_zero, EReal.coe_zero]
  · rw [start_acc, W_zero, mul_zero, EReal.coe_zero]

/-- A tile takes every head one tile of keys on. -/
theorem tile_inv (q : Vec Ideal S512x1024 .f32) (k v : Vec Ideal S1280x1024 .bf16) (n : ℕ)
    (hq : ∀ (r : Fin 512) (x : Fin 1024), (q (ix2 r x) : EReal) = (Q r x : ℝ))
    (hk : ∀ (x : Fin 1280) (l : Fin 1024), (k (ix2 x l) : EReal) = (K (1280 * n + x) l : ℝ))
    (hv : ∀ (x : Fin 1280) (l : Fin 1024), (v (ix2 x l) : EReal) = (V (1280 * n + x) l : ℝ))
    (S : St Ideal) (hI : Inv Q K V S 7 (fun _ => n)) : Inv Q K V (stepTile q k v S) 7 (fun _ => n + 1) := by
  let cnt : ℕ → Fin 8 → ℕ := fun i h => if h.val < i then n + 1 else n
  have step : ∀ (u : Fin 8) (S : St Ideal), Inv Q K V S (prev u) (cnt u) → Inv Q K V (stepHead u q k v S) u (cnt (u.val + 1)) := fun u S hS =>
    step_inv Q K V q k v n hq hk hv S u (cnt u) (cnt (u.val + 1)) (if_neg (lt_irrefl _)) (if_pos (Nat.lt_succ_self _))
      (fun h hh => by
        have : h.val ≠ u.val := fun e => hh (Fin.ext e)
        show (if _ then _ else _) = if _ then _ else _
        by_cases h' : h.val < u.val
        · rw [if_pos h', if_pos (by omega)]
        · rw [if_neg h', if_neg (by omega)]) hS
  have e0 : (fun _ : Fin 8 => n) = cnt 0 := rfl
  have e8 : (fun _ : Fin 8 => n + 1) = cnt 8 := funext fun h => (if_pos h.isLt).symm
  rw [e8]
  rw [e0] at hI
  exact step 7 _ (step 6 _ (step 5 _ (step 4 _ (step 3 _ (step 2 _ (step 1 _ (step 0 _ hI)))))))

/-- Once the last head is settled, every head holds its keys. -/
theorem last_inv (S : St Ideal) (n : ℕ) (hI : Inv Q K V S 7 (fun _ => n)) (h : Fin 8) (c : Fin 2) (r : Fin 512) :
    ∃ M : ℝ, ∀ e, ((stepLast S).acc (ix3 (row h c) r e) : EReal) = ((2 : ℝ) ^ (-M) * W Q K V h c n r e : ℝ) := by
  obtain ⟨⟨M0, -, h0⟩, ⟨M1, -, h1⟩, hO⟩ := hI
  by_cases h7 : h = 7
  · subst h7
    obtain rfl | rfl : c = 0 ∨ c = 1 := by omega
    · exact ⟨M0 r, fun e => by rw [last_acc, if_pos rfl, h0]; rfl⟩
    · exact ⟨M1 r, fun e => by rw [last_acc, if_neg (row_ne 7 7).symm, if_pos rfl, h1]; rfl⟩
  · obtain ⟨M, -, hM⟩ := hO h h7 c
    exact ⟨M r, fun e => by rw [last_acc, if_neg (fun e => h7 (row_inj _ _ _ _ e).1), if_neg (fun e => h7 (row_inj _ _ _ _ e).1), hM]⟩

end Blocks

/-- The masked score, in base two, is the component's own score. -/
theorem sc_eq (Q K : ℕ → ℝ) (u cc : ℕ) (hc : cc < 2) : sc Q K u cc = kq * ∑ x : Fin 64, Q (64 * (2 * u + cc) + x) * K (64 * (2 * u + cc) + x) := by
  unfold sc
  rw [show (∑ x : Fin 128, if x.val / 64 = cc then Q (128 * u + x) * kq * K (128 * u + x) else 0)
      = (∑ x : Fin 64, if x.val / 64 = cc then Q (128 * u + x) * kq * K (128 * u + x) else 0)
        + ∑ x : Fin 64, if (64 + x.val) / 64 = cc then Q (128 * u + (64 + x)) * kq * K (128 * u + (64 + x)) else 0 from
    Fin.sum_univ_add (a := 64) (b := 64) (fun x : Fin (64 + 64) => if x.val / 64 = cc then Q (128 * u + x) * kq * K (128 * u + x) else 0), Finset.mul_sum]
  obtain rfl | rfl : cc = 0 ∨ cc = 1 := by omega
  · rw [Finset.sum_eq_zero (s := Finset.univ) (f := fun x : Fin 64 => if (64 + x.val) / 64 = 0 then _ else _) (fun x _ => if_neg (by omega)), add_zero]
    refine Finset.sum_congr rfl fun x _ => ?_
    rw [if_pos (by omega), show 64 * (2 * u + 0) + x.val = 128 * u + x.val by omega]; ring
  · rw [Finset.sum_eq_zero (s := Finset.univ) (f := fun x : Fin 64 => if x.val / 64 = 1 then _ else _) (fun x _ => if_neg (by omega)), zero_add]
    refine Finset.sum_congr rfl fun x _ => ?_
    rw [if_pos (by omega), show 64 * (2 * u + 1) + x.val = 128 * u + (64 + x.val) by omega]; ring

theorem two_sc (T : ℝ) : (2 : ℝ) ^ (kq * T) = Real.exp (T / 8) := by
  rw [Real.rpow_def_of_pos (by norm_num)]
  congr 1
  unfold kq
  have : Real.log 2 ≠ 0 := (Real.log_pos (by norm_num)).ne'
  field_simp

section Arrays
variable (q kl vl : Spec.Mat 16384 1024) (kc vc : Spec.Mat 256 1024)

theorem W_num (u cc : ℕ) (hc : cc < 2) (b : ℕ) (r : Fin 512) (e : ℕ) (he : e < 128) :
    W (fun r => Spec.at2 q (512 * b + r)) (Spec.cat kl kc) (Spec.cat vl vc) u cc 13 r e = Spec.num q kl vl kc vc (2 * u + cc) (512 * b + r) (128 * u + e) := by
  unfold W Spec.num
  refine Finset.sum_congr rfl fun j _ => ?_
  rw [sc_eq _ _ u cc hc, two_sc]
  unfold vv
  rw [if_pos he]; rfl

theorem W_den (u cc : ℕ) (hc : cc < 2) (b : ℕ) (r : Fin 512) :
    W (fun r => Spec.at2 q (512 * b + r)) (Spec.cat kl kc) (Spec.cat vl vc) u cc 13 r 128 = Spec.den q kl kc (2 * u + cc) (512 * b + r) := by
  unfold W Spec.den
  refine Finset.sum_congr rfl fun j _ => ?_
  rw [sc_eq _ _ u cc hc, two_sc]
  unfold vv
  rw [if_neg (by omega), if_pos rfl, mul_one]; rfl

/-- A head's normalised difference of two settled components is the layer's result. -/
theorem nrm_eq (L : EReal) (h : Fin 8) (b : Fin 32) (r : Fin 512) (A B : Fin 256 → EReal) (g : Fin 128 → EReal) (G : Spec.Row 128) (hg : ∀ x, g x = G (ix1 x)) (M N : ℝ)
    (hA : ∀ e : Fin 256, A e = ((2 : ℝ) ^ (-M) * W (fun r => Spec.at2 q (512 * b + r)) (Spec.cat kl kc) (Spec.cat vl vc) h 0 13 r e : ℝ))
    (hB : ∀ e : Fin 256, B e = ((2 : ℝ) ^ (-N) * W (fun r => Spec.at2 q (512 * b + r)) (Spec.cat kl kc) (Spec.cat vl vc) h 1 13 r e : ℝ)) (R : Fin 16384) (hR : R.val = 512 * b + r) (E : Fin 1024) (hE : E.val / 128 = h)
    (l : Fin 128) (hl : l.val = E.val % 128) :
    nrm L A B g l = Spec.res q kl vl kc vc L G R E := by
  have hpos : ∀ M : ℝ, (2 : ℝ) ^ (-M) ≠ 0 := fun M => (Real.rpow_pos_of_pos (by norm_num) _).ne'
  have ho : ∀ x : Fin 128, Ideal.div (A ⟨x.val, by omega⟩) (A 128) - L * Ideal.div (B ⟨x.val, by omega⟩) (B 128) = Spec.o q kl vl kc vc L h R x := fun x => by
    rw [hA, hA 128, hB, hB 128, W_num q kl vl kc vc h 0 (by decide) b r x x.isLt, W_num q kl vl kc vc h 1 (by decide) b r x x.isLt]
    rw [show ((128 : Fin 256).val) = 128 from rfl, W_den q kl vl kc vc h 0 (by decide), W_den q kl vl kc vc h 1 (by decide)]
    rw [Spec.div_scaled _ _ _ (hpos _) (Spec.den_pos _ _ _ _ _).ne', Spec.div_scaled _ _ _ (hpos _) (Spec.den_pos _ _ _ _ _).ne']
    unfold Spec.o
    rw [hR]; rfl
  unfold nrm Spec.res
  dsimp only
  simp only [ho, hg]
  rw [hE, hl, show l = ⟨E.val % 128, Nat.mod_lt _ (by decide)⟩ from Fin.ext hl]

end Arrays

end Cert.Proof.KernelIdeal

end
-- ==== Proof.Value.lean ====
/-
  The result's array: block by block the layer's mathematics over the arrays the kernel is given.
-/
module

public import proofs.«01_k».proof.Proof.Kern

@[expose] public section

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

/-! The arrays the kernel is given. -/
abbrev aq : Spec.Mat 16384 1024 := m ((c.tc : Thread nD τ).loc main_arg0)
abbrev akl : Spec.Mat 16384 1024 := m ((c.tc : Thread nD τ).loc main_arg1)
abbrev avl : Spec.Mat 16384 1024 := m ((c.tc : Thread nD τ).loc main_arg2)
abbrev akc : Spec.Mat 256 1024 := m ((c.tc : Thread nD τ).loc main_arg3)
abbrev avc : Spec.Mat 256 1024 := m ((c.tc : Thread nD τ).loc main_arg4)
abbrev al1 : Spec.Row 64 := m ((c.tc : Thread nD τ).loc main_arg5)
abbrev al2 : Spec.Row 64 := m ((c.tc : Thread nD τ).loc main_arg6)
abbrev al3 : Spec.Row 64 := m ((c.tc : Thread nD τ).loc main_arg7)
abbrev al4 : Spec.Row 64 := m ((c.tc : Thread nD τ).loc main_arg8)
abbrev ag : Spec.Row 128 := m ((c.tc : Thread nD τ).loc main_arg9)

/-- The layer's result over them. -/
def G : Vec Ideal S16384x1024 .bf16 := fun i =>
  Spec.res (aq m c) (akl m c) (avl m c) (akc m c) (avc m c) (Spec.lam (al1 m c) (al2 m c) (al3 m c) (al4 m c)) (ag m c) (i 0) (i 1)

variable (hq : Spec.Fin2 (aq m c)) (hkl : Spec.Fin2 (akl m c)) (hvl : Spec.Fin2 (avl m c)) (hkc : Spec.Fin2 (akc m c)) (hvc : Spec.Fin2 (avc m c))

/-- A tile's rows of the joined keys (or values), as the layer's. -/
theorem cat_rows (l : Spec.Mat 16384 1024) (k : Spec.Mat 256 1024) (hl : Spec.Fin2 l) (hk : Spec.Fin2 k) (j : ℕ) (hj : j < 16640) (x : Fin 1024) :
    (if h : j < 16384 then l (ix2 ⟨j, h⟩ x) else k (ix2 ⟨j - 16384, by omega⟩ x)) = (Spec.cat l k j x : ℝ) := by
  unfold Spec.cat
  by_cases h : j < 16384
  · rw [dif_pos h, if_pos h, Spec.at2_coe l hl]
  · rw [dif_neg h, if_neg h, Spec.at2_coe k hk]

include hq hkl hvl hkc hvc in
/-- After a block's tile `n` every head holds the keys of the tiles up to it. -/
theorem stAt_inv (b : Fin 32) : ∀ n : ℕ, n < 13 →
    Inv (fun r => Spec.at2 (aq m c) (512 * b + r)) (Spec.cat (akl m c) (akc m c)) (Spec.cat (avl m c) (avc m c)) (stAt m c (13 * b + n + 1)) 7 (fun _ => n + 1) := by
  have key : ∀ (n : ℕ) (hn : n < 13) (S : St Ideal),
      Inv (fun r => Spec.at2 (aq m c) (512 * b + r)) (Spec.cat (akl m c) (akc m c)) (Spec.cat (avl m c) (avc m c)) S 7 (fun _ => n) →
      Inv (fun r => Spec.at2 (aq m c) (512 * b + r)) (Spec.cat (akl m c) (akc m c)) (Spec.cat (avl m c) (avc m c))
        (stepTile (iblk m c 0 ⟨13 * b + n, by have : cfg0.N = 416 := rfl; omega⟩) (iblk m c 1 ⟨13 * b + n, by have : cfg0.N = 416 := rfl; omega⟩) (iblk m c 2 ⟨13 * b + n, by have : cfg0.N = 416 := rfl; omega⟩) S) 7 (fun _ => n + 1) := by
    intro n hn S hS
    have e1 : (13 * b.val + n) / 13 = b := by omega
    have e2 : (13 * b.val + n) % 13 = n := by omega
    refine tile_inv _ _ _ _ _ _ n (fun r x => ?_) (fun r x => ?_) (fun r x => ?_) S hS
    · rw [iq_apply]
      refine (Spec.at2_coe (aq m c) hq _ _).trans ?_
      simp only [e1, Nat.mul_comm 512]
    · rw [ik_apply]
      refine (cat_rows (akl m c) (akc m c) hkl hkc ((13 * b.val + n) % 13 * 1280 + r.val) (by omega) x).trans ?_
      simp only [e2, Nat.mul_comm 1280]
    · rw [iv_apply]
      refine (cat_rows (avl m c) (avc m c) hvl hvc ((13 * b.val + n) % 13 * 1280 + r.val) (by omega) x).trans ?_
      simp only [e2, Nat.mul_comm 1280]
  intro n
  induction n with
  | zero =>
    intro h
    have hs := stAt_succ m c ⟨13 * b + 0, by have : cfg0.N = 416 := rfl; omega⟩
    rw [if_pos (show (13 * b.val + 0) % 13 = 0 by omega)] at hs
    exact hs ▸ key 0 h _ (start_inv _ _ _)
  | succ n ih =>
    intro h
    have hs := stAt_succ m c ⟨13 * b + (n + 1), by have : cfg0.N = 416 := rfl; omega⟩
    rw [if_neg (show ¬ (13 * b.val + (n + 1)) % 13 = 0 by omega)] at hs
    exact hs ▸ key (n + 1) h _ (ih (by omega))

theorem lam_apply (t : Fin cfg0.N) : k0_pay12 (iblk m c 3 t) (ix2 0 0) = Spec.lam (al1 m c) (al2 m c) (al3 m c) (al4 m c) := by
  rw [pay12_apply]
  unfold Spec.lam
  simp only [fun x => (il_apply m c t x).1, fun x => (il_apply m c t x).2.1, fun x => (il_apply m c t x).2.2.1, fun x => (il_apply m c t x).2.2.2]

include hq hkl hvl hkc hvc in
/-- A block of the result. -/
theorem outAt_apply (b : Fin 32) (t : Fin cfg0.N) (ht : t.val = 13 * b + 12) (y : S512x1024.Idx) :
    outAt m c t y = Spec.res (aq m c) (akl m c) (avl m c) (akc m c) (avc m c) (Spec.lam (al1 m c) (al2 m c) (al3 m c) (al4 m c)) (ag m c)
      ⟨512 * b.val + (y 0).val, by have : (y 0).val < 512 := (y 0).isLt; omega⟩ (y 1) := by
  have hI := stAt_inv m c hq hkl hvl hkc hvc b 12 (by decide)
  have h1 : (y 1).val < 1024 := (y 1).isLt
  let h : Fin 8 := ⟨(y 1).val / 128, by omega⟩
  obtain ⟨M, hM⟩ := last_inv _ _ _ _ _ hI h 0 (y 0)
  obtain ⟨N, hN⟩ := last_inv _ _ _ _ _ hI h 1 (y 0)
  rw [← ht] at hM hN
  unfold outAt outBlk outHead
  refine (pay14_apply _ _ _ _ (y 0) ⟨(y 1).val % 128, _⟩).trans ?_
  rw [lam_apply]
  refine nrm_eq _ _ _ _ _ _ h b (y 0) _ _ _ (ag m c) (fun x => ig_apply m c t x) M N (fun e => ?_) (fun e => ?_) _ rfl (y 1) rfl _ rfl
  · exact (accAt_apply _ _ _ (row h 0) rfl (y 0) e).trans (hM e)
  · exact (accAt_apply _ _ _ (row h 1) rfl (y 0) e).trans (hN e)

include hq hkl hvl hkc hvc in
/-- The result's array. -/
theorem out_eq : (dats m 0 c).arrAt 5 cfg0.N = G m c := by
  refine (dats m 0 c).arrAt_eq_of_covers 5 _ (by decide +kernel) fun t hf y => ?_
  blk_simp
  rw [after0_5]
  have ht : t.val % 13 = 12 := (flush0_5 t).mp hf
  have hN : t.val < 416 := t.isLt
  refine (outAt_apply m c hq hkl hvl hkc hvc ⟨t.val / 13, by omega⟩ t (by show t.val = 13 * (t.val / 13) + 12; omega) y).trans ?_
  unfold G
  congr 1
  · refine Fin.ext ?_
    blk_simp [idx0 t]
    dsimp only
    omega
  · refine Fin.ext ?_
    blk_simp [idx0 t]

end Cert.Proof.KernelIdeal

end
-- ==== Proof.Ref.lean ====
/-
  The reference's result in stages, each read at an index at the ideal values.
-/
module

public import proofs.«01_k».proof.Proof.Gen.ReferenceIdeal.Run
public import proofs.«01_k».proof.Proof.Spec
public import Idealize.ShloMosaic.Lib.Pointwise
public import Idealize.ShloMosaic.Lib.IdealHost
public import Idealize.ShloMosaic.Lib.ValueIdxCoords

@[expose] public section

noncomputable section

namespace Cert.Proof.ReferenceIdeal

open Cert.ReferenceIdeal Cert.ReferenceIdeal.Gen Cert.ReferenceIdeal.Value
open Idealize.ShloMosaic Idealize.ShloMosaic.TcCoe

abbrev Arr (s : Shape) := FVec Ideal s .f32

/-- The scaled scores: component, query, key. -/
def rS (q : Arr S16384x1024) (kl : Arr S16384x1024) (kc : Arr S256x1024) : Arr S16x16384x16640 :=
  mulf (Host.dotGeneral (φ₁ := .f32) (φ₂ := .f32) dot_S16384x16x64_S16640x16x64_S16x16384x16640_2_2_0_0_1_1 none (shapeCast _ q shapeCasts_S16384x1024_S16384x16x64) (shapeCast _ (concatenate S16640x1024 0 [⟨S256x1024, kc⟩, ⟨S16384x1024, kl⟩] concatenates_S256x1024_S16384x1024_S16640x1024_d0) shapeCasts_S16640x1024_S16640x16x64)) (broadcastInDim S16x16384x16640 ![] bcast_S_S16x16384x16640 (constant S_ .f32 0x3E000000#32))

/-- The row maximum of the scores. -/
def rMax (s : Arr S16x16384x16640) : Arr S16x16384 :=
  maximumf (broadcastInDim S16x16384 ![] bcast_S_S16x16384 (constant S_ .f32 0xFF800000#32)) (Host.reduce FloatOps.maximumf s (constant (F := Ideal) S_ .f32 0xFF800000#32) reducesTo_S16x16384x16640_S16x16384_d2 h_S_)

/-- The scores' exponentials below a row value. -/
def rE (s : Arr S16x16384x16640) (mx : Arr S16x16384) : Arr S16x16384x16640 :=
  Host.exp (subf s (broadcastInDim S16x16384x16640 ![0, 1, 2] bcast_S16x16384x1_S16x16384x16640_0_1_2 (broadcastInDim S16x16384x1 ![0, 1] bcast_S16x16384_S16x16384x1_0_1 mx)))

/-- Rows divided by their sums. -/
def rP (e : Arr S16x16384x16640) : Arr S16x16384x16640 :=
  Host.divf e (broadcastInDim S16x16384x16640 ![0, 1, 2] bcast_S16x16384x1_S16x16384x16640_0_1_2 (broadcastInDim S16x16384x1 ![0, 1] bcast_S16x16384_S16x16384x1_0_1 (Host.reduceAdd e (constant S_ .f32 0x00000000#32) reducesTo_S16x16384x16640_S16x16384_d2 h_S_)))

/-- The weight of the second component. -/
def rLam (a b c d : Arr S64) : Arr S_ :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3EB60549#32)

/-- The difference of the two components' weights. -/
def rA (p : Arr S16x16384x16640) (lam : Arr S_) : Arr S8x16384x16640 :=
  subf (shapeCast _ (extractStridedSlice S8x1x16384x16640 ![0, 0, 0, 0] (shapeCast _ p shapeCasts_S16x16384x16640_S8x2x16384x16640) slices_S8x2x16384x16640_S8x1x16384x16640_0_0_0_0) shapeCasts_S8x1x16384x16640_S8x16384x16640) (mulf (broadcastInDim S8x16384x16640 ![] bcast_S_S8x16384x16640 lam) (shapeCast _ (extractStridedSlice S8x1x16384x16640 ![0, 1, 0, 0] (shapeCast _ p shapeCasts_S16x16384x16640_S8x2x16384x16640) slices_S8x2x16384x16640_S8x1x16384x16640_0_1_0_0) shapeCasts_S8x1x16384x16640_S8x16384x16640))

/-- The weighted values: query, head, lane. -/
def rO (a : Arr S8x16384x16640) (vl : Arr S16384x1024) (vc : Arr S256x1024) : Arr S16384x8x128 :=
  transpose S16384x8x128 [2, 0, 1] (Host.dotGeneral (φ₁ := .f32) (φ₂ := .f32) dot_S16640x8x128_S8x16384x16640_S8x128x16384_0_2_2_1_1_0 none (shapeCast _ (concatenate S16640x1024 0 [⟨S256x1024, vc⟩, ⟨S16384x1024, vl⟩] concatenates_S256x1024_S16384x1024_S16640x1024_d0) shapeCasts_S16640x1024_S16640x8x128) a) transposes_S8x128x16384_S16384x8x128_2_0_1

/-- The normalised heads. -/
def rN (o : Arr S16384x8x128) (g : Arr S128) : FVec Ideal S16384x1024 .bf16 :=
  truncf .bf16 (shapeCast _ (mulf (mulf (mulf o (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf o o) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x3727C5AC#32)))))) (broadcastInDim S16384x8x128 ![0, 1, 2] bcast_S1x1x128_S16384x8x128_0_1_2 (broadcastInDim S1x1x128 ![2] bcast_S128_S1x1x128_2 g))) (broadcastInDim S16384x8x128 ![] bcast_S_S16384x8x128 (constant S_ .f32 0x3F24FD5C#32))) shapeCasts_S16384x8x128_S16384x1024) bitsLt_bf16_f32

/-- The reference's result of its ten arrays. -/
def rRes (q kl vl : Arr S16384x1024) (kc vc : Arr S256x1024) (a b c d : Arr S64) (g : Arr S128) : FVec Ideal S16384x1024 .bf16 :=
  rN (rO (rA (rP (rE (rS q kl kc) (rMax (rS q kl kc)))) (rLam a b c d)) vl vc) g

theorem res_eq (m : (ℓ : Loc nD τ sig) → Buf (Elt Ideal) ℓ) (c : Dev nD) : res_main_v53 m c =
    rRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

theorem rS_apply (q kl kc) (r : Fin 16384) (c : Fin 16) (e : Fin 16640) : rS q kl kc (ix3 c r e)
    = (∑ x : Fin 64, q (ix2 r ⟨c.val * 64 + x.val, by omega⟩) * (if h : e.val < 256 then kc (ix2 ⟨e.val, h⟩ ⟨c.val * 64 + x.val, by omega⟩)
        else kl (ix2 ⟨e.val - 256, by omega⟩ ⟨c.val * 64 + x.val, by omega⟩))) * Ideal.ofBits .f32 1040187392#32 := by
  pointwise [rS]

theorem rE_apply (s mx) (r : Fin 16384) (c : Fin 16) (e : Fin 16640) : rE s mx (ix3 c r e) = Ideal.exp (s (ix3 c r e) - mx (ix2 c r)) := by
  pointwise [rE]

theorem rP_apply (s) (r : Fin 16384) (c : Fin 16) (e : Fin 16640) : rP s (ix3 c r e) = Ideal.div (s (ix3 c r e)) (∑ x : Fin 16640, s (ix3 c r x)) := by
  pointwise [rP]

theorem rLam_apply (a b c d j) : rLam a b c d j = Spec.lam a b c d := by
  pointwise [rLam]
  rfl

theorem rA_apply (p lam) (r : Fin 16384) (c : Fin 8) (e : Fin 16640) : rA p lam (ix3 c r e)
    = p (ix3 ⟨c.val * 2, by omega⟩ r e) - lam ix0 * p (ix3 ⟨c.val * 2 + 1, by omega⟩ r e) := by
  pointwise [rA]

theorem rO_apply (a vl vc) (r : Fin 16384) (c : Fin 8) (e : Fin 128) : rO a vl vc (ix3 r c e)
    = ∑ x : Fin 256, vc (ix2 x ⟨c.val * 128 + e.val, by omega⟩) * a (ix3 c r ⟨x.val, by omega⟩)
      + ∑ x : Fin 16384, vl (ix2 x ⟨c.val * 128 + e.val, by omega⟩) * a (ix3 c r ⟨256 + x.val, by omega⟩) := by
  pointwise [rO]

theorem rN_apply (o g) (r : Fin 16384) (e : Fin 1024) : rN o g (ix2 r e)
    = o (ix3 r ⟨e.val / 128, by omega⟩ ⟨e.val % 128, by omega⟩)
        * Ideal.rsqrt (Ideal.div (∑ x : Fin 128, o (ix3 r ⟨e.val / 128, by omega⟩ x) * o (ix3 r ⟨e.val / 128, by omega⟩ x)) (Ideal.ofBits .f32 1124073472#32)
            + Ideal.ofBits .f32 925353388#32) * g (ix1 ⟨e.val % 128, by omega⟩) * Ideal.ofBits .f32 1059388764#32 := by
  pointwise [rN]

/-- A row's maximum of real scores is a real. -/
theorem rMax_real (s : Arr S16x16384x16640) (hs : Spec.Fin2 s) (y) : ∃ x : ℝ, (rMax s y : EReal) = x := by
  obtain ⟨x, hx⟩ := Spec.max_real s hs (constant S_ .f32 0xFF800000#32) reducesTo_S16x16384x16640_S16x16384_d2 (by decide) h_S_ Spec.neg_inf (by decide) y
  exact ⟨x, (Spec.max_bot _ _ y Spec.neg_inf).trans hx⟩

section Value
variable (q kl vl : Spec.Mat 16384 1024) (kc vc : Spec.Mat 256 1024)
  (hq : Spec.Fin2 q) (hkl : Spec.Fin2 kl) (hvl : Spec.Fin2 vl) (hkc : Spec.Fin2 kc) (hvc : Spec.Fin2 vc)

/-- The reference's rows, the context's first, as the layer's keys. -/
theorem cat_apply (l : Spec.Mat 16384 1024) (c : Spec.Mat 256 1024) (hl : Spec.Fin2 l) (hc : Spec.Fin2 c) (e : Fin 16640) (x : Fin 1024) :
    (if h : e.val < 256 then c (ix2 ⟨e.val, h⟩ x) else l (ix2 ⟨e.val - 256, by omega⟩ x)) = (Spec.cat l c (Spec.ρ e) x : ℝ) := by
  unfold Spec.cat Spec.ρ
  by_cases h : e.val < 256
  · rw [dif_pos h, if_pos h, if_neg (by omega), Nat.add_sub_cancel_left, Spec.at2_coe c hc]
  · rw [dif_neg h, if_neg h, if_pos (by omega), Spec.at2_coe l hl]

include hq hkl hkc in
theorem rS_val (r : Fin 16384) (c : Fin 16) (e : Fin 16640) : (rS q kl kc (ix3 c r e) : EReal) = (Spec.S q kl kc c r (Spec.ρ e) : ℝ) := by
  rw [rS_apply, Spec.eighth, show Spec.S q kl kc c r (Spec.ρ e) = (∑ x : Fin 64, Spec.at2 q r (64 * c + x) * Spec.cat kl kc (Spec.ρ e) (64 * c + x)) * (1 / 8) from
    div_eq_mul_one_div _ _, EReal.coe_mul, Spec.coe_sum']
  refine congrArg (· * ((1 / 8 : ℝ) : EReal)) ?_
  refine Finset.sum_congr rfl fun x _ => ?_
  rw [Spec.at2_coe q hq, cat_apply kl kc hkl hkc e, EReal.coe_mul, Nat.mul_comm 64]

include hq hkl hkc in
/-- A row's softmax does not depend on the value its scores are taken below. -/
theorem rP_val (r : Fin 16384) (c : Fin 16) (e : Fin 16640) :
    (rP (rE (rS q kl kc) (rMax (rS q kl kc))) (ix3 c r e) : EReal) = (Real.exp (Spec.S q kl kc c r (Spec.ρ e)) / Spec.den q kl kc c r : ℝ) := by
  obtain ⟨M, hM⟩ := rMax_real (rS q kl kc) (fun i => by
    obtain ⟨c, r, e, rfl⟩ : ∃ (c : Fin 16) (r : Fin 16384) (e : Fin 16640), i = ix3 c r e := ⟨i 0, i 1, i 2, (ix3_eta i).symm⟩
    exact ⟨_, rS_val q kl kc hq hkl hkc r c e⟩) (ix2 c r)
  have hE : ∀ e : Fin 16640, (rE (rS q kl kc) (rMax (rS q kl kc)) (ix3 c r e) : EReal) = (Real.exp (-M) * Real.exp (Spec.S q kl kc c r (Spec.ρ e)) : ℝ) := fun e => by
    rw [rE_apply, hM, rS_val q kl kc hq hkl hkc, ← EReal.coe_sub, Ideal.exp_coe, sub_eq_add_neg, add_comm, Real.exp_add]
  have hs : (∑ x : Fin 16640, (rE (rS q kl kc) (rMax (rS q kl kc)) (ix3 c r x) : EReal)) = (Real.exp (-M) * Spec.den q kl kc c r : ℝ) := by
    simp only [hE]
    rw [← Spec.coe_sum', ← Finset.mul_sum, Spec.sum_ρ fun j => Real.exp (Spec.S q kl kc c r j)]
    rfl
  have hd := (Spec.den_pos q kl kc c r).ne'
  have hx := Real.exp_pos (-M)
  rw [rP_apply, hs, hE, Spec.div_scaled _ _ _ hx.ne' hd]

include hq hkl hvl hkc hvc in
/-- The weighted values are the difference of the two components' outputs. -/
theorem rO_val (lam : Arr S_) (L : EReal) (hL : lam ix0 = L) (hLr : ∃ x : ℝ, L = x) (r : Fin 16384) (h : Fin 8) (x : Fin 128) :
    (rO (rA (rP (rE (rS q kl kc) (rMax (rS q kl kc)))) lam) vl vc (ix3 r h x) : EReal) = Spec.o q kl vl kc vc L h r x := by
  obtain ⟨y, hy⟩ := hLr
  have hA : ∀ e : Fin 16640, (rA (rP (rE (rS q kl kc) (rMax (rS q kl kc)))) lam (ix3 h r e) : EReal)
      = ((fun j => Real.exp (Spec.S q kl kc (2 * h) r j) / Spec.den q kl kc (2 * h) r - y * (Real.exp (Spec.S q kl kc (2 * h + 1) r j) / Spec.den q kl kc (2 * h + 1) r)) (Spec.ρ e) : ℝ) := fun e => by
    rw [rA_apply, hL, hy, rP_val q kl kc hq hkl hkc, rP_val q kl kc hq hkl hkc, ← EReal.coe_mul, ← EReal.coe_sub]
    simp only [Nat.mul_comm 2]
  have hk : ∀ e : Fin 16640, ((if hh : e.val < 256 then vc (ix2 ⟨e.val, hh⟩ ⟨h.val * 128 + x.val, by omega⟩) else vl (ix2 ⟨e.val - 256, by omega⟩ ⟨h.val * 128 + x.val, by omega⟩)) : EReal)
      = (Spec.cat vl vc (Spec.ρ e) (128 * h + x) : ℝ) := fun e => by
    rw [cat_apply vl vc hvl hvc e, Nat.mul_comm 128]
  set P : ℕ → ℝ := fun j => Real.exp (Spec.S q kl kc (2 * h) r j) / Spec.den q kl kc (2 * h) r - y * (Real.exp (Spec.S q kl kc (2 * h + 1) r j) / Spec.den q kl kc (2 * h + 1) r) with hP
  have hsum : (rO (rA (rP (rE (rS q kl kc) (rMax (rS q kl kc)))) lam) vl vc (ix3 r h x) : EReal)
      = (∑ e : Fin 16640, Spec.cat vl vc (Spec.ρ e) (128 * h + x) * P (Spec.ρ e) : ℝ) := by
    rw [rO_apply, Spec.coe_sum']
    refine Eq.trans ?_ (Fin.sum_univ_add (a := 256) (b := 16384) (fun e : Fin 16640 => ((Spec.cat vl vc (Spec.ρ e) (128 * h + x) * P (Spec.ρ e) : ℝ) : EReal))).symm
    refine congrArg₂ (· + ·) (Finset.sum_congr rfl fun e _ => ?_) (Finset.sum_congr rfl fun e _ => ?_)
    · rw [EReal.coe_mul, ← hA, ← hk, dif_pos (show (Fin.castAdd 16384 e).val < 256 from e.isLt)]; rfl
    · rw [EReal.coe_mul, ← hA, ← hk, dif_neg (show ¬ (Fin.natAdd 256 e).val < 256 by simp)]
      simp only [Fin.val_natAdd, Nat.add_sub_cancel_left]; rfl
  rw [hsum, Spec.sum_ρ fun j => Spec.cat vl vc j (128 * h + x) * P j]
  unfold Spec.o
  rw [hy, ← EReal.coe_mul, ← EReal.coe_sub]
  refine EReal.coe_eq_coe_iff.2 ?_
  unfold Spec.num
  rw [Finset.sum_div, Finset.sum_div, Finset.mul_sum, ← Finset.sum_sub_distrib]
  refine Finset.sum_congr rfl fun j _ => ?_
  rw [hP]
  ring

include hq hkl hvl hkc hvc in
/-- The reference's result is the layer's. -/
theorem rRes_val (a b c d : Spec.Row 64) (ha : Spec.Fin2 a) (hb : Spec.Fin2 b) (hc : Spec.Fin2 c) (hd : Spec.Fin2 d) (g : Spec.Row 128) (r : Fin 16384) (e : Fin 1024) :
    (rRes q kl vl kc vc a b c d g (ix2 r e) : EReal) = Spec.res q kl vl kc vc (Spec.lam a b c d) g r e := by
  unfold rRes Spec.res
  rw [rN_apply]
  simp only [rO_val q kl vl kc vc hq hkl hvl hkc hvc (rLam a b c d) (Spec.lam a b c d) (rLam_apply a b c d ix0) (Spec.lam_real a b c d ha hb hc hd)]
  rw [mul_assoc]

end Value

end Cert.Proof.ReferenceIdeal

end
-- ==== Proof.Pre.lean ====
/-
  What the precondition gives: every entry of the queries, the keys, the values and the four weight vectors is a real.
-/
module

public import proofs.«01_k».proof.Pre_finite_inputs
public import proofs.«01_k».proof.Proof.Spec
public import Idealize.ShloMosaic.Lib.ReduceAll

@[expose] public section

noncomputable section

namespace Cert.Proof.Spec

open Idealize.ShloMosaic Cert.Pre_finite_inputs

instance : Subsingleton S_.Idx := ⟨fun a b => funext fun i => i.elim0⟩

/-- An extended real whose absolute value is below the top is a real. -/
theorem real_of_abs (x : EReal) (h : Ideal.cmp CmpFPredicate.olt (max x (-x)) ⊤ = 1#1) : ∃ r : ℝ, x = r := by
  have h' : max x (-x) < ⊤ := by
    by_contra hn
    simp [Ideal.cmp, hn] at h
  refine ⟨x.toReal, (EReal.coe_toReal (fun e => ?_) (fun e => ?_)).symm⟩
  · subst e; simp at h'
  · subst e; simp at h'

/-- An array whose entries' absolute values are all below infinity is finite. -/
theorem all_real {s : Shape} (x : FVec Ideal s .f32) {axes : List (Fin s.rank)} (hb : S_.BroadcastsInDim s ![]) (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) : Fin2 x := fun i => by
  have := Host.reduce_andi_all _ _ hr hu j h i
  refine real_of_abs _ ?_
  rw [← pos_inf]
  exact this

theorem and_left {a b : IVec S_ 1} (j : S_.Idx) (h : andi a b j = 1#1) : a j = 1#1 := (IntOp.andi_eq_one.1 h).1
theorem and_right {a b : IVec S_ 1} (j : S_.Idx) (h : andi a b j = 1#1) : b j = 1#1 := (IntOp.andi_eq_one.1 h).2

theorem pre_real [Facts] (q kl vl : FVec Ideal S16384x1024 .f32) (kc vc : FVec Ideal S256x1024 .f32) (a b c d : FVec Ideal S64 .f32) (g : FVec Ideal S128 .f32)
    (h : fn (F := Ideal) q kl vl kc vc a b c d g = fun _ => 1#1) :
    (Fin2 q ∧ Fin2 kl ∧ Fin2 vl ∧ Fin2 kc ∧ Fin2 vc) ∧ Fin2 a ∧ Fin2 b ∧ Fin2 c ∧ Fin2 d := by
  have h8 := congrFun h ix0
  dsimp only [fn, fn_part1, fn_part2] at h8
  have h7 := and_left _ h8
  have h6 := and_left _ h7
  have h5 := and_left _ h6
  have h4 := and_left _ h5
  have h3 := and_left _ h4
  have h2 := and_left _ h3
  have h1 := and_left _ h2
  exact ⟨⟨all_real _ _ _ _ _ (and_left _ h1), all_real _ _ _ _ _ (and_right _ h1), all_real _ _ _ _ _ (and_right _ h2), all_real _ _ _ _ _ (and_right _ h3), all_real _ _ _ _ _ (and_right _ h4)⟩,
    all_real _ _ _ _ _ (and_right _ h5), all_real _ _ _ _ _ (and_right _ h6), all_real _ _ _ _ _ (and_right _ h7), all_real _ _ _ _ _ (and_right _ h8)⟩

end Cert.Proof.Spec

end
-- ==== Proof.Experts.lean ====
/-
  The experts: the mathematics of one expert's gated layer, the blocks the kernel's body reads, and the result's array.
-/
module

public import proofs.«01_k».proof.Proof.Gen.Kernel2Ideal.Value
public import Idealize.ShloMosaic.Lib.Claim
public import Idealize.ShloMosaic.Lib.Pointwise
public import Idealize.ShloMosaic.Lib.IdealHost
public import Idealize.ShloMosaic.Lib.Pipeline.ValueKit.Point
public import Idealize.ShloMosaic.Lib.Pipeline.ReadBack

@[expose] public section

noncomputable section

namespace Cert.Proof.Experts

open Idealize.ShloMosaic

abbrev Rows := (⟨3, ![16, 2048, 1024]⟩ : Shape).Idx → EReal
abbrev Wts := (⟨4, ![2, 16, 1024, 1024]⟩ : Shape).Idx → EReal

/-- A row of an expert through one of its matrices, the second layer's. -/
def lin (x : Fin 1024 → EReal) (w : Wts) (e : Fin 16) (f : Fin 1024) : EReal := ∑ k : Fin 1024, x k * w (ix4 1 e k f)

/-- A number times its logistic. -/
def silu (g : EReal) : EReal := g * Ideal.div 1 (1 + Ideal.exp (-g))

/-- A row through the gated layer of an expert. -/
def gated (x : Fin 1024 → EReal) (wg wu wd : Wts) (e : Fin 16) (d : Fin 1024) : EReal :=
  ∑ f : Fin 1024, silu (lin x wg e f) * lin x wu e f * wd (ix4 1 e f d)

/-- The experts' results: the rows', then zeros. -/
def res (x : Rows) (wg wu wd : Wts) (e : Fin 16) (r : Fin 2304) (d : Fin 1024) : EReal :=
  if h : r.val < 2048 then gated (fun k => x (ix3 e ⟨r.val, h⟩ k)) wg wu wd e d else 0

theorem res_congr (x : Rows) (wg wu wd : Wts) {e e' : Fin 16} {r r' : Fin 2304} {d d' : Fin 1024} (he : e = e') (hr : r = r') (hd : d = d') :
    res x wg wu wd e r d = res x wg wu wd e' r' d' := by
  rw [he, hr, hd]

theorem one_add_exp_ne (x : EReal) : 1 + Ideal.exp x ≠ 0 := by
  induction x using EReal.rec with
  | bot => simp [Ideal.exp_bot]
  | top => rw [Ideal.exp_top, EReal.add_top_of_ne_bot (by decide)]; decide
  | coe x =>
    rw [Ideal.exp_coe, ← EReal.coe_one, ← EReal.coe_add, ← EReal.coe_zero]
    exact fun h => (by positivity : (1 + Real.exp x) ≠ 0) (EReal.coe_eq_coe_iff.1 h)

/-- The kernel's quotient is the number times its logistic. -/
theorem silu_eq (g : EReal) : Ideal.div g (1 + Ideal.exp (0 - g)) = silu g := by
  unfold silu
  rw [zero_sub, Ideal.div, Ideal.div, if_neg (one_add_exp_ne _), if_neg (one_add_exp_ne _), one_mul]

/-- The word of zero as a number. -/
theorem zero_word : (FloatOps.sitofp .f32 (0#32) : Ideal .f32) = (0 : EReal) := by
  simp [FloatOps.sitofp]

/-- A row of zeros goes to zero. -/
theorem gated_zero (wg wu wd : Wts) (e : Fin 16) (d : Fin 1024) : gated (fun _ => 0) wg wu wd e d = 0 := by
  unfold gated
  refine Finset.sum_eq_zero fun f _ => ?_
  have : ∀ w : Wts, lin (fun _ => 0) w e f = 0 := fun w => Finset.sum_eq_zero fun k _ => zero_mul _
  rw [this, this]
  simp only [mul_zero, zero_mul]

end Cert.Proof.Experts

namespace Cert.Proof.Kernel2Ideal

open Cert.Kernel2Ideal Cert.Kernel2Ideal.Gen Cert.Kernel2Ideal.Value
open Idealize.ShloMosaic Idealize.ShloMosaic.TcCoe

theorem pay1_apply (w : Vec Ideal S1x1x1024x1024 .f32) (a b : Fin 1024) : k0_pay1 w (ix2 a b) = w (ix4 0 0 a b) := by
  pointwise [k0_pay1]
theorem pay2_apply (w : Vec Ideal S1x1x1024x1024 .f32) (a b : Fin 1024) : k0_pay2 w (ix2 a b) = w (ix4 0 0 a b) := by
  pointwise [k0_pay2]
theorem pay3_apply (w : Vec Ideal S1x1x1024x1024 .f32) (a b : Fin 1024) : k0_pay3 w (ix2 a b) = w (ix4 0 0 a b) := by
  pointwise [k0_pay3]

theorem pay4_apply (x : Vec Ideal S1x768x1024 .bf16) (wg wu wd : Vec Ideal S1024x1024 .bf16) (r : Fin 768) (d : Fin 1024) :
    k0_pay4 x wg wu wd (ix3 0 r d)
      = ∑ f : Fin 1024, Ideal.div (∑ k : Fin 1024, x (ix3 0 r k) * wg (ix2 k f)) (1 + Ideal.exp (0 - ∑ k : Fin 1024, x (ix3 0 r k) * wg (ix2 k f)))
          * (∑ k : Fin 1024, x (ix3 0 r k) * wu (ix2 k f)) * wd (ix2 f d) := by
  pointwise [k0_pay4]

variable (m : (ℓ : Loc nD τ sig) → Buf (Elt Ideal) ℓ) (c : Dev nD)

abbrev ax : Experts.Rows := m ((c.tc : Thread nD τ).loc main_arg0)
abbrev awg : Experts.Wts := m ((c.tc : Thread nD τ).loc main_arg1)
abbrev awu : Experts.Wts := m ((c.tc : Thread nD τ).loc main_arg2)
abbrev awd : Experts.Wts := m ((c.tc : Thread nD τ).loc main_arg3)

theorem idx0 : ∀ t : Fin cfg0.N, win0_0.index t = ![t.val / 3, t.val % 3, 0] ∧ win0_1.index t = ![1, t.val / 3, 0, 0] ∧ win0_2.index t = ![1, t.val / 3, 0, 0]
    ∧ win0_3.index t = ![1, t.val / 3, 0, 0] ∧ win0_4.index t = ![t.val / 3, t.val % 3, 0] := by
  decide +kernel

theorem lt_e (t : Fin cfg0.N) : t.val / 3 < 16 := by have := t.isLt; have : cfg0.N = 48 := rfl; omega

theorem iwg_apply (t : Fin cfg0.N) (a b : Fin 1024) : iblk m c 1 t (ix4 0 0 a b) = awg m c (ix4 1 ⟨t.val / 3, lt_e t⟩ a b) := by
  blk_ext [iblk, V, idx0 t]
theorem iwu_apply (t : Fin cfg0.N) (a b : Fin 1024) : iblk m c 2 t (ix4 0 0 a b) = awu m c (ix4 1 ⟨t.val / 3, lt_e t⟩ a b) := by
  blk_ext [iblk, V, idx0 t]
theorem iwd_apply (t : Fin cfg0.N) (a b : Fin 1024) : iblk m c 3 t (ix4 0 0 a b) = awd m c (ix4 1 ⟨t.val / 3, lt_e t⟩ a b) := by
  blk_ext [iblk, V, idx0 t]

/-- The rows the launch reads: the argument's, then zeros. -/
def rows : FVec Ideal S16x2304x1024 .bf16 := truncf .bf16 (pad S16x2304x1024 ![0, 0, 0] ![0, 256, 0] ![0, 0, 0] (ax m c : FVec Ideal S16x2048x1024 .f32)
    (sitofp .f32 (constantI S_ 32 0#32)) pads_S16x2048x1024_S16x2304x1024_000_02560_000 h_S_) bitsLt_bf16_f32

theorem V_rows : V m c main_v1 = rows m c := by
  unfold V
  simp only [hostOps0, hostOps0_1, hostOps0_2, List.flatten_cons, List.flatten_nil, List.cons_append, List.nil_append, List.append_nil, StableHlo.TRef.unary, StableHlo.TRef.binary, StableHlo.TRef.toBuf, StableHlo.TRef.ofBuf, cast_eq]
  after_results <;> rfl

theorem ix_apply (t : Fin cfg0.N) (r : Fin 768) (k : Fin 1024) : iblk m c 0 t (ix3 0 r k)
    = if h : t.val % 3 * 768 + r.val < 2048 then ax m c (ix3 ⟨t.val / 3, lt_e t⟩ ⟨t.val % 3 * 768 + r.val, h⟩ k) else (0 : EReal) := by
  have : iblk m c 0 t (ix3 0 r k) = V m c main_v1 (ix3 ⟨t.val / 3, lt_e t⟩ ⟨t.val % 3 * 768 + r.val, by omega⟩ k) := by
    blk_ext [iblk, idx0 t]
  rw [this, V_rows]
  pointwise [rows]
  have h16 := lt_e t
  by_cases h : t.val % 3 * 768 + r.val < 2048
  · rw [dif_pos ⟨h16, h⟩, dif_pos h]
  · rw [dif_neg (fun hh => h hh.2), dif_neg h]
    exact Experts.zero_word

theorem out_A (t : Fin cfg0.N) (h0 : t.val % 3 = 0) : outsAt0 m c t.val t.isLt =
    (k0_pay4 (iblk m c 0 t) (k0_pay1 (iblk m c 1 t)) (k0_pay2 (iblk m c 2 t)) (k0_pay3 (iblk m c 3 t)), k0_pay1 (iblk m c 1 t), k0_pay2 (iblk m c 2 t), k0_pay3 (iblk m c 3 t)) := by
  rw [outsAt0_A m c t h0]
  frame_out

theorem out_B (t : Fin cfg0.N) (h0 : ¬ t.val % 3 = 0) : outsAt0 m c t.val t.isLt =
    (k0_pay4 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      (outsAt0 m c (t.val - 1) (Nat.lt_of_le_of_lt (Nat.sub_le _ _) t.isLt)).2) := by
  rw [outsAt0_B m c t h0]
  generalize outsAt0 m c (t.val - 1) (Nat.lt_of_le_of_lt (Nat.sub_le _ _) t.isLt) = p
  obtain ⟨p0, p1, p2, p3⟩ := p
  frame_out
  simp only [read_unread_whole]
  unfold sout0_B_0 sout0_B_1 sout0_B_2
  rfl

theorem scr (n : ℕ) (h : n < cfg0.N) (a b : Fin 1024) :
    (outsAt0 m c n h).2.1 (ix2 a b) = awg m c (ix4 1 ⟨n / 3, lt_e ⟨n, h⟩⟩ a b) ∧
    (outsAt0 m c n h).2.2.1 (ix2 a b) = awu m c (ix4 1 ⟨n / 3, lt_e ⟨n, h⟩⟩ a b) ∧
    (outsAt0 m c n h).2.2.2 (ix2 a b) = awd m c (ix4 1 ⟨n / 3, lt_e ⟨n, h⟩⟩ a b) := by
  induction n with
  | zero =>
    rw [out_A m c ⟨0, h⟩ rfl]
    dsimp only
    rw [pay1_apply, pay2_apply, pay3_apply, iwg_apply, iwu_apply, iwd_apply]
    exact ⟨rfl, rfl, rfl⟩
  | succ n ih =>
    by_cases h0 : (n + 1) % 3 = 0
    · rw [out_A m c ⟨n + 1, h⟩ h0]
      dsimp only
      rw [pay1_apply, pay2_apply, pay3_apply, iwg_apply, iwu_apply, iwd_apply]
      exact ⟨rfl, rfl, rfl⟩
    · rw [out_B m c ⟨n + 1, h⟩ h0]
      have e : (⟨(n + 1) / 3, lt_e ⟨n + 1, h⟩⟩ : Fin 16) = ⟨n / 3, lt_e ⟨n, by omega⟩⟩ := Fin.ext (by dsimp only; omega)
      rw [e]
      exact ih (by omega)

theorem out_apply (t : Fin cfg0.N) (r : Fin 768) (d : Fin 1024) :
    (outsAt0 m c t.val t.isLt).1 (ix3 0 r d) = Experts.gated (fun k => iblk m c 0 t (ix3 0 r k)) (awg m c) (awu m c) (awd m c) ⟨t.val / 3, lt_e t⟩ d := by
  by_cases h0 : t.val % 3 = 0
  · rw [out_A m c t h0]
    dsimp only
    rw [pay4_apply]
    simp only [pay1_apply, pay2_apply, pay3_apply, iwg_apply, iwu_apply, iwd_apply, Experts.silu_eq]
    rfl
  · rw [out_B m c t h0]
    dsimp only
    rw [pay4_apply]
    have e : (⟨(t.val - 1) / 3, lt_e ⟨t.val - 1, by omega⟩⟩ : Fin 16) = ⟨t.val / 3, lt_e t⟩ := Fin.ext (by dsimp only; omega)
    have hs := fun a b => scr m c (t.val - 1) (by omega) a b
    rw [e] at hs
    simp only [fun a b => (hs a b).1, fun a b => (hs a b).2.1, fun a b => (hs a b).2.2, Experts.silu_eq]
    rfl

/-- The kernel's result. -/
def G : FVec Ideal S16x2304x1024 .bf16 := fun i => Experts.res (ax m c) (awg m c) (awu m c) (awd m c) (i 0) (i 1) (i 2)

theorem out_res (t : Fin cfg0.N) (r : Fin 768) (d : Fin 1024) : (outsAt0 m c t.val t.isLt).1 (ix3 0 r d)
      = Experts.res (ax m c) (awg m c) (awu m c) (awd m c) ⟨t.val / 3, lt_e t⟩ ⟨t.val % 3 * 768 + r.val, by omega⟩ d := by
  rw [out_apply]
  simp only [ix_apply]
  unfold Experts.res
  by_cases h : t.val % 3 * 768 + r.val < 2048
  · simp only [dif_pos h]
  · simp only [dif_neg h]
    exact Experts.gated_zero _ _ _ _ _

theorem array : (dats m 0 c).arrAt 4 cfg0.N = G m c := by
  refine (dats m 0 c).arrAt_eq_of_covers 4 _ (by decide +kernel) fun t hf y => ?_
  obtain ⟨r, d, rfl⟩ : ∃ (r : Fin 768) (d : Fin 1024), y = ix3 0 r d := ⟨y 1, y 2, by
    have e : y 0 = (0 : Fin 1) := Subsingleton.elim (α := Fin 1) _ _
    rw [← e]; exact (ix3_eta y).symm⟩
  blk_simp
  rw [after0_4]
  refine (out_res m c t r d).trans ?_
  unfold G
  refine Experts.res_congr _ _ _ _ ?_ ?_ ?_
  · refine Fin.ext ?_
    blk_simp [idx0 t]
    exact (Nat.add_zero _).symm
  · refine Fin.ext ?_
    blk_simp [idx0 t]
  · refine Fin.ext ?_
    blk_simp [idx0 t]

end Cert.Proof.Kernel2Ideal

end
-- ==== Proof.ExpertsRef.lean ====
/-
  The experts' reference: what its operations' composed term is at an index.
-/
module

public import proofs.«01_k».proof.Proof.Experts
public import proofs.«01_k».proof.Proof.Gen.Reference2Ideal.Run
public import Idealize.ShloMosaic.Lib.ValueIdxCoords

@[expose] public section

noncomputable section

namespace Cert.Proof.Reference2Ideal

open Cert.Reference2Ideal Cert.Reference2Ideal.Gen Cert.Reference2Ideal.Value
open Idealize.ShloMosaic

variable (x : FVec Ideal S16x2048x1024 .f32) (wg wu wd : FVec Ideal S2x16x1024x1024 .f32)

/-- The second layer's matrices. -/
def mat (w : FVec Ideal S2x16x1024x1024 .f32) : FVec Ideal S16x1024x1024 .f32 :=
  shapeCast _ (extractStridedSlice S1x16x1024x1024 ![1, 0, 0, 0] w slices_S2x16x1024x1024_S1x16x1024x1024_1_0_0_0) shapeCasts_S1x16x1024x1024_S16x1024x1024

theorem mat_apply (w : FVec Ideal S2x16x1024x1024 .f32) (e : Fin 16) (a b : Fin 1024) : mat w (ix3 e a b) = w (ix4 1 e a b) := by
  pointwise [mat]

def one : FVec Ideal S16x2048x1024 .f32 := broadcastInDim S16x2048x1024 ![] bcast_S_S16x2048x1024 (constant S_ .f32 0x3F800000#32)

theorem one_apply (i : S16x2048x1024.Idx) : one i = (1 : EReal) := by
  pointwise [one]

def prod (y : FVec Ideal S16x2048x1024 .f32) (w : FVec Ideal S2x16x1024x1024 .f32) : FVec Ideal S16x2048x1024 .f32 :=
  Host.dotGeneral dot_S16x2048x1024_S16x1024x1024_S16x2048x1024_2_1_1_2_0_0 none y (mat w)

theorem prod_apply (y : FVec Ideal S16x2048x1024 .f32) (w : FVec Ideal S2x16x1024x1024 .f32) (e : Fin 16) (r : Fin 2048) (f : Fin 1024) :
    prod y w (ix3 e r f) = ∑ k : Fin 1024, (y (ix3 e r k) : EReal) * w (ix4 1 e k f) := by
  unfold prod
  simp only [← mat_apply]
  generalize mat w = v
  pointwise

def gate : FVec Ideal S16x2048x1024 .f32 :=
  mulf (mulf (prod x wg) (Host.divf one (addf one (Host.exp (Host.negf (prod x wg)))))) (prod x wu)

theorem gate_apply (e : Fin 16) (r : Fin 2048) (f : Fin 1024) :
    gate x wg wu (ix3 e r f) = Experts.silu (Experts.lin (fun k => x (ix3 e r k)) wg e f) * Experts.lin (fun k => x (ix3 e r k)) wu e f := by
  have hg := prod_apply x wg e r f
  have hu := prod_apply x wu e r f
  unfold Experts.lin Experts.silu
  rw [← hg, ← hu]
  unfold gate
  generalize prod x wg = g
  generalize prod x wu = u
  pointwise [one_apply]

def out : FVec Ideal S16x2304x1024 .bf16 :=
  truncf .bf16 (pad S16x2304x1024 ![0, 0, 0] ![0, 256, 0] ![0, 0, 0] (prod (gate x wg wu) wd) (sitofp .f32 (constantI S_ 32 0#32)) pads_S16x2048x1024_S16x2304x1024_000_02560_000 h_S_) bitsLt_bf16_f32

theorem out_apply (e : Fin 16) (r : Fin 2304) (d : Fin 1024) : out x wg wu wd (ix3 e r d) = Experts.res x wg wu wd e r d := by
  have hp := fun h : r.val < 2048 => prod_apply (gate x wg wu) wd e ⟨r.val, h⟩ d
  simp only [gate_apply] at hp
  unfold Experts.res
  unfold out
  generalize prod (gate x wg wu) wd = p at hp
  have e16 := e.isLt
  by_cases h : r.val < 2048
  · rw [dif_pos h]
    refine Eq.trans ?_ (hp h)
    pointwise
    rw [dif_pos h]
  · rw [dif_neg h]
    refine Eq.trans ?_ Experts.zero_word
    pointwise
    rw [dif_neg h]

end Cert.Proof.Reference2Ideal

end
-- ==== Proof.Mix.lean ====
/-
  The Hyena mixer's input: the norm, the projection and the short convolution, and the blocks the kernel's body reads.
-/
module

public import proofs.«01_k».proof.Proof.Gen.Kernel3Ideal.Value
public import Idealize.ShloMosaic.Lib.Claim
public import Idealize.ShloMosaic.Lib.Pointwise
public import Idealize.ShloMosaic.Lib.IdealHost
public import Idealize.ShloMosaic.Lib.ValueIdxCoords
public import Idealize.ShloMosaic.Lib.Pipeline.ValueKit.Point
public import Idealize.ShloMosaic.Lib.Pipeline.ReadBack

@[expose] public section

noncomputable section

namespace Cert.Proof.Mix

open Idealize.ShloMosaic

abbrev V1 (n : ℕ) := (⟨1, ![n]⟩ : Shape).Idx → EReal
abbrev M2 (n k : ℕ) := (⟨2, ![n, k]⟩ : Shape).Idx → EReal

/-- A row, normed with its gain, scaled and shifted. -/
def nrm (v : Fin 1024 → EReal) (g sh sc : V1 1024) (k : Fin 1024) : EReal :=
  v k * Ideal.rsqrt (Ideal.div (∑ y : Fin 1024, v y * v y) (Ideal.ofBits .f32 1149239296#32) + Ideal.ofBits .f32 897988541#32) * (g (ix1 k) * (1 + sc (ix1 k))) + sh (ix1 k)

/-- The normed row through the projection. -/
def lin (x : M2 16384 1024) (g sh sc : V1 1024) (w : M2 1024 3072) (b : V1 3072) (r : Fin 16384) (j : Fin 3072) : EReal :=
  (∑ k : Fin 1024, nrm (fun y => x (ix2 r y)) g sh sc k * w (ix2 k j)) + b (ix1 j)

/-- The projected rows with a row of zeros before them and one after. -/
def padded (x : M2 16384 1024) (g sh sc : V1 1024) (w : M2 1024 3072) (b : V1 3072) (n : ℕ) (j : Fin 3072) : EReal :=
  if h : 1 ≤ n ∧ n < 16385 then lin x g sh sc w b ⟨n - 1, by omega⟩ j else 0

/-- The short convolution of width three. -/
def mix (x : M2 16384 1024) (g sh sc : V1 1024) (w : M2 1024 3072) (b : V1 3072) (cw : M2 3 3072) (cb : V1 3072) (r : ℕ) (j : Fin 3072) : EReal :=
  cb (ix1 j) + cw (ix2 0 j) * padded x g sh sc w b r j + cw (ix2 1 j) * padded x g sh sc w b (r + 1) j + cw (ix2 2 j) * padded x g sh sc w b (r + 2) j

theorem padded_in (x : M2 16384 1024) (g sh sc : V1 1024) (w : M2 1024 3072) (b : V1 3072) (n : ℕ) (j : Fin 3072) (r : Fin 16384) (h : n = r.val + 1) :
    padded x g sh sc w b n j = lin x g sh sc w b r j := by
  subst h
  unfold padded
  rw [dif_pos ⟨by omega, by omega⟩]
  rfl

theorem padded_out (x : M2 16384 1024) (g sh sc : V1 1024) (w : M2 1024 3072) (b : V1 3072) (n : ℕ) (j : Fin 3072) (h : ¬ (1 ≤ n ∧ n < 16385)) :
    padded x g sh sc w b n j = 0 := by
  unfold padded
  rw [dif_neg h]

theorem select_mul (p : BitVec 1) (a b : EReal) : Scalar.select p (a * b) 0 = a * Scalar.select p b 0 := by
  unfold Scalar.select
  split <;> simp

end Cert.Proof.Mix

namespace Cert.Proof.Kernel3Ideal

open Cert.Kernel3Ideal Cert.Kernel3Ideal.Gen
open Idealize.ShloMosaic Idealize.ShloMosaic.TcCoe

/-- The same with the eight rows of modulation. -/
def nrm8 (v : Fin 1024 → EReal) (mod : Vec Ideal S8x1024 .f32) (k : Fin 1024) : EReal :=
  v k * Ideal.rsqrt (Ideal.div (∑ y : Fin 1024, v y * v y) (Ideal.ofBits .f32 1149239296#32) + Ideal.ofBits .f32 897988541#32) * (mod (ix2 0 k) * (1 + mod (ix2 1 k))) + mod (ix2 2 k)

theorem pay3_eq (mod : Vec Ideal S8x1024 .f32) : k0_pay3 mod = mod := by
  funext i
  obtain ⟨a, b, rfl⟩ : ∃ (a : Fin 8) (b : Fin 1024), i = ix2 a b := ⟨i 0, i 1, (ix2_eta i).symm⟩
  pointwise [k0_pay3]
theorem pay13_eq (cw : Vec Ideal S8x1024 .f32) : k0_pay13 cw = cw := by
  funext i
  obtain ⟨a, b, rfl⟩ : ∃ (a : Fin 8) (b : Fin 1024), i = ix2 a b := ⟨i 0, i 1, (ix2_eta i).symm⟩
  pointwise [k0_pay13]
theorem pay4_apply (mod : Vec Ideal S8x1024 .f32) (x : Vec Ideal S1024x1024 .f32) (r k : Fin 1024) :
    k0_pay4 mod x (ix2 r k) = nrm8 (fun y => x (ix2 r y)) mod k := by
  pointwise [k0_pay4, nrm8, pay3_eq]
theorem pay5_apply (mod : Vec Ideal S8x1024 .f32) (x : Vec Ideal S16x1024 .f32) (r : Fin 16) (k : Fin 1024) :
    k0_pay5 mod x (ix2 r k) = nrm8 (fun y => x (ix2 r y)) mod k := by
  pointwise [k0_pay5, nrm8, pay3_eq]
theorem pay6_apply (mod : Vec Ideal S8x1024 .f32) (v23 : FVec Ideal S1024x1024 .bf16) (v44 : FVec Ideal S16x1024 .f32) (v46 : Vec Ideal S16x1024 .f32) (r : Fin 1056) (k : Fin 1024) :
    k0_pay6 mod v23 v44 v46 (ix2 r k) = if h : r.val < 16 then (v44 (ix2 ⟨r.val, h⟩ k) : EReal) else if h : r.val - 16 < 1024 then v23 (ix2 ⟨r.val - 16, h⟩ k) else
      nrm8 (fun y => v46 (ix2 ⟨r.val - 16 - 1024, by omega⟩ y)) mod k := by
  pointwise [k0_pay6, nrm8]
theorem pay9_apply (a : BitVec 32) (r : Fin 1056) (k : Fin 1024) :
    k0_pay9 a (ix2 r k) = k0_pay7 a (ix2 r 0) := by
  pointwise [k0_pay9]

/-- A row of the normed block through the projection, zeroed where its bit is not set. -/
def proj (h : FVec Ideal S1056x1024 .bf16) (p : IVec S1056x1 1) (w : Vec Ideal S1024x1024 .bf16) (b : Vec Ideal S1x1024 .f32) (r : Fin 1056) (k : Fin 1024) : EReal :=
  Scalar.select (p (ix2 r 0)) ((∑ y : Fin 1024, (h (ix2 r y) : EReal) * w (ix2 y k)) + b (ix2 0 k)) 0

/-- The convolution of a block. -/
def conv (h : FVec Ideal S1056x1024 .bf16) (p : IVec S1056x1 1) (w : Vec Ideal S1024x1024 .bf16) (b : Vec Ideal S1x1024 .f32) (cw : Vec Ideal S8x1024 .f32) (r k : Fin 1024) : EReal :=
  cw (ix2 3 k) + cw (ix2 0 k) * proj h p w b ⟨15 + r.val, by omega⟩ k + cw (ix2 1 k) * proj h p w b ⟨16 + r.val, by omega⟩ k + cw (ix2 2 k) * proj h p w b ⟨17 + r.val, by omega⟩ k

theorem pay11_apply (mod : Vec Ideal S8x1024 .f32) (v23 : FVec Ideal S1024x1024 .bf16) (v44 : FVec Ideal S16x1024 .f32) (v46 : Vec Ideal S16x1024 .f32) (a : BitVec 32) (w : Vec Ideal S1024x1024 .bf16) (b : Vec Ideal S1x1024 .f32) (cw : Vec Ideal S8x1024 .f32) (r k : Fin 1024) :
    k0_pay11 (k0_pay8 mod v23 v44 v46 w b) (k0_pay9 a) (k0_pay10 (F := Ideal)) cw (ix2 r k) = conv (k0_pay6 mod v23 v44 v46) (k0_pay7 a) w b cw r k := by
  unfold k0_pay8 conv proj
  generalize k0_pay6 mod v23 v44 v46 = h
  pointwise [k0_pay11, pay9_apply, k0_pay10]
theorem pay12_apply (h : FVec Ideal S1056x1024 .bf16) (p : IVec S1056x1 1) (w : Vec Ideal S1024x1024 .bf16) (b : Vec Ideal S1x1024 .f32) (r : Fin 1056) (k : Fin 1024) :
    k0_pay12 h p w b (ix2 r k) = proj h p w b r k := by
  pointwise [k0_pay12, proj]
theorem pay2_apply (h : FVec Ideal S1056x1024 .bf16) (p : IVec S1056x1 1) (w : Vec Ideal S1024x1024 .bf16) (b : Vec Ideal S1x1024 .f32) (cw : Vec Ideal S8x1024 .f32) (r k : Fin 1024) :
    k0_pay2 h p w b cw (ix2 r k) = conv h p w b cw r k := by
  unfold conv proj
  simp only [← Mix.select_mul]
  pointwise [k0_pay2]
theorem pay1_apply (h : FVec Ideal S1056x1024 .bf16) (p : IVec S1056x1 1) (w : Vec Ideal S1024x1024 .bf16) (b : Vec Ideal S1x1024 .f32) (cw : Vec Ideal S8x1024 .f32) (r k : Fin 1024) :
    k0_pay1 (k0_pay12 h p w b) (k0_pay13 cw) (k0_pay14 h p w b cw) (ix2 r k) = conv h p w b cw r k := by
  unfold conv k0_pay14
  simp only [← pay12_apply, pay13_eq]
  generalize k0_pay12 h p w b = u
  pointwise [k0_pay1]

/-- The bit of a row: set on the rows of the array. -/
theorem pay7_apply : ∀ (t : Fin 16) (r : Fin 1056), k0_pay7 (BitVec.ofNat 32 t.val) (ix2 r 0) = if 16 ≤ t.val * 1024 + r.val ∧ t.val * 1024 + r.val < 16400 then 1#1 else 0#1 := by
  have e : ∀ (t : Fin 16) (r : Fin 1056), IntOp.andi
      (IntOp.cmpi CmpIPredicate.sge (IntOp.addi (BitVec.ofNat 32 r.val) (Scalar.subi (Scalar.muli (BitVec.ofNat 32 t.val) 1024#32) 16#32)) 0#32)
      (IntOp.cmpi CmpIPredicate.slt (IntOp.addi (BitVec.ofNat 32 r.val) (Scalar.subi (Scalar.muli (BitVec.ofNat 32 t.val) 1024#32) 16#32)) 16384#32)
       = if 16 ≤ t.val * 1024 + r.val ∧ t.val * 1024 + r.val < 16400 then 1#1 else 0#1 := by
    decide +kernel
  intro t r
  rw [← e t r]
  pointwise [k0_pay7]

variable (m : (ℓ : Loc nD τ sig) → Buf (Elt Ideal) ℓ) (c : Dev nD)

abbrev ax : Mix.M2 16384 1024 := m ((c.tc : Thread nD τ).loc main_arg0)
abbrev ag : Mix.V1 1024 := m ((c.tc : Thread nD τ).loc main_arg1)
abbrev ash : Mix.V1 1024 := m ((c.tc : Thread nD τ).loc main_arg2)
abbrev asc : Mix.V1 1024 := m ((c.tc : Thread nD τ).loc main_arg3)
abbrev aw : Mix.M2 1024 3072 := m ((c.tc : Thread nD τ).loc main_arg4)
abbrev ab : Mix.V1 3072 := m ((c.tc : Thread nD τ).loc main_arg5)
abbrev acw : Mix.M2 3 3072 := m ((c.tc : Thread nD τ).loc main_arg6)
abbrev acb : Mix.V1 3072 := m ((c.tc : Thread nD τ).loc main_arg7)

theorem idx0 : ∀ t : Fin cfg0.N, win0_0.index t = ![t.val, 0] ∧ win0_1.index t = ![t.val * 64 - 1, 0] ∧ win0_2.index t = ![min (t.val * 64 + 64) 1023, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ (grid0.coords t 0).val = t.val := by
  decide +kernel

theorem lt_t (t : Fin cfg0.N) : t.val < 16 := t.isLt

theorem ix_apply (t : Fin cfg0.N) (r k : Fin 1024) (R : Fin 16384) (h : R.val = t.val * 1024 + r.val) : iblk m c 0 t (ix2 r k) = ax m c (ix2 R k) := by
  have hb : t.val * 1024 + r.val < 16384 := h ▸ R.isLt
  have e : R = ⟨t.val * 1024 + r.val, hb⟩ := Fin.ext h
  rw [e]
  blk_ext [iblk, V, idx0 t]
theorem ip_apply (t : Fin cfg0.N) (r : Fin 16) (k : Fin 1024) (R : Fin 16384) (h : R.val = (t.val * 64 - 1) * 16 + r.val) : iblk m c 1 t (ix2 r k) = ax m c (ix2 R k) := by
  have hb : (t.val * 64 - 1) * 16 + r.val < 16384 := h ▸ R.isLt
  have e : R = ⟨(t.val * 64 - 1) * 16 + r.val, hb⟩ := Fin.ext h
  rw [e]
  blk_ext [iblk, V, idx0 t]
theorem in_apply (t : Fin cfg0.N) (r : Fin 16) (k : Fin 1024) (R : Fin 16384) (h : R.val = min (t.val * 64 + 64) 1023 * 16 + r.val) : iblk m c 2 t (ix2 r k) = ax m c (ix2 R k) := by
  have hb : min (t.val * 64 + 64) 1023 * 16 + r.val < 16384 := h ▸ R.isLt
  have e : R = ⟨min (t.val * 64 + 64) 1023 * 16 + r.val, hb⟩ := Fin.ext h
  rw [e]
  blk_ext [iblk, V, idx0 t]

theorem iw_apply (t : Fin cfg0.N) (k : Fin 1024) (j : Fin 3072) : iblk m c 4 t (ix2 k j) = aw m c (ix2 k j) := by
  have : iblk m c 4 t (ix2 k j) = V m c main_v5 (ix2 k j) := by
    blk_ext [iblk, idx0 t]
  rw [this]
  entry_read
  pointwise
theorem ib_apply (t : Fin cfg0.N) (j : Fin 3072) : iblk m c 5 t (ix2 0 j) = ab m c (ix1 j) := by
  have : iblk m c 5 t (ix2 0 j) = V m c main_v9 (ix2 0 j) := by
    blk_ext [iblk, idx0 t]
  rw [this]
  entry_read
  pointwise

/-- The eight rows of modulation and of convolution weights. -/
def rows8 (a b c : Vec Ideal S1x1024 .f32) (d : Vec Ideal S5x1024 .f32) : Vec Ideal S8x1024 .f32 :=
  concatenate S8x1024 0 [⟨S1x1024, a⟩, ⟨S1x1024, b⟩, ⟨S1x1024, c⟩, ⟨S5x1024, d⟩] concatenates_S1x1024_S1x1024_S1x1024_S5x1024_S8x1024_d0
def taps8 (a : Vec Ideal S3x3072 .f32) (b : Vec Ideal S1x3072 .f32) (c : Vec Ideal S4x3072 .f32) : Vec Ideal S8x3072 .f32 :=
  concatenate S8x3072 0 [⟨S3x3072, a⟩, ⟨S1x3072, b⟩, ⟨S4x3072, c⟩] concatenates_S3x3072_S1x3072_S4x3072_S8x3072_d0

theorem V_rows : V m c main_v4 = rows8 (broadcastInDim S1x1024 ![1] bcast_S1024_S1x1024_1 (m ((c.tc : Thread nD τ).loc main_arg1)))
    (broadcastInDim S1x1024 ![1] bcast_S1024_S1x1024_1 (m ((c.tc : Thread nD τ).loc main_arg3))) (broadcastInDim S1x1024 ![1] bcast_S1024_S1x1024_1 (m ((c.tc : Thread nD τ).loc main_arg2)))
    (broadcastInDim S5x1024 ![] bcast_S_S5x1024 (constant (F := Ideal) S_ .f32 0x00000000#32)) := by
  unfold V hostOps0
  simp only [StableHlo.after_cons, StableHlo.after_nil]
  repeat after_results_step
  refine (rfl : _ = rows8 _ _ _ _).trans ?_
  try dsimp only [Matrix.cons_val]
  repeat after_results_step
  rfl

theorem V_taps : V m c main_v8 = taps8 (m ((c.tc : Thread nD τ).loc main_arg6)) (broadcastInDim S1x3072 ![1] bcast_S3072_S1x3072_1 (m ((c.tc : Thread nD τ).loc main_arg7)))
    (broadcastInDim S4x3072 ![] bcast_S_S4x3072 (constant (F := Ideal) S_ .f32 0x00000000#32)) := by
  unfold V hostOps0
  simp only [StableHlo.after_cons, StableHlo.after_nil]
  repeat after_results_step
  refine (rfl : _ = taps8 _ _ _).trans ?_
  try dsimp only [Matrix.cons_val]
  repeat after_results_step

theorem im_apply (t : Fin cfg0.N) (k : Fin 1024) :
    iblk m c 3 t (ix2 0 k) = ag m c (ix1 k) ∧ iblk m c 3 t (ix2 1 k) = asc m c (ix1 k) ∧ iblk m c 3 t (ix2 2 k) = ash m c (ix1 k) := by
  have : ∀ y : Fin 8, iblk m c 3 t (ix2 y k) = V m c main_v4 (ix2 y k) := fun y => by
    blk_ext [iblk, idx0 t]
  rw [this 0, this 1, this 2, V_rows]
  refine ⟨?_, ?_, ?_⟩
  all_goals pointwise [rows8]

theorem ic_apply (t : Fin cfg0.N) (j : Fin 3072) :
    iblk m c 6 t (ix2 0 j) = acw m c (ix2 0 j) ∧ iblk m c 6 t (ix2 1 j) = acw m c (ix2 1 j) ∧ iblk m c 6 t (ix2 2 j) = acw m c (ix2 2 j) ∧ iblk m c 6 t (ix2 3 j) = acb m c (ix1 j) := by
  have : ∀ y : Fin 8, iblk m c 6 t (ix2 y j) = V m c main_v8 (ix2 y j) := fun y => by
    blk_ext [iblk, idx0 t]
  rw [this 0, this 1, this 2, this 3, V_taps]
  refine ⟨?_, ?_, ?_, ?_⟩
  all_goals pointwise [taps8]

theorem nrm8_eq (t : Fin cfg0.N) (v : Fin 1024 → EReal) (k : Fin 1024) : nrm8 v (iblk m c 3 t) k = Mix.nrm v (ag m c) (ash m c) (asc m c) k := by
  obtain ⟨h0, h1, h2⟩ := im_apply m c t k
  unfold nrm8 Mix.nrm
  rw [h0, h1, h2]

/-- The normed rows of a block with their neighbours. -/
abbrev rows (t : Fin cfg0.N) : FVec Ideal S1056x1024 .bf16 :=
  k0_pay6 (iblk m c 3 t) (k0_pay4 (iblk m c 3 t) (iblk m c 0 t)) (k0_pay5 (iblk m c 3 t) (iblk m c 1 t)) (iblk m c 2 t)

theorem rows_apply (t : Fin cfg0.N) (y : Fin 1056) (k : Fin 1024) (R : Fin 16384) (h : R.val + 16 = t.val * 1024 + y.val) :
    rows m c t (ix2 y k) = Mix.nrm (fun q => ax m c (ix2 R q)) (ag m c) (ash m c) (asc m c) k := by
  have ht := lt_t t
  have hR := R.isLt
  have hy := y.isLt
  unfold rows
  rw [pay6_apply]
  by_cases h1 : y.val < 16
  · rw [dif_pos h1, pay5_apply, nrm8_eq]
    exact congrArg (fun v => Mix.nrm v (ag m c) (ash m c) (asc m c) k) (funext fun q => ip_apply m c t ⟨y.val, h1⟩ q R (by dsimp only; omega))
  · rw [dif_neg h1]
    by_cases h2 : y.val - 16 < 1024
    · rw [dif_pos h2, pay4_apply, nrm8_eq]
      exact congrArg (fun v => Mix.nrm v (ag m c) (ash m c) (asc m c) k) (funext fun q => ix_apply m c t ⟨y.val - 16, h2⟩ q R (by dsimp only; omega))
    · rw [dif_neg h2, nrm8_eq]
      exact congrArg (fun v => Mix.nrm v (ag m c) (ash m c) (asc m c) k) (funext fun q => in_apply m c t ⟨y.val - 16 - 1024, by omega⟩ q R (by dsimp only; omega))

theorem proj_apply (t : Fin cfg0.N) (w : Vec Ideal S1024x1024 .bf16) (b : Vec Ideal S1x1024 .f32) (y : Fin 1056) (k : Fin 1024) (J : Fin 3072)
    (hw : ∀ q : Fin 1024, w (ix2 q k) = aw m c (ix2 q J)) (hb : b (ix2 0 k) = ab m c (ix1 J)) (n : ℕ) (hn : n + 15 = t.val * 1024 + y.val) :
    proj (rows m c t) (k0_pay7 (BitVec.ofNat 32 t.val)) w b y k = Mix.padded (ax m c) (ag m c) (ash m c) (asc m c) (aw m c) (ab m c) n J := by
  have ht := lt_t t
  have hy := y.isLt
  unfold proj
  rw [pay7_apply ⟨t.val, ht⟩ y]
  by_cases hv : 16 ≤ t.val * 1024 + y.val ∧ t.val * 1024 + y.val < 16400
  · rw [if_pos hv, Mix.padded_in _ _ _ _ _ _ n J ⟨t.val * 1024 + y.val - 16, by omega⟩ (by dsimp only; omega)]
    unfold Scalar.select Mix.lin
    rw [if_pos (by decide)]
    rw [hb]
    refine congrArg (· + _) (Finset.sum_congr rfl fun q _ => ?_)
    rw [rows_apply m c t y q ⟨t.val * 1024 + y.val - 16, by omega⟩ (by dsimp only; omega), hw]
  · rw [if_neg hv, Mix.padded_out _ _ _ _ _ _ n J (by omega)]
    unfold Scalar.select
    rw [if_neg (by decide)]

theorem conv_apply (t : Fin cfg0.N) (w : Vec Ideal S1024x1024 .bf16) (b : Vec Ideal S1x1024 .f32) (cw : Vec Ideal S8x1024 .f32) (r k : Fin 1024) (J : Fin 3072)
    (hw : ∀ q : Fin 1024, w (ix2 q k) = aw m c (ix2 q J)) (hb : b (ix2 0 k) = ab m c (ix1 J))
    (h0 : cw (ix2 0 k) = acw m c (ix2 0 J)) (h1 : cw (ix2 1 k) = acw m c (ix2 1 J)) (h2 : cw (ix2 2 k) = acw m c (ix2 2 J)) (h3 : cw (ix2 3 k) = acb m c (ix1 J)) :
    conv (rows m c t) (k0_pay7 (BitVec.ofNat 32 t.val)) w b cw r k
     = Mix.mix (ax m c) (ag m c) (ash m c) (asc m c) (aw m c) (ab m c) (acw m c) (acb m c) (t.val * 1024 + r.val) J := by
  unfold conv Mix.mix
  rw [h0, h1, h2, h3, proj_apply m c t w b _ k J hw hb (t.val * 1024 + r.val) (by dsimp only; omega),
    proj_apply m c t w b _ k J hw hb (t.val * 1024 + r.val + 1) (by dsimp only; omega),
    proj_apply m c t w b _ k J hw hb (t.val * 1024 + r.val + 2) (by dsimp only; omega)]

/-- A third of the kernel's result, from a column on. -/
def G (o : ℕ) (ho : o + 1024 ≤ 3072) : FVec Ideal S16384x1024 .bf16 := fun i =>
  Mix.mix (ax m c) (ag m c) (ash m c) (asc m c) (aw m c) (ab m c) (acw m c) (acb m c) (i 0).val ⟨o + (i 1).val, by have : (i 1).val < 1024 := (i 1).isLt; omega⟩

theorem ld8 (x : Vec Ideal S8x1024 .f32) : View.ld x r0_0 = x := by
  frame_out
theorem ld1024 (x : Vec Ideal S1024x1024 .f32) : View.ld x r0_1 = x := by
  frame_out
theorem ld16 (x : Vec Ideal S16x1024 .f32) : View.ld x r0_2 = x := by
  frame_out

theorem c3 (x : Vec Ideal S1024x3072 .bf16) (q k : Fin 1024) : View.ld x r0_3 (ix2 q k) = x (ix2 q ⟨0 + k.val, by omega⟩) := by
  exact View.ld_unit_apply_of x _ _ _ _ _ fun a => by fin_cases a <;> simp [ix2]
theorem c6 (x : Vec Ideal S1024x3072 .bf16) (q k : Fin 1024) : View.ld x r0_6 (ix2 q k) = x (ix2 q ⟨1024 + k.val, by omega⟩) := by
  exact View.ld_unit_apply_of x _ _ _ _ _ fun a => by fin_cases a <;> simp [ix2]
theorem c9 (x : Vec Ideal S1024x3072 .bf16) (q k : Fin 1024) : View.ld x r0_9 (ix2 q k) = x (ix2 q ⟨2048 + k.val, by omega⟩) := by
  exact View.ld_unit_apply_of x _ _ _ _ _ fun a => by fin_cases a <;> simp [ix2]
theorem c4 (x : Vec Ideal S1x3072 .f32) (k : Fin 1024) : View.ld x r0_4 (ix2 0 k) = x (ix2 0 ⟨0 + k.val, by omega⟩) := by
  exact View.ld_unit_apply_of x _ _ _ _ _ fun a => by fin_cases a <;> simp [ix2]
theorem c7 (x : Vec Ideal S1x3072 .f32) (k : Fin 1024) : View.ld x r0_7 (ix2 0 k) = x (ix2 0 ⟨1024 + k.val, by omega⟩) := by
  exact View.ld_unit_apply_of x _ _ _ _ _ fun a => by fin_cases a <;> simp [ix2]
theorem c10 (x : Vec Ideal S1x3072 .f32) (k : Fin 1024) : View.ld x r0_10 (ix2 0 k) = x (ix2 0 ⟨2048 + k.val, by omega⟩) := by
  exact View.ld_unit_apply_of x _ _ _ _ _ fun a => by fin_cases a <;> simp [ix2]
theorem c5 (x : Vec Ideal S8x3072 .f32) (y : Fin 8) (k : Fin 1024) : View.ld x r0_5 (ix2 y k) = x (ix2 y ⟨0 + k.val, by omega⟩) := by
  exact View.ld_unit_apply_of x _ _ _ _ _ fun a => by fin_cases a <;> simp [ix2]
theorem c8 (x : Vec Ideal S8x3072 .f32) (y : Fin 8) (k : Fin 1024) : View.ld x r0_8 (ix2 y k) = x (ix2 y ⟨1024 + k.val, by omega⟩) := by
  exact View.ld_unit_apply_of x _ _ _ _ _ fun a => by fin_cases a <;> simp [ix2]
theorem c11 (x : Vec Ideal S8x3072 .f32) (y : Fin 8) (k : Fin 1024) : View.ld x r0_11 (ix2 y k) = x (ix2 y ⟨2048 + k.val, by omega⟩) := by
  exact View.ld_unit_apply_of x _ _ _ _ _ fun a => by fin_cases a <;> simp [ix2]

theorem lt_r (t : Fin cfg0.N) (r : Fin 1024) : t.val * 1024 + r.val < 16384 := by
  have := lt_t t
  omega

theorem out7_apply (t : Fin cfg0.N) (r k : Fin 1024) :
    out0_7 (grid0.coords t) (iblk m c 0 t) (iblk m c 1 t) (iblk m c 2 t) (iblk m c 3 t) (iblk m c 4 t) (iblk m c 5 t) (iblk m c 6 t) (ix2 r k)
     = G m c 0 (by decide) (ix2 ⟨t.val * 1024 + r.val, lt_r t r⟩ k) := by
  have hg : (grid0.coords t 0).val = t.val := (idx0 t).2.2.2.2.2.2.2.2.2.2
  unfold_out out0_7
  frame_out
  simp only [ld8, ld1024, ld16, pay3_eq]
  rw [hg, pay11_apply]
  obtain ⟨h0, h1, h2, h3⟩ := ic_apply m c t ⟨0 + k.val, by omega⟩
  exact conv_apply m c t _ _ _ r k ⟨0 + k.val, by omega⟩ (fun q => (c3 _ q k).trans (iw_apply m c t q _)) ((c4 _ k).trans (ib_apply m c t _))
    ((c5 _ 0 k).trans h0) ((c5 _ 1 k).trans h1) ((c5 _ 2 k).trans h2) ((c5 _ 3 k).trans h3)

theorem array7 : (dats m 0 c).arrAt 7 cfg0.N = G m c 0 (by decide) := by
  refine (dats m 0 c).arrAt_eq_of_covers 7 _ (by decide +kernel) fun t hf y => ?_
  obtain ⟨r, d, rfl⟩ : ∃ (r d : Fin 1024), y = ix2 r d := ⟨y 0, y 1, (ix2_eta y).symm⟩
  blk_simp
  rw [after0_7]
  refine (out7_apply m c t r d).trans ?_
  refine congrArg (G m c 0 (by decide)) ?_
  blk_ext [idx0 t]

theorem out8_apply (t : Fin cfg0.N) (r k : Fin 1024) :
    out0_8 (grid0.coords t) (iblk m c 0 t) (iblk m c 1 t) (iblk m c 2 t) (iblk m c 3 t) (iblk m c 4 t) (iblk m c 5 t) (iblk m c 6 t) (ix2 r k)
     = G m c 1024 (by decide) (ix2 ⟨t.val * 1024 + r.val, lt_r t r⟩ k) := by
  have hg : (grid0.coords t 0).val = t.val := (idx0 t).2.2.2.2.2.2.2.2.2.2
  unfold_out out0_8
  frame_out
  simp only [ld8, ld1024, ld16, pay3_eq]
  rw [hg, pay1_apply]
  obtain ⟨h0, h1, h2, h3⟩ := ic_apply m c t ⟨1024 + k.val, by omega⟩
  exact conv_apply m c t _ _ _ r k ⟨1024 + k.val, by omega⟩ (fun q => (c6 _ q k).trans (iw_apply m c t q _)) ((c7 _ k).trans (ib_apply m c t _))
    ((c8 _ 0 k).trans h0) ((c8 _ 1 k).trans h1) ((c8 _ 2 k).trans h2) ((c8 _ 3 k).trans h3)

theorem array8 : (dats m 0 c).arrAt 8 cfg0.N = G m c 1024 (by decide) := by
  refine (dats m 0 c).arrAt_eq_of_covers 8 _ (by decide +kernel) fun t hf y => ?_
  obtain ⟨r, d, rfl⟩ : ∃ (r d : Fin 1024), y = ix2 r d := ⟨y 0, y 1, (ix2_eta y).symm⟩
  blk_simp
  rw [after0_8]
  refine (out8_apply m c t r d).trans ?_
  refine congrArg (G m c 1024 (by decide)) ?_
  blk_ext [idx0 t]

theorem out9_apply (t : Fin cfg0.N) (r k : Fin 1024) :
    out0_9 (grid0.coords t) (iblk m c 0 t) (iblk m c 1 t) (iblk m c 2 t) (iblk m c 3 t) (iblk m c 4 t) (iblk m c 5 t) (iblk m c 6 t) (ix2 r k)
     = G m c 2048 (by decide) (ix2 ⟨t.val * 1024 + r.val, lt_r t r⟩ k) := by
  have hg : (grid0.coords t 0).val = t.val := (idx0 t).2.2.2.2.2.2.2.2.2.2
  unfold_out out0_9
  frame_out
  simp only [ld8, ld1024, ld16, pay3_eq]
  rw [hg, pay2_apply]
  obtain ⟨h0, h1, h2, h3⟩ := ic_apply m c t ⟨2048 + k.val, by omega⟩
  exact conv_apply m c t _ _ _ r k ⟨2048 + k.val, by omega⟩ (fun q => (c9 _ q k).trans (iw_apply m c t q _)) ((c10 _ k).trans (ib_apply m c t _))
    ((c11 _ 0 k).trans h0) ((c11 _ 1 k).trans h1) ((c11 _ 2 k).trans h2) ((c11 _ 3 k).trans h3)

theorem array9 : (dats m 0 c).arrAt 9 cfg0.N = G m c 2048 (by decide) := by
  refine (dats m 0 c).arrAt_eq_of_covers 9 _ (by decide +kernel) fun t hf y => ?_
  obtain ⟨r, d, rfl⟩ : ∃ (r d : Fin 1024), y = ix2 r d := ⟨y 0, y 1, (ix2_eta y).symm⟩
  blk_simp
  rw [after0_9]
  refine (out9_apply m c t r d).trans ?_
  refine congrArg (G m c 2048 (by decide)) ?_
  blk_ext [idx0 t]

end Cert.Proof.Kernel3Ideal

end
-- ==== Proof.MixRef.lean ====
/-
  The short convolution's reference: what its operations' composed term is at an index.
-/
module

public import proofs.«01_k».proof.Proof.Mix
public import proofs.«01_k».proof.Proof.Experts
public import proofs.«01_k».proof.Proof.Gen.Reference3Ideal.Run
public import Idealize.ShloMosaic.Lib.ValueIdxCoords

@[expose] public section

noncomputable section

namespace Cert.Proof.Reference3Ideal

open Cert.Reference3Ideal Cert.Reference3Ideal.Gen Cert.Reference3Ideal.Value
open Idealize.ShloMosaic

variable (x : FVec Ideal S16384x1024 .f32) (g sh sc : FVec Ideal S1024 .f32) (w : FVec Ideal S1024x3072 .f32) (b : FVec Ideal S3072 .f32)
  (cw : FVec Ideal S3x3072 .f32) (cb : FVec Ideal S3072 .f32)

/-- A vector along every row. -/
def along (v : FVec Ideal S1024 .f32) : FVec Ideal S16384x1024 .f32 :=
  broadcastInDim S16384x1024 ![0, 1] bcast_S1x1024_S16384x1024_0_1 (broadcastInDim S1x1024 ![1] bcast_S1024_S1x1024_1 v)
def along3 (v : FVec Ideal S3072 .f32) : FVec Ideal S16384x3072 .f32 :=
  broadcastInDim S16384x3072 ![0, 1] bcast_S1x3072_S16384x3072_0_1 (broadcastInDim S1x3072 ![1] bcast_S3072_S1x3072_1 v)

theorem along_apply (v : FVec Ideal S1024 .f32) (r : Fin 16384) (k : Fin 1024) : along v (ix2 r k) = v (ix1 k) := by
  pointwise [along]
theorem along3_apply (v : FVec Ideal S3072 .f32) (r : Fin 16384) (k : Fin 3072) : along3 v (ix2 r k) = v (ix1 k) := by
  pointwise [along3]

/-- The rows normed. -/
def unit : FVec Ideal S16384x1024 .f32 :=
  mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))

theorem unit_apply (r : Fin 16384) (k : Fin 1024) : unit x (ix2 r k) = (x (ix2 r k) : EReal) * Ideal.rsqrt (Ideal.div (∑ y : Fin 1024, (x (ix2 r y) : EReal) * x (ix2 r y)) (Ideal.ofBits .f32 1149239296#32) + Ideal.ofBits .f32 897988541#32) := by
  pointwise [unit]

def plus1 : FVec Ideal S1024 .f32 := addf (broadcastInDim S1024 ![] bcast_S_S1024 (constant S_ .f32 0x3F800000#32)) sc
theorem plus1_apply (k : Fin 1024) : plus1 sc (ix1 k) = (1 + sc (ix1 k) : EReal) := by
  pointwise [plus1]

def normed : FVec Ideal S16384x1024 .f32 := addf (mulf (mulf (unit x) (along g)) (along (plus1 sc))) (along sh)

theorem normed_apply (r : Fin 16384) (k : Fin 1024) : normed x g sh sc (ix2 r k) = Mix.nrm (fun y => x (ix2 r y)) g sh sc k := by
  unfold Mix.nrm
  rw [← unit_apply, ← plus1_apply, ← mul_assoc, ← along_apply g r k, ← along_apply sh r k, ← along_apply (plus1 sc) r k]
  rfl

def lin : FVec Ideal S16384x3072 .f32 :=
  addf (Host.dotGeneral dot_S16384x1024_S1024x3072_S16384x3072_1_0_0_1_n_n none (normed x g sh sc) w) (along3 b)

theorem lin_apply (r : Fin 16384) (j : Fin 3072) : lin x g sh sc w b (ix2 r j) = Mix.lin x g sh sc w b r j := by
  unfold Mix.lin
  simp only [← normed_apply]
  unfold lin
  generalize normed x g sh sc = h
  pointwise [along3]

def padded : FVec Ideal S16386x3072 .f32 :=
  pad S16386x3072 ![1, 0] ![1, 0] ![0, 0] (lin x g sh sc w b) (sitofp .f32 (constantI S_ 32 0#32)) pads_S16384x3072_S16386x3072_110_000 h_S_

theorem padded_apply (n : Fin 16386) (j : Fin 3072) : padded x g sh sc w b (ix2 n j) = Mix.padded x g sh sc w b n.val j := by
  have hp := fun r : Fin 16384 => lin_apply x g sh sc w b r j
  unfold padded
  generalize lin x g sh sc w b = p at hp
  have hn := n.isLt
  by_cases h : 1 ≤ n.val ∧ n.val < 16385
  · rw [Mix.padded_in x g sh sc w b n.val j ⟨n.val - 1, by omega⟩ (by dsimp only; omega), ← hp]
    pointwise
    rw [dif_pos (by omega)]
  · rw [Mix.padded_out x g sh sc w b n.val j h]
    refine Eq.trans ?_ Experts.zero_word
    pointwise
    rw [dif_neg (by omega)]

def full : FVec Ideal S16384x3072 .f32 :=
  addf (addf (addf (along3 cb)
    (mulf (extractStridedSlice S16384x3072 ![0, 0] (padded x g sh sc w b) slices_S16386x3072_S16384x3072_0_0) (along3 (shapeCast _ (extractStridedSlice S1x3072 ![0, 0] cw slices_S3x3072_S1x3072_0_0) shapeCasts_S1x3072_S3072))))
    (mulf (extractStridedSlice S16384x3072 ![1, 0] (padded x g sh sc w b) slices_S16386x3072_S16384x3072_1_0) (along3 (shapeCast _ (extractStridedSlice S1x3072 ![1, 0] cw slices_S3x3072_S1x3072_1_0) shapeCasts_S1x3072_S3072))))
    (mulf (extractStridedSlice S16384x3072 ![2, 0] (padded x g sh sc w b) slices_S16386x3072_S16384x3072_2_0) (along3 (shapeCast _ (extractStridedSlice S1x3072 ![2, 0] cw slices_S3x3072_S1x3072_2_0) shapeCasts_S1x3072_S3072)))

theorem full_apply (r : Fin 16384) (j : Fin 3072) : full x g sh sc w b cw cb (ix2 r j) = Mix.mix x g sh sc w b cw cb r.val j := by
  have p0 := padded_apply x g sh sc w b ⟨r.val, by omega⟩ j
  have p1 := (padded_apply x g sh sc w b ⟨1 + r.val, by omega⟩ j).trans (congrArg (fun n => Mix.padded x g sh sc w b n j) (Nat.add_comm 1 r.val))
  have p2 := (padded_apply x g sh sc w b ⟨2 + r.val, by omega⟩ j).trans (congrArg (fun n => Mix.padded x g sh sc w b n j) (Nat.add_comm 2 r.val))
  unfold Mix.mix
  dsimp only at p0 p1 p2
  rw [← p0, ← p1, ← p2, mul_comm (cw (ix2 0 j) : EReal), mul_comm (cw (ix2 1 j) : EReal), mul_comm (cw (ix2 2 j) : EReal)]
  unfold full
  generalize padded x g sh sc w b = p
  pointwise [along3]

variable (m : (ℓ : Loc nD τ sig) → Buf (Elt Ideal) ℓ) (c : Dev nD)

abbrev whole : FVec Ideal S16384x3072 .f32 :=
  full (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

theorem res0 : res_main_v52 m c = truncf .bf16 (extractStridedSlice S16384x1024 ![0, 0] (whole m c) slices_S16384x3072_S16384x1024_0_0) bitsLt_bf16_f32 := rfl
theorem res1 : res_main_v53 m c = truncf .bf16 (extractStridedSlice S16384x1024 ![0, 1024] (whole m c) slices_S16384x3072_S16384x1024_0_1024) bitsLt_bf16_f32 := rfl
theorem res2 : res_main_v54 m c = truncf .bf16 (extractStridedSlice S16384x1024 ![0, 2048] (whole m c) slices_S16384x3072_S16384x1024_0_2048) bitsLt_bf16_f32 := rfl

theorem res0_apply (r : Fin 16384) (k : Fin 1024) : res_main_v52 m c (ix2 r k) = whole m c (ix2 r ⟨0 + k.val, by omega⟩) := by
  rw [res0]
  generalize whole m c = u
  pointwise
theorem res1_apply (r : Fin 16384) (k : Fin 1024) : res_main_v53 m c (ix2 r k) = whole m c (ix2 r ⟨1024 + k.val, by omega⟩) := by
  rw [res1]
  generalize whole m c = u
  pointwise
theorem res2_apply (r : Fin 16384) (k : Fin 1024) : res_main_v54 m c (ix2 r k) = whole m c (ix2 r ⟨2048 + k.val, by omega⟩) := by
  rw [res2]
  generalize whole m c = u
  pointwise

end Cert.Proof.Reference3Ideal

end
-- ==== Proof.Residual.lean ====
/-
  An output projection with its bias, its gate and the residual: the kernel's blocks and array, and its reference.
-/
module

public import proofs.«01_k».proof.Proof.Gen.Kernel4Ideal.Value
public import proofs.«01_k».proof.Proof.Gen.Reference4Ideal.Run
public import Idealize.ShloMosaic.Lib.Claim
public import Idealize.ShloMosaic.Lib.Pointwise
public import Idealize.ShloMosaic.Lib.IdealHost
public import Idealize.ShloMosaic.Lib.ValueIdxCoords
public import Idealize.ShloMosaic.Lib.Pipeline.ValueKit.Point
public import Idealize.ShloMosaic.Lib.Pipeline.ReadBack

@[expose] public section

noncomputable section

namespace Cert.Proof.Residual

open Idealize.ShloMosaic

/-- The residual plus the gated projection. -/
def res (z : (⟨2, ![16384, 1024]⟩ : Shape).Idx → EReal) (w : (⟨2, ![1024, 1024]⟩ : Shape).Idx → EReal) (b g : (⟨1, ![1024]⟩ : Shape).Idx → EReal)
    (x : (⟨2, ![16384, 1024]⟩ : Shape).Idx → EReal) (r : Fin 16384) (d : Fin 1024) : EReal :=
  x (ix2 r d) + g (ix1 d) * ((∑ k : Fin 1024, z (ix2 r k) * w (ix2 k d)) + b (ix1 d))

end Cert.Proof.Residual

namespace Cert.Proof.Kernel4Ideal

open Cert.Kernel4Ideal Cert.Kernel4Ideal.Gen
open Idealize.ShloMosaic Idealize.ShloMosaic.TcCoe

theorem pay1_apply (z w : Vec Ideal S1024x1024 .bf16) (b : Vec Ideal S1x1024 .f32) (x : Vec Ideal S1024x1024 .f32) (g : Vec Ideal S1x1024 .f32) (r d : Fin 1024) :
    k0_pay1 z w b x g (ix2 r d) = x (ix2 r d) + (g (ix2 0 d) : EReal) * ((∑ k : Fin 1024, (z (ix2 r k) : EReal) * w (ix2 k d)) + b (ix2 0 d)) := by
  pointwise [k0_pay1]

variable (m : (ℓ : Loc nD τ sig) → Buf (Elt Ideal) ℓ) (c : Dev nD)

theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] := by
  decide +kernel

theorem lt_r (t : Fin cfg0.N) (r : Fin 1024) : t.val * 1024 + r.val < 16384 := by have := t.isLt; have : cfg0.N = 16 := rfl; omega

theorem iz_apply (t : Fin cfg0.N) (r k : Fin 1024) : iblk m c 0 t (ix2 r k) = m ((c.tc : Thread nD τ).loc main_arg0) (ix2 ⟨t.val * 1024 + r.val, lt_r t r⟩ k) := by
  have : iblk m c 0 t (ix2 r k) = V m c main_v0 (ix2 ⟨t.val * 1024 + r.val, lt_r t r⟩ k) := by
    blk_ext [iblk, idx0 t]
  rw [this]
  entry_read
  pointwise
theorem iw_apply (t : Fin cfg0.N) (k d : Fin 1024) : iblk m c 1 t (ix2 k d) = m ((c.tc : Thread nD τ).loc main_arg1) (ix2 k d) := by
  have : iblk m c 1 t (ix2 k d) = V m c main_v1 (ix2 k d) := by
    blk_ext [iblk, idx0 t]
  rw [this]
  entry_read
  pointwise
theorem ib_apply (t : Fin cfg0.N) (d : Fin 1024) : iblk m c 2 t (ix2 0 d) = m ((c.tc : Thread nD τ).loc main_arg2) (ix1 d) := by
  have : iblk m c 2 t (ix2 0 d) = V m c main_v2 (ix2 0 d) := by
    blk_ext [iblk, idx0 t]
  rw [this]
  entry_read
  pointwise
theorem ig_apply (t : Fin cfg0.N) (d : Fin 1024) : iblk m c 3 t (ix2 0 d) = m ((c.tc : Thread nD τ).loc main_arg3) (ix1 d) := by
  have : iblk m c 3 t (ix2 0 d) = V m c main_v3 (ix2 0 d) := by
    blk_ext [iblk, idx0 t]
  rw [this]
  entry_read
  pointwise
theorem ix_apply (t : Fin cfg0.N) (r d : Fin 1024) : iblk m c 4 t (ix2 r d) = m ((c.tc : Thread nD τ).loc main_arg4) (ix2 ⟨t.val * 1024 + r.val, lt_r t r⟩ d) := by
  blk_ext [iblk, V, idx0 t]

/-- The kernel's result. -/
def G : FVec Ideal S16384x1024 .f32 := fun i => Residual.res (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (i 0) (i 1)

theorem out_apply (t : Fin cfg0.N) (r d : Fin 1024) : out0_5 (iblk m c 0 t) (iblk m c 1 t) (iblk m c 2 t) (iblk m c 3 t) (iblk m c 4 t) (ix2 r d)
    = G m c (ix2 ⟨t.val * 1024 + r.val, lt_r t r⟩ d) := by
  have e : out0_5 (iblk m c 0 t) (iblk m c 1 t) (iblk m c 2 t) (iblk m c 3 t) (iblk m c 4 t)
      = k0_pay1 (iblk m c 0 t) (iblk m c 1 t) (iblk m c 2 t) (iblk m c 4 t) (iblk m c 3 t) := by
    frame_out
  rw [e, pay1_apply]
  simp only [iz_apply, iw_apply, ib_apply, ig_apply, ix_apply]
  rfl

theorem array : (dats m 0 c).arrAt 5 cfg0.N = G m c := by
  refine (dats m 0 c).arrAt_eq_of_covers 5 _ (by decide +kernel) fun t hf y => ?_
  obtain ⟨r, d, rfl⟩ : ∃ (r d : Fin 1024), y = ix2 r d := ⟨y 0, y 1, (ix2_eta y).symm⟩
  blk_simp
  rw [after0_5]
  refine (out_apply m c t r d).trans ?_
  unfold G
  refine congrArg₂ (Residual.res _ _ _ _ _) ?_ ?_
  · refine Fin.ext ?_
    blk_simp [idx0 t]
  · refine Fin.ext ?_
    blk_simp [idx0 t]

end Cert.Proof.Kernel4Ideal

namespace Cert.Proof.Reference4Ideal

open Cert.Reference4Ideal Cert.Reference4Ideal.Gen Cert.Reference4Ideal.Value
open Idealize.ShloMosaic

theorem out_apply (z : FVec Ideal S16384x1024 .f32) (w : FVec Ideal S1024x1024 .f32) (b g : FVec Ideal S1024 .f32) (x : FVec Ideal S16384x1024 .f32) (r : Fin 16384) (d : Fin 1024) :
    addf x (mulf (broadcastInDim S16384x1024 ![0, 1] bcast_S1x1024_S16384x1024_0_1 (broadcastInDim S1x1024 ![1] bcast_S1024_S1x1024_1 g))
      (addf (Host.dotGeneral dot_S16384x1024_S1024x1024_S16384x1024_1_0_0_1_n_n none z w) (broadcastInDim S16384x1024 ![0, 1] bcast_S1x1024_S16384x1024_0_1 (broadcastInDim S1x1024 ![1] bcast_S1024_S1x1024_1 b)))) (ix2 r d)
     = Residual.res z w b g x r d := by
  pointwise [Residual.res]

end Cert.Proof.Reference4Ideal

end
-- ==== Proof.Qkv.lean ====
/-
  The attention's projections: the body's group norm over the lanes of a head and its rotation, at an index.
-/
module

public import proofs.«01_k».proof.Proof.Mix
public import proofs.«01_k».proof.Proof.Gen.Kernel5Ideal.Frame
public import Idealize.ShloMosaic.Lib.Claim
public import Idealize.ShloMosaic.Lib.Pointwise
public import Idealize.ShloMosaic.Lib.IdealHost
public import Idealize.ShloMosaic.Lib.KernelVsHost
public import Idealize.ShloMosaic.Lib.ValueIdxCoords
public import Idealize.ShloMosaic.Lib.Pipeline.ValueKit.Point
public import Idealize.ShloMosaic.Lib.Pipeline.ReadBack

@[expose] public section

noncomputable section

namespace Cert.Proof.Kernel5Ideal

open Cert.Kernel5Ideal Cert.Kernel5Ideal.Gen
open Idealize.ShloMosaic Idealize.ShloMosaic.TcCoe

/-- The same norm with the eight rows of modulation. -/
def nrm8 (v : Fin 1024 → EReal) (mod : Vec Ideal S8x1024 .f32) (k : Fin 1024) : EReal :=
  v k * Ideal.rsqrt (Ideal.div (∑ y : Fin 1024, v y * v y) (Ideal.ofBits .f32 1149239296#32) + Ideal.ofBits .f32 897988541#32) * (mod (ix2 0 k) * (1 + mod (ix2 1 k))) + mod (ix2 2 k)

theorem pay1_apply (x : Vec Ideal S256x1024 .f32) (mod : Vec Ideal S8x1024 .f32) (r : Fin 256) (k : Fin 1024) :
    k0_pay1 x mod (ix2 r k) = nrm8 (fun y => x (ix2 r y)) mod k := by
  pointwise [k0_pay1, nrm8]

theorem pay4_apply (x : Vec Ideal S256x1024 .f32) (mod : Vec Ideal S8x1024 .f32) (w : Vec Ideal S1024x1024 .bf16) (r : Fin 256) (k : Fin 1024) :
    k0_pay4 x mod w (ix2 r k) = ∑ y : Fin 1024, (k0_pay1 x mod (ix2 r y) : EReal) * w (ix2 y k) := by
  unfold k0_pay4
  generalize k0_pay1 x mod = h
  pointwise
theorem pay11_apply (h : FVec Ideal S256x1024 .bf16) (w : Vec Ideal S1024x1024 .bf16) (r : Fin 256) (k : Fin 1024) :
    k0_pay11 h w (ix2 r k) = ∑ y : Fin 1024, (h (ix2 r y) : EReal) * w (ix2 y k) := by
  pointwise [k0_pay11]
theorem pay14_apply (h : FVec Ideal S256x1024 .bf16) (w : Vec Ideal S1024x1024 .bf16) (r : Fin 256) (k : Fin 1024) :
    k0_pay14 h w (ix2 r k) = ∑ y : Fin 1024, (h (ix2 r y) : EReal) * w (ix2 y k) := by
  pointwise [k0_pay14]

theorem pay2_apply (t : Vec Ideal S256x128 .f32) (r : Fin 256) (k : Fin 1024) :
    k0_pay2 t (ix2 r k) = t (ix2 r ⟨k.val % 128, Nat.mod_lt _ (by decide)⟩) := by
  pointwise [k0_pay2]
  repeat' split
  all_goals exact congrArg (fun q => t (ix2 r q)) (Fin.ext (by dsimp only; omega))
theorem pay3_apply (t : Vec Ideal S256x128 .f32) (r : Fin 256) (k : Fin 1024) :
    k0_pay3 t (ix2 r k) = t (ix2 r ⟨k.val % 128, Nat.mod_lt _ (by decide)⟩) :=
  pay2_apply t r k

/-- The reciprocal root of each group's mean square, -/
def rs (u : FVec Ideal S256x1024 .f32) (s : FVec Ideal S1024x128 .bf16) : FVec Ideal S256x128 .f32 :=
  rsqrt (addf (mulf (addf (matmul dot_S256x1024_S1024x128_S256x128_1_0_0_1_n_n none (truncf .bf16 (mulf u u) bitsLt_bf16_f32) s (constant S256x128 .f32 0x00000000#32))
    (matmul dot_S256x1024_S1024x128_S256x128_1_0_0_1_n_n none (truncf .bf16 (subf (mulf u u) (extf .f32 (truncf .bf16 (mulf u u) bitsLt_bf16_f32) bitsLt_bf16_f32)) bitsLt_bf16_f32) s (constant S256x128 .f32 0x00000000#32)))
    (broadcast S256x128 (Scalar.ofBits .f32 0x3C800000#32))) (broadcast S256x128 (Scalar.ofBits .f32 0x358637BD#32)))

theorem rs_apply (u : FVec Ideal S256x1024 .f32) (s : FVec Ideal S1024x128 .bf16) (r : Fin 256) (k : Fin 128) :
    rs u s (ix2 r k) = Ideal.rsqrt ((∑ y : Fin 1024, (u (ix2 r y) * u (ix2 r y) : EReal) * s (ix2 y k) + ∑ y : Fin 1024, (u (ix2 r y) * u (ix2 r y) - u (ix2 r y) * u (ix2 r y) : EReal) * s (ix2 y k)) * Ideal.ofBits .f32 0x3C800000#32 + Ideal.ofBits .f32 897988541#32) := by
  pointwise [rs]

/-- the rows by it and the gain, -/
def gn (u : FVec Ideal S256x1024 .f32) (g : FVec Ideal S1x1024 .f32) (s : FVec Ideal S1024x128 .bf16) (v : FVec Ideal S256x128 .f32) : FVec Ideal S256x1024 .f32 :=
  mulf (mulf u (addf (matmul dot_S256x128_S1024x128_S256x1024_1_1_0_0_n_n none (truncf .bf16 v bitsLt_bf16_f32) s (constant S256x1024 .f32 0x00000000#32))
    (matmul dot_S256x128_S1024x128_S256x1024_1_1_0_0_n_n none (truncf .bf16 (subf v (extf .f32 (truncf .bf16 v bitsLt_bf16_f32) bitsLt_bf16_f32)) bitsLt_bf16_f32) s (constant S256x1024 .f32 0x00000000#32))))
    (broadcastTo S256x1024 g broadcasts_S1x1024_S256x1024)

theorem gn_apply (u : FVec Ideal S256x1024 .f32) (g : FVec Ideal S1x1024 .f32) (s : FVec Ideal S1024x128 .bf16) (v : FVec Ideal S256x128 .f32) (r : Fin 256) (k : Fin 1024) :
    gn u g s v (ix2 r k) = (u (ix2 r k) : EReal) * (∑ y : Fin 128, (v (ix2 r y) : EReal) * s (ix2 k y) + ∑ y : Fin 128, (v (ix2 r y) - v (ix2 r y) : EReal) * s (ix2 k y)) * g (ix2 0 k) := by
  pointwise [gn]

/-- and the rotation. -/
def rt (u c s : FVec Ideal S256x1024 .f32) : FVec Ideal S256x1024 .f32 :=
  addf (mulf u c) (mulf (select (cmpi .eq (andi (iota .tc S256x1024 32 [1] iota_S256x1024_d1_w32) (broadcast S256x1024 16#32)) (broadcast S256x1024 0#32))
    (dynamicRotate 1 1008#32 none u rotates_S256x1024_d1) (dynamicRotate 1 16#32 none u rotates_S256x1024_d1)) s)

theorem half_bit : ∀ k : Fin 1024, IntOp.cmpi CmpIPredicate.eq (IntOp.andi (BitVec.ofNat 32 k.val) 16#32) 0#32 = if k.val % 32 < 16 then 1#1 else 0#1 := by
  decide +kernel

theorem rt_apply (u c s : FVec Ideal S256x1024 .f32) (r : Fin 256) (k : Fin 1024) :
    rt u c s (ix2 r k) = (u (ix2 r k) : EReal) * c (ix2 r k) + (if k.val % 32 < 16 then u (ix2 r ⟨(k.val + 16) % 1024, Nat.mod_lt _ (by decide)⟩) else u (ix2 r ⟨(k.val + 1008) % 1024, Nat.mod_lt _ (by decide)⟩)) * s (ix2 r k) := by
  pointwise [rt]
  rw [half_bit]
  unfold Scalar.select
  by_cases h : k.val % 32 < 16
  · rw [if_pos h, if_pos h, if_pos (by decide)]
    exact congrArg (fun q => (u (ix2 r k) : EReal) * c (ix2 r k) + u (ix2 r q) * s (ix2 r k)) (Fin.ext (by dsimp only; omega))
  · rw [if_neg h, if_neg h, if_neg (by decide)]
    exact congrArg (fun q => (u (ix2 r k) : EReal) * c (ix2 r k) + u (ix2 r q) * s (ix2 r k)) (Fin.ext (by dsimp only; omega))

theorem pay10_eq (c s u : FVec Ideal S256x1024 .f32) (g : FVec Ideal S1x1024 .f32) (sel : FVec Ideal S1024x128 .bf16) :
    k0_pay10 c s u g sel (mulf u u) (truncf .bf16 (mulf u u) bitsLt_bf16_f32) (extf .f32 (truncf .bf16 (mulf u u) bitsLt_bf16_f32) bitsLt_bf16_f32)
     = truncf .bf16 (mulf (rt (gn u g sel (rs u sel)) c s) (broadcast S256x1024 (Scalar.ofBits .f32 0x3E38AA3B#32))) bitsLt_bf16_f32 := rfl
theorem pay13_eq (c s u : FVec Ideal S256x1024 .f32) (g : FVec Ideal S1x1024 .f32) (sel : FVec Ideal S1024x128 .bf16) :
    k0_pay13 c s u g sel = truncf .bf16 (rt (gn u g (shapeCast S1024x128 sel shapeCasts_S1024x128_S1024x128) (rs u (shapeCast S1024x128 sel shapeCasts_S1024x128_S1024x128))) c s) bitsLt_bf16_f32 := rfl

theorem ld0 (x : Vec Ideal S256x1024 .f32) : View.ld x r0_0 = x := by
  frame_out
theorem ld1 (x : Vec Ideal S8x1024 .f32) : View.ld x r0_1 = x := by
  frame_out
theorem ld2 (x : Vec Ideal S256x128 .f32) : View.ld x r0_2 = x := by
  frame_out
theorem ld4 (x : Vec Ideal S1x1024 .f32) : View.ld x r0_4 = x := by
  frame_out
theorem ld5 (x : Vec Ideal S1024x128 .bf16) : View.ld x r0_5 = x := by
  frame_out
theorem c3 (x : Vec Ideal S1024x3072 .bf16) (q k : Fin 1024) : View.ld x r0_3 (ix2 q k) = x (ix2 q ⟨0 + k.val, by omega⟩) := by
  exact View.ld_unit_apply_of x _ _ _ _ _ fun a => by fin_cases a <;> simp [ix2]
theorem c6 (x : Vec Ideal S1024x3072 .bf16) (q k : Fin 1024) : View.ld x r0_6 (ix2 q k) = x (ix2 q ⟨1024 + k.val, by omega⟩) := by
  exact View.ld_unit_apply_of x _ _ _ _ _ fun a => by fin_cases a <;> simp [ix2]
theorem c7 (x : Vec Ideal S1024x3072 .bf16) (q k : Fin 1024) : View.ld x r0_7 (ix2 q k) = x (ix2 q ⟨2048 + k.val, by omega⟩) := by
  exact View.ld_unit_apply_of x _ _ _ _ _ fun a => by fin_cases a <;> simp [ix2]

end Cert.Proof.Kernel5Ideal

end
-- ==== Proof.QkvRef.lean ====
/-
  The attention's projections: what both programs compute, and the reference's operations at an index.
-/
module

public import proofs.«01_k».proof.Proof.Qkv
public import proofs.«01_k».proof.Proof.Gen.Reference5Ideal.Run

@[expose] public section

noncomputable section

namespace Cert.Proof.Reference5Ideal

open Cert.Reference5Ideal Cert.Reference5Ideal.Gen Cert.Reference5Ideal.Value
open Idealize.ShloMosaic

variable (x : FVec Ideal S16384x1024 .f32) (g sh sc : FVec Ideal S1024 .f32) (w : FVec Ideal S1024x3072 .f32) (gain : FVec Ideal S64 .f32) (inv : FVec Ideal S16 .f32)

/-- A vector along every row. -/
def along (v : FVec Ideal S1024 .f32) : FVec Ideal S16384x1024 .f32 :=
  broadcastInDim S16384x1024 ![0, 1] bcast_S1x1024_S16384x1024_0_1 (broadcastInDim S1x1024 ![1] bcast_S1024_S1x1024_1 v)

theorem along_apply (v : FVec Ideal S1024 .f32) (r : Fin 16384) (k : Fin 1024) : along v (ix2 r k) = v (ix1 k) := by
  pointwise [along]

/-- The rows normed. -/
def unit : FVec Ideal S16384x1024 .f32 :=
  mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))

theorem unit_apply (r : Fin 16384) (k : Fin 1024) : unit x (ix2 r k) = (x (ix2 r k) : EReal) * Ideal.rsqrt (Ideal.div (∑ y : Fin 1024, (x (ix2 r y) : EReal) * x (ix2 r y)) (Ideal.ofBits .f32 1149239296#32) + Ideal.ofBits .f32 897988541#32) := by
  pointwise [unit]

def plus1 : FVec Ideal S1024 .f32 := addf (broadcastInDim S1024 ![] bcast_S_S1024 (constant S_ .f32 0x3F800000#32)) sc
theorem plus1_apply (k : Fin 1024) : plus1 sc (ix1 k) = (1 + sc (ix1 k) : EReal) := by
  pointwise [plus1]

def normed : FVec Ideal S16384x1024 .f32 := addf (mulf (mulf (unit x) (along g)) (along (plus1 sc))) (along sh)

theorem normed_apply (r : Fin 16384) (k : Fin 1024) : normed x g sh sc (ix2 r k) = Mix.nrm (fun y => x (ix2 r y)) g sh sc k := by
  unfold Mix.nrm
  rw [← unit_apply, ← plus1_apply, ← mul_assoc, ← along_apply g r k, ← along_apply sh r k, ← along_apply (plus1 sc) r k]
  rfl

def lin : FVec Ideal S16384x3072 .f32 := Host.dotGeneral dot_S16384x1024_S1024x3072_S16384x3072_1_0_0_1_n_n none (normed x g sh sc) w

theorem lin_apply (r : Fin 16384) (j : Fin 3072) : lin x g sh sc w (ix2 r j) = ∑ k : Fin 1024, Mix.nrm (fun y => x (ix2 r y)) g sh sc k * w (ix2 k j) := by
  simp only [← normed_apply]
  unfold lin
  generalize normed x g sh sc = h
  pointwise

/-- The heads' lanes, each head's normed with the gain. -/
def cut (u : FVec Ideal S16384x1024 .f32) : FVec Ideal S16384x16x64 .f32 := shapeCast _ u shapeCasts_S16384x1024_S16384x16x64
theorem cut_apply (u : FVec Ideal S16384x1024 .f32) (r : Fin 16384) (h : Fin 16) (e : Fin 64) : cut u (ix3 r h e) = u (ix2 r ⟨h.val * 64 + e.val, by omega⟩) := by
  pointwise [cut]

def heads (u : FVec Ideal S16384x16x64 .f32) : FVec Ideal S16384x16x64 .f32 :=
  mulf (mulf u (broadcastInDim S16384x16x64 ![0, 1, 2] bcast_S16384x16x1_S16384x16x64_0_1_2 (Host.rsqrt (addf (Host.divf (broadcastInDim S16384x16x1 ![0, 1] bcast_S16384x16_S16384x16x1_0_1 (Host.reduceAdd (mulf u u) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x358637BD#32))))))
    (broadcastInDim S16384x16x64 ![0, 1, 2] bcast_S1x1x64_S16384x16x64_0_1_2 (broadcastInDim S1x1x64 ![2] bcast_S64_S1x1x64_2 gain))
theorem heads_apply (u : FVec Ideal S16384x16x64 .f32) (r : Fin 16384) (h : Fin 16) (e : Fin 64) :
    heads gain u (ix3 r h e) = (u (ix3 r h e) : EReal) * Ideal.rsqrt (Ideal.div (∑ y : Fin 64, (u (ix3 r h y) : EReal) * u (ix3 r h y)) (Ideal.ofBits .f32 0x42800000#32) + Ideal.ofBits .f32 897988541#32) * gain (ix1 e) := by
  pointwise [heads]

/-- The two positions of a row, -/
def row : IVec S16384 32 := shapeCast _ (broadcastInDim S256x64 ![0] bcast_S256_S256x64_0 (iotaInDim S256 32 0)) shapeCasts_S256x64_S16384
def col : IVec S16384 32 := shapeCast _ (broadcastInDim S256x64 ![0, 1] bcast_S1x64_S256x64_0_1 (shapeCast _ (iotaInDim S64 32 0) shapeCasts_S64_S1x64)) shapeCasts_S256x64_S16384
theorem row_apply (r : Fin 16384) : row (ix1 r) = BitVec.ofNat 32 (r.val / 64) := by
  pointwise [row]
theorem col_apply (r : Fin 16384) : col (ix1 r) = BitVec.ofNat 32 (r.val % 64) := by
  pointwise [col]

/-- an axis' angles, -/
def ang (p : IVec S16384 32) : FVec Ideal S16384x16 .f32 :=
  mulf (broadcastInDim S16384x16 ![0, 1] bcast_S16384x1_S16384x16_0_1 (broadcastInDim S16384x1 ![0] bcast_S16384_S16384x1_0 (sitofp .f32 p)))
    (broadcastInDim S16384x16 ![0, 1] bcast_S1x16_S16384x16_0_1 (broadcastInDim S1x16 ![1] bcast_S16_S1x16_1 inv))
theorem ang_apply (p : IVec S16384 32) (r : Fin 16384) (f : Fin 16) : ang inv p (ix2 r f) = (((p (ix1 r)).toInt : ℝ) : EReal) * inv (ix1 f) := by
  pointwise [ang]
  rfl

def spread (t : FVec Ideal S16384x16 .f32) : FVec Ideal S16384x16x16 .f32 :=
  broadcastInDim S16384x16x16 ![0, 1, 2] bcast_S16384x1x16_S16384x16x16_0_1_2 (broadcastInDim S16384x1x16 ![0, 2] bcast_S16384x16_S16384x1x16_0_2 t)
theorem spread_apply (t : FVec Ideal S16384x16 .f32) (r : Fin 16384) (h f : Fin 16) : spread t (ix3 r h f) = t (ix2 r f) := by
  pointwise [spread]

/-- and the rotation of an axis' lanes. -/
def rot (u : FVec Ideal S16384x16x32 .f32) (a : FVec Ideal S16384x16 .f32) : FVec Ideal S16384x16x32 .f32 :=
  concatenate S16384x16x32 2 [⟨S16384x16x16, (subf (mulf (extractStridedSlice S16384x16x16 ![0, 0, 0] u slices_S16384x16x32_S16384x16x16_0_0_0) (spread (Host.cos a))) (mulf (extractStridedSlice S16384x16x16 ![0, 0, 16] u slices_S16384x16x32_S16384x16x16_0_0_16) (spread (Host.sin a))))⟩,
    ⟨S16384x16x16, (addf (mulf (extractStridedSlice S16384x16x16 ![0, 0, 16] u slices_S16384x16x32_S16384x16x16_0_0_16) (spread (Host.cos a))) (mulf (extractStridedSlice S16384x16x16 ![0, 0, 0] u slices_S16384x16x32_S16384x16x16_0_0_0) (spread (Host.sin a))))⟩] concatenates_S16384x16x16_S16384x16x16_S16384x16x32_d2

theorem rot_apply (u : FVec Ideal S16384x16x32 .f32) (a : FVec Ideal S16384x16 .f32) (r : Fin 16384) (h : Fin 16) (e : Fin 32) :
    rot u a (ix3 r h e) = if he : e.val < 16 then (u (ix3 r h e) : EReal) * Ideal.cos (a (ix2 r ⟨e.val, he⟩)) - u (ix3 r h ⟨16 + e.val, by omega⟩) * Ideal.sin (a (ix2 r ⟨e.val, he⟩))
      else (u (ix3 r h e) : EReal) * Ideal.cos (a (ix2 r ⟨e.val - 16, by omega⟩)) + u (ix3 r h ⟨e.val - 16, by omega⟩) * Ideal.sin (a (ix2 r ⟨e.val - 16, by omega⟩)) := by
  pointwise [rot, spread]
  split
  · rfl
  · rename_i h1
    have e1 : (⟨16 + (e.val - 16), by omega⟩ : Fin 32) = e := Fin.ext (by dsimp only; omega)
    rw [e1]

def rope (u : FVec Ideal S16384x16x64 .f32) : FVec Ideal S16384x1024 .f32 :=
  shapeCast _ (concatenate S16384x16x64 2 [⟨S16384x16x32, rot (extractStridedSlice S16384x16x32 ![0, 0, 0] u slices_S16384x16x64_S16384x16x32_0_0_0) (ang inv row)⟩,
    ⟨S16384x16x32, rot (extractStridedSlice S16384x16x32 ![0, 0, 32] u slices_S16384x16x64_S16384x16x32_0_0_32) (ang inv col)⟩] concatenates_S16384x16x32_S16384x16x32_S16384x16x64_d2) shapeCasts_S16384x16x64_S16384x1024

variable (m : (ℓ : Loc nD τ sig) → Buf (Elt Ideal) ℓ) (c : Dev nD)

abbrev whole : FVec Ideal S16384x3072 .f32 :=
  lin (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4))

theorem res0 : res_main_v162 m c = truncf .bf16 (mulf (rope (m ((c.tc : Thread nD τ).loc main_arg7)) (heads (m ((c.tc : Thread nD τ).loc main_arg5)) (cut (extractStridedSlice S16384x1024 ![0, 0] (whole m c) slices_S16384x3072_S16384x1024_0_0))))
    (broadcastInDim S16384x1024 ![] bcast_S_S16384x1024 (constant S_ .f32 0x3E38AA3B#32))) bitsLt_bf16_f32 := rfl
theorem res1 : res_main_v163 m c = truncf .bf16 (rope (m ((c.tc : Thread nD τ).loc main_arg7)) (heads (m ((c.tc : Thread nD τ).loc main_arg6)) (cut (extractStridedSlice S16384x1024 ![0, 1024] (whole m c) slices_S16384x3072_S16384x1024_0_1024))))
    bitsLt_bf16_f32 := rfl

end Cert.Proof.Reference5Ideal

end
-- ==== Proof.QkvConst.lean ====
/-
  The constants of the attention's projections, and the norm of a row and of a head's lanes over the reals.
-/
module

public import Idealize.ShloMosaic.Lib.Pointwise
public import Idealize.ShloMosaic.Lib.IdealHost

@[expose] public section

noncomputable section

namespace Cert.Proof.Lanes

open Idealize.ShloMosaic

theorem k1024 : Ideal.ofBits FTy.f32 1149239296#32 = ((1024 : ℝ) : EReal) := by
  simp [Ideal.ofBits, Ideal.ieee, -EReal.coe_mul]; norm_num
theorem k64 : Ideal.ofBits FTy.f32 0x42800000#32 = ((64 : ℝ) : EReal) := by
  simp [Ideal.ofBits, Ideal.ieee, -EReal.coe_mul]; norm_num
theorem k64th : Ideal.ofBits FTy.f32 0x3C800000#32 = ((64⁻¹ : ℝ) : EReal) := by
  simp [Ideal.ofBits, Ideal.ieee, -EReal.coe_mul]; norm_num
theorem kneg : Ideal.ofBits FTy.f32 0xBF800000#32 = -1 := by
  rw [show (-1 : EReal) = ((-1 : ℝ) : EReal) by simp]
  simp [Ideal.ofBits, Ideal.ieee, -EReal.coe_mul]; try norm_num
theorem keps : ∃ e : ℝ, 0 < e ∧ Ideal.ofBits FTy.f32 897988541#32 = (e : EReal) := by
  simp [Ideal.ofBits, Ideal.ieee, -EReal.coe_mul]

/-- The reciprocal root of a mean of squares and the offset is a real. -/
theorem root_real (S n : ℝ) (hS : 0 ≤ S) (hn : 0 < n) : ∃ q : ℝ, Ideal.rsqrt (Ideal.div (S : EReal) (n : EReal) + Ideal.ofBits FTy.f32 897988541#32) = q := by
  obtain ⟨e, he, hh⟩ := keps
  rw [hh, Ideal.div_coe hn.ne', one_div, ← EReal.coe_mul, ← EReal.coe_add]
  have hp : 0 < S * n⁻¹ + e := by positivity
  have key : ∀ t : ℝ, Ideal.rsqrt (t : EReal) = if t < 0 then ⊥ else if t = 0 then ⊤ else (((Real.sqrt t)⁻¹ : ℝ) : EReal) := fun t => rfl
  refine ⟨(Real.sqrt (S * n⁻¹ + e))⁻¹, ?_⟩
  rw [key, if_neg hp.le.not_gt, if_neg hp.ne']

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row, finite or not, times the reciprocal root of its mean square and the offset is finite: an infinite entry makes the root zero. -/
theorem unit_real (v : Fin 1024 → EReal) (k : Fin 1024) :
    ∃ q : ℝ, v k * Ideal.rsqrt (Ideal.div (∑ y : Fin 1024, v y * v y) (Ideal.ofBits .f32 1149239296#32) + Ideal.ofBits .f32 897988541#32) = q := by
  rw [k1024]
  by_cases hv : ∀ y, ∃ r : ℝ, v y = r
  · choose r hr using hv
    obtain ⟨n, hn⟩ := root_real (∑ y : Fin 1024, r y * r y) 1024 (Finset.sum_nonneg fun y _ => mul_self_nonneg _) (by norm_num)
    rw [coe_sum] at hn
    simp only [EReal.coe_mul] at hn
    refine ⟨r k * n, ?_⟩
    simp only [hr]
    rw [hn, EReal.coe_mul]
  · obtain ⟨z, hz⟩ := not_forall.1 hv
    have hsq : v z * v z = ⊤ := by
      induction h : v z with
      | bot => exact EReal.bot_mul_bot
      | top => exact EReal.top_mul_top
      | coe r => exact absurd ⟨r, h⟩ hz
    have hnn : ∀ y, 0 ≤ v y * v y := fun y => by
      induction v y with
      | bot => rw [EReal.bot_mul_bot]; exact le_top
      | top => rw [EReal.top_mul_top]; exact le_top
      | coe r => rw [← EReal.coe_mul]; exact EReal.coe_nonneg.2 (mul_self_nonneg r)
    have hsum : ∑ y : Fin 1024, v y * v y = ⊤ := top_le_iff.1 (hsq ▸ Finset.single_le_sum (f := fun y => v y * v y) (fun y _ => hnn y) (Finset.mem_univ z))
    obtain ⟨e, _, hh⟩ := keps
    have hroot : Ideal.rsqrt ⊤ = 0 := rfl
    refine ⟨0, ?_⟩
    rw [hsum, hh, Ideal.div_coe (by norm_num), EReal.top_mul_coe_of_pos (by norm_num), EReal.top_add_coe, hroot, mul_zero, EReal.coe_zero]

/-- The lanes of a lane's head. -/
def mate (k : Fin 1024) (y : Fin 64) : Fin 1024 := ⟨k.val / 64 * 64 + y.val, by omega⟩

theorem sum_head (f : Fin 1024 → ℝ) (k : Fin 1024) : ∑ y : Fin 1024, (if y.val / 64 = k.val / 64 then f y else 0) = ∑ y : Fin 64, f (mate k y) := by
  have h := (finProdFinEquiv (m := 16) (n := 64)).sum_comp (fun y : Fin 1024 => if y.val / 64 = k.val / 64 then f y else 0)
  rw [← h, Fintype.sum_prod_type, Finset.sum_eq_single (⟨k.val / 64, by omega⟩ : Fin 16)]
  · refine Finset.sum_congr rfl fun y _ => ?_
    have e : (finProdFinEquiv ((⟨k.val / 64, by omega⟩ : Fin 16), y) : Fin 1024) = mate k y := Fin.ext (by simp [mate, finProdFinEquiv]; omega)
    rw [e, if_pos (by simp only [mate]; omega)]
  · intro b _ hb
    refine Finset.sum_eq_zero fun y _ => if_neg ?_
    have : b.val ≠ k.val / 64 := fun e => hb (Fin.ext e)
    simp [finProdFinEquiv]
    omega
  · intro h
    exact absurd (Finset.mem_univ _) h

theorem sub_real {a : EReal} (h : ∃ r : ℝ, a = r) : a - a = 0 := by
  obtain ⟨r, rfl⟩ := h
  rw [← EReal.coe_sub, sub_self, EReal.coe_zero]

/-- The sums over a head's lanes by the selector's two products are the head's. -/
theorem group (u : Fin 1024 → EReal) (hu : ∀ k, ∃ r : ℝ, u k = r) (s : Fin 1024 → Fin 128 → EReal) (hs : ∀ k g, s k g = if k.val / 64 = g.val then (1 : EReal) else 0)
    (V : Fin 128 → EReal) (hV : ∀ g, V g = Ideal.rsqrt ((∑ y : Fin 1024, (u y * u y) * s y g + ∑ y : Fin 1024, (u y * u y - u y * u y) * s y g) * Ideal.ofBits .f32 0x3C800000#32 + Ideal.ofBits .f32 897988541#32)) (k : Fin 1024) :
    ∑ g : Fin 128, V g * s k g + ∑ g : Fin 128, (V g - V g) * s k g
      = Ideal.rsqrt (Ideal.div (∑ y : Fin 64, u (mate k y) * u (mate k y)) (Ideal.ofBits .f32 0x42800000#32) + Ideal.ofBits .f32 897988541#32) := by
  choose q hq using hu
  have hv : ∀ g, V g = Ideal.rsqrt (Ideal.div ((∑ y : Fin 1024, (if y.val / 64 = g.val then q y * q y else 0) : ℝ) : EReal) ((64 : ℝ) : EReal) + Ideal.ofBits .f32 897988541#32) := by
    intro g
    rw [hV, k64th, Ideal.div_coe (by norm_num), one_div]
    have z : ∑ y : Fin 1024, (u y * u y - u y * u y) * s y g = 0 := Finset.sum_eq_zero fun y _ => by
      rw [sub_real ⟨q y * q y, by rw [hq, EReal.coe_mul]⟩, zero_mul]
    rw [z, add_zero, coe_sum]
    refine congrArg (fun q => Ideal.rsqrt (q * ((64⁻¹ : ℝ) : EReal) + Ideal.ofBits FTy.f32 897988541#32)) ?_
    refine Finset.sum_congr rfl fun y _ => ?_
    rw [hs y g, hq y]
    split
    · rw [mul_one, EReal.coe_mul]
    · rw [mul_zero, EReal.coe_zero]
  have hr : ∀ g, ∃ r : ℝ, V g = r := fun g => by
    rw [hv]
    refine root_real _ _ (Finset.sum_nonneg fun y _ => ?_) (by norm_num)
    split
    · exact mul_self_nonneg _
    · exact le_refl _
  have z : ∑ g : Fin 128, (V g - V g) * s k g = 0 := Finset.sum_eq_zero fun g _ => by
    rw [sub_real (hr g), zero_mul]
  rw [z, add_zero, Finset.sum_eq_single (⟨k.val / 64, by omega⟩ : Fin 128)]
  · rw [hs, if_pos rfl, mul_one, hv, k64]
    dsimp only
    rw [sum_head (fun y => q y * q y), coe_sum]
    simp only [EReal.coe_mul, hq]
  · intro b _ hb
    rw [hs, if_neg (fun e => hb (Fin.ext e.symm)), mul_zero]
  · intro h
    exact absurd (Finset.mem_univ _) h

end Cert.Proof.Lanes

end
-- ==== Proof.QkvSpec.lean ====
/-
  The attention's projections: what both programs compute, row by row, and the reference's three results as it.
-/
module

public import proofs.«01_k».proof.Proof.QkvRef
public import proofs.«01_k».proof.Proof.QkvConst

@[expose] public section

noncomputable section

namespace Cert.Proof.Lanes

open Idealize.ShloMosaic

/-- The normed row through a third of the projection. -/
def proj (x : Mix.M2 16384 1024) (g sh sc : Mix.V1 1024) (w : Mix.M2 1024 3072) (off : ℕ) (ho : off ≤ 2048) (r : Fin 16384) (k : Fin 1024) : EReal :=
  ∑ q : Fin 1024, Mix.nrm (fun y => x (ix2 r y)) g sh sc q * w (ix2 q ⟨off + k.val, by omega⟩)

/-- A row's heads normed with the gain, -/
def headnorm (u : Fin 1024 → EReal) (gain : Mix.V1 64) (k : Fin 1024) : EReal :=
  u k * Ideal.rsqrt (Ideal.div (∑ y : Fin 64, u (mate k y) * u (mate k y)) (Ideal.ofBits .f32 0x42800000#32) + Ideal.ofBits .f32 897988541#32) * gain (ix1 ⟨k.val % 64, Nat.mod_lt _ (by decide)⟩)

/-- a lane's angle in a row, -/
def turn (inv : Mix.V1 16) (r : Fin 16384) (k : Fin 1024) : EReal :=
  (((if k.val % 64 < 32 then r.val / 64 else r.val % 64 : ℕ) : ℝ) : EReal) * inv (ix1 ⟨k.val % 16, Nat.mod_lt _ (by decide)⟩)

/-- and the row rotated by its lanes' angles. -/
def rotate (v : Fin 1024 → EReal) (inv : Mix.V1 16) (r : Fin 16384) (k : Fin 1024) : EReal :=
  if k.val % 32 < 16 then v k * Ideal.cos (turn inv r k) - v ⟨(k.val + 16) % 1024, Nat.mod_lt _ (by decide)⟩ * Ideal.sin (turn inv r k)
  else v k * Ideal.cos (turn inv r k) + v ⟨(k.val + 1008) % 1024, Nat.mod_lt _ (by decide)⟩ * Ideal.sin (turn inv r k)

/-- A row through the norm and the projection is finite, where the modulation and the matrix are. -/
theorem proj_real (x : Mix.M2 16384 1024) (g sh sc : Mix.V1 1024) (w : Mix.M2 1024 3072) (hg : ∀ i, ∃ r : ℝ, g i = r) (hsh : ∀ i, ∃ r : ℝ, sh i = r)
    (hsc : ∀ i, ∃ r : ℝ, sc i = r) (hw : ∀ i, ∃ r : ℝ, w i = r) (off : ℕ) (ho : off ≤ 2048) (r : Fin 16384) (k : Fin 1024) : ∃ q : ℝ, proj x g sh sc w off ho r k = q := by
  choose x' hx using unit_real (fun y => x (ix2 r y))
  choose g' hg using hg
  choose sh' hsh using hsh
  choose sc' hsc using hsc
  choose w' hw using hw
  refine ⟨∑ q : Fin 1024, (x' q * (g' (ix1 q) * (1 + sc' (ix1 q))) + sh' (ix1 q)) * w' (ix2 q ⟨off + k.val, by omega⟩), ?_⟩
  rw [coe_sum]
  refine Finset.sum_congr rfl fun q _ => ?_
  unfold Mix.nrm
  rw [hx q]
  simp only [hg, hsh, hsc, hw]
  simp only [EReal.coe_mul, EReal.coe_add, EReal.coe_one]

/-- The three results. -/
def Q (x : Mix.M2 16384 1024) (g sh sc : Mix.V1 1024) (w : Mix.M2 1024 3072) (gain : Mix.V1 64) (inv : Mix.V1 16) (r : Fin 16384) (k : Fin 1024) : EReal :=
  rotate (headnorm (proj x g sh sc w 0 (by decide) r) gain) inv r k * Ideal.ofBits .f32 0x3E38AA3B#32
def K (x : Mix.M2 16384 1024) (g sh sc : Mix.V1 1024) (w : Mix.M2 1024 3072) (gain : Mix.V1 64) (inv : Mix.V1 16) (r : Fin 16384) (k : Fin 1024) : EReal :=
  rotate (headnorm (proj x g sh sc w 1024 (by decide) r) gain) inv r k

end Cert.Proof.Lanes

namespace Cert.Proof.Reference5Ideal

open Cert.Reference5Ideal Cert.Reference5Ideal.Gen Cert.Reference5Ideal.Value
open Idealize.ShloMosaic

variable (x : FVec Ideal S16384x1024 .f32) (g sh sc : FVec Ideal S1024 .f32) (w : FVec Ideal S1024x3072 .f32) (gain : FVec Ideal S64 .f32) (inv : FVec Ideal S16 .f32)

theorem part0_apply (r : Fin 16384) (k : Fin 1024) : extractStridedSlice S16384x1024 ![0, 0] (lin x g sh sc w) slices_S16384x3072_S16384x1024_0_0 (ix2 r k) = Lanes.proj x g sh sc w 0 (by decide) r k := by
  refine Eq.trans ?_ (lin_apply x g sh sc w r ⟨0 + k.val, by omega⟩)
  generalize lin x g sh sc w = h
  pointwise
  try exact congrArg (fun q => h (ix2 r q)) (Fin.ext (by dsimp only; omega))
theorem part1_apply (r : Fin 16384) (k : Fin 1024) : extractStridedSlice S16384x1024 ![0, 1024] (lin x g sh sc w) slices_S16384x3072_S16384x1024_0_1024 (ix2 r k) = Lanes.proj x g sh sc w 1024 (by decide) r k := by
  refine Eq.trans ?_ (lin_apply x g sh sc w r ⟨1024 + k.val, by omega⟩)
  generalize lin x g sh sc w = h
  pointwise
theorem part2_apply (r : Fin 16384) (k : Fin 1024) : extractStridedSlice S16384x1024 ![0, 2048] (lin x g sh sc w) slices_S16384x3072_S16384x1024_0_2048 (ix2 r k) = Lanes.proj x g sh sc w 2048 (by decide) r k := by
  refine Eq.trans ?_ (lin_apply x g sh sc w r ⟨2048 + k.val, by omega⟩)
  generalize lin x g sh sc w = h
  pointwise

theorem heads_cut (u : FVec Ideal S16384x1024 .f32) (r : Fin 16384) (k : Fin 1024) :
    heads gain (cut u) (ix3 r ⟨k.val / 64, by omega⟩ ⟨k.val % 64, Nat.mod_lt _ (by decide)⟩) = Lanes.headnorm (fun y => u (ix2 r y)) gain k := by
  rw [heads_apply]
  simp only [cut_apply]
  unfold Lanes.headnorm Lanes.mate
  have e : (⟨k.val / 64 * 64 + k.val % 64, by omega⟩ : Fin 1024) = k := Fin.ext (by dsimp only; omega)
  rw [e]

theorem div_int : ∀ r : Fin 16384, (BitVec.ofNat 32 (r.val / 64)).toInt = ((r.val / 64 : ℕ) : ℤ) := by decide +kernel
theorem rem_int : ∀ r : Fin 16384, (BitVec.ofNat 32 (r.val % 64)).toInt = ((r.val % 64 : ℕ) : ℤ) := by decide +kernel

set_option maxHeartbeats 3200000 in
theorem rope_apply (u : FVec Ideal S16384x16x64 .f32) (v : Fin 1024 → EReal) (r : Fin 16384)
    (hv : ∀ k : Fin 1024, u (ix3 r ⟨k.val / 64, by omega⟩ ⟨k.val % 64, Nat.mod_lt _ (by decide)⟩) = v k) (k : Fin 1024) : rope inv u (ix2 r k) = Lanes.rotate v inv r k := by
  unfold rope
  generalize ha : ang inv row = a
  generalize hb : ang inv col = b
  pointwise
  simp only [rot_apply]
  pointwise
  subst ha hb
  simp only [ang_apply, row_apply, col_apply, div_int, rem_int]
  have hu : ∀ (h : Fin 16) (e : Fin 64) (j : Fin 1024), j.val = h.val * 64 + e.val → u (ix3 r h e) = v j := fun h e j hj => by
    rw [← hv j]
    have e1 : (⟨j.val / 64, by omega⟩ : Fin 16) = h := Fin.ext (by dsimp only; omega)
    have e2 : (⟨j.val % 64, Nat.mod_lt _ (by decide)⟩ : Fin 64) = e := Fin.ext (by dsimp only; omega)
    rw [e1, e2]
  unfold Lanes.rotate Lanes.turn
  simp only [Int.cast_natCast]
  by_cases h1 : k.val % 64 < 32
  · by_cases h2 : k.val % 32 < 16
    · skip
      rw [dif_pos h1, dif_pos (show k.val % 64 < 16 by omega), if_pos h2, if_pos h1]
      rw [hu ⟨k.val / 64, by omega⟩ ⟨k.val % 64, by omega⟩ k (by dsimp only; omega), hu ⟨k.val / 64, by omega⟩ ⟨16 + k.val % 64, by omega⟩ ⟨(k.val + 16) % 1024, Nat.mod_lt _ (by decide)⟩ (by dsimp only; omega),
        show (⟨k.val % 64, by omega⟩ : Fin 16) = ⟨k.val % 16, Nat.mod_lt _ (by decide)⟩ from Fin.ext (by dsimp only; omega)]
    · skip
      rw [dif_pos h1, dif_neg (show ¬ k.val % 64 < 16 by omega), if_neg h2, if_pos h1]
      rw [hu ⟨k.val / 64, by omega⟩ ⟨k.val % 64, by omega⟩ k (by dsimp only; omega), hu ⟨k.val / 64, by omega⟩ ⟨k.val % 64 - 16, by omega⟩ ⟨(k.val + 1008) % 1024, Nat.mod_lt _ (by decide)⟩ (by dsimp only; omega),
        show (⟨k.val % 64 - 16, by omega⟩ : Fin 16) = ⟨k.val % 16, Nat.mod_lt _ (by decide)⟩ from Fin.ext (by dsimp only; omega)]
  · by_cases h2 : k.val % 32 < 16
    · skip
      rw [dif_neg h1, dif_pos (show k.val % 64 - 32 < 16 by omega), if_pos h2, if_neg h1]
      rw [hu ⟨k.val / 64, by omega⟩ ⟨32 + (k.val % 64 - 32), by omega⟩ k (by dsimp only; omega), hu ⟨k.val / 64, by omega⟩ ⟨32 + (16 + (k.val % 64 - 32)), by omega⟩ ⟨(k.val + 16) % 1024, Nat.mod_lt _ (by decide)⟩ (by dsimp only; omega),
        show (⟨k.val % 64 - 32, by omega⟩ : Fin 16) = ⟨k.val % 16, Nat.mod_lt _ (by decide)⟩ from Fin.ext (by dsimp only; omega)]
    · skip
      rw [dif_neg h1, dif_neg (show ¬ k.val % 64 - 32 < 16 by omega), if_neg h2, if_neg h1]
      rw [hu ⟨k.val / 64, by omega⟩ ⟨32 + (k.val % 64 - 32), by omega⟩ k (by dsimp only; omega), hu ⟨k.val / 64, by omega⟩ ⟨32 + (k.val % 64 - 32 - 16), by omega⟩ ⟨(k.val + 1008) % 1024, Nat.mod_lt _ (by decide)⟩ (by dsimp only; omega),
        show (⟨k.val % 64 - 32 - 16, by omega⟩ : Fin 16) = ⟨k.val % 16, Nat.mod_lt _ (by decide)⟩ from Fin.ext (by dsimp only; omega)]

theorem full_apply (u : FVec Ideal S16384x1024 .f32) (P : Fin 1024 → EReal) (r : Fin 16384) (hP : ∀ k, u (ix2 r k) = P k) (k : Fin 1024) :
    rope inv (heads gain (cut u)) (ix2 r k) = Lanes.rotate (Lanes.headnorm P gain) inv r k :=
  rope_apply inv _ _ r (fun q => (heads_cut gain u r q).trans (by rw [show (fun y => u (ix2 r y)) = P from funext hP])) k

theorem scaled_apply (u : FVec Ideal S16384x1024 .f32) (i : S16384x1024.Idx) :
    truncf .bf16 (mulf u (broadcastInDim S16384x1024 ![] bcast_S_S16384x1024 (constant S_ .f32 0x3E38AA3B#32))) bitsLt_bf16_f32 i = (u i : EReal) * Ideal.ofBits .f32 0x3E38AA3B#32 := by
  pointwise

variable (m : (ℓ : Loc nD τ sig) → Buf (Elt Ideal) ℓ) (c : Dev nD)

theorem res0_apply (r : Fin 16384) (k : Fin 1024) : res_main_v162 m c (ix2 r k) =
    Lanes.Q (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg7)) r k := by
  rw [res0, scaled_apply, full_apply _ _ _ _ r (part0_apply _ _ _ _ _ r) k]
  rfl
theorem res1_apply (r : Fin 16384) (k : Fin 1024) : res_main_v163 m c (ix2 r k) =
    Lanes.K (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg6)) (m ((c.tc : Thread nD τ).loc main_arg7)) r k := by
  rw [res1]
  exact full_apply _ _ _ _ r (part1_apply _ _ _ _ _ r) k
theorem res2_apply (r : Fin 16384) (k : Fin 1024) : truncf (F := Ideal) .bf16 (extractStridedSlice S16384x1024 ![0, 2048] (whole m c) slices_S16384x3072_S16384x1024_0_2048) bitsLt_bf16_f32 (ix2 r k) =
    Lanes.proj (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) 2048 (by decide) r k :=
  part2_apply _ _ _ _ _ r k

end Cert.Proof.Reference5Ideal

end
-- ==== Proof.QkvBody.lean ====
/-
  The attention's projections: the kernel's blocks at an index, against what both programs compute.
-/
module

public import proofs.«01_k».proof.Proof.Qkv
public import proofs.«01_k».proof.Proof.QkvSpec

@[expose] public section

noncomputable section

namespace Cert.Proof.Kernel5Ideal

open Cert.Kernel5Ideal Cert.Kernel5Ideal.Gen
open Idealize.ShloMosaic Idealize.ShloMosaic.TcCoe

theorem lane_apply (C S u : FVec Ideal S256x1024 .f32) (g : FVec Ideal S1x1024 .f32) (sel : FVec Ideal S1024x128 .bf16) (gain : Mix.V1 64) (inv : Mix.V1 16) (R : Fin 16384) (r : Fin 256) (P : Fin 1024 → EReal)
    (hu : ∀ k, u (ix2 r k) = P k) (hP : ∀ k, ∃ q : ℝ, P k = q) (hs : ∀ k y, sel (ix2 k y) = if k.val / 64 = y.val then (1 : EReal) else 0)
    (hg : ∀ k : Fin 1024, g (ix2 0 k) = gain (ix1 ⟨k.val % 64, Nat.mod_lt _ (by decide)⟩)) (hC : ∀ k, C (ix2 r k) = Ideal.cos (Lanes.turn inv R k))
    (hS : ∀ k, S (ix2 r k) = (Ideal.sin (Lanes.turn inv R k) * (if k.val % 32 < 16 then (-1 : EReal) else 1) : EReal)) (k : Fin 1024) :
    rt (gn u g sel (rs u sel)) C S (ix2 r k) = Lanes.rotate (Lanes.headnorm P gain) inv R k := by
  have hn : ∀ k, gn u g sel (rs u sel) (ix2 r k) = Lanes.headnorm P gain k := fun k => by
    rw [gn_apply, Lanes.group P hP (fun k y => sel (ix2 k y)) hs (fun y => rs u sel (ix2 r y)) (fun y => by rw [rs_apply]; simp only [hu]) k, hg, hu]
    rfl
  rw [rt_apply]
  simp only [hn]
  rw [hC, hS]
  unfold Lanes.rotate
  by_cases h : k.val % 32 < 16
  · rw [if_pos h, if_pos h, if_pos h, mul_neg, mul_one, mul_neg, sub_eq_add_neg]
  · rw [if_neg h, if_neg h, if_neg h, mul_one]

theorem nrm8_eq (v : Fin 1024 → EReal) (mod : Vec Ideal S8x1024 .f32) (g sh sc : Mix.V1 1024) (h0 : ∀ k, mod (ix2 0 k) = g (ix1 k)) (h1 : ∀ k, mod (ix2 1 k) = sc (ix1 k)) (h2 : ∀ k, mod (ix2 2 k) = sh (ix1 k)) (k : Fin 1024) :
    nrm8 v mod k = Mix.nrm v g sh sc k := by
  unfold nrm8 Mix.nrm
  rw [h0, h1, h2]

end Cert.Proof.Kernel5Ideal

end
-- ==== Proof.QkvLit.lean ====
/-
  The attention's projections: the constant arrays of the host code, the heads' selector and the signs of the sines.
-/
module

public import proofs.«01_k».proof.Kernel5Ideal
public import proofs.«01_k».proof.Proof.QkvConst

@[expose] public section

noncomputable section

namespace Cert.Proof.Lits

open Cert.Kernel5Ideal
open Idealize.ShloMosaic

/-- The words of one and of zero, as a row of the selector has them: the one at the row's own column. -/
def word (a j : ℕ) : BitVec 32 := if j = a then 0x3F800000#32 else 0#32

theorem leaf_0 (i : ℕ) : lit0t0_0 i = word 0 (i % 128) := by
  have h : ∀ n : Fin 128, lit0t0_0 n.val = word 0 n.val := by decide +kernel
  rw [← h ⟨i % 128, Nat.mod_lt _ (by decide)⟩]
  unfold lit0t0_0
  rw [Nat.mod_mod]
theorem leaf_1 (i : ℕ) : lit0t0_64 i = word 1 (i % 128) := by
  have h : ∀ n : Fin 128, lit0t0_64 n.val = word 1 n.val := by decide +kernel
  rw [← h ⟨i % 128, Nat.mod_lt _ (by decide)⟩]
  unfold lit0t0_64
  rw [Nat.mod_mod]
theorem leaf_2 (i : ℕ) : lit0t0_128 i = word 2 (i % 128) := by
  have h : ∀ n : Fin 128, lit0t0_128 n.val = word 2 n.val := by decide +kernel
  rw [← h ⟨i % 128, Nat.mod_lt _ (by decide)⟩]
  unfold lit0t0_128
  rw [Nat.mod_mod]
theorem leaf_3 (i : ℕ) : lit0t0_192 i = word 3 (i % 128) := by
  have h : ∀ n : Fin 128, lit0t0_192 n.val = word 3 n.val := by decide +kernel
  rw [← h ⟨i % 128, Nat.mod_lt _ (by decide)⟩]
  unfold lit0t0_192
  rw [Nat.mod_mod]
theorem leaf_4 (i : ℕ) : lit0t0_256 i = word 4 (i % 128) := by
  have h : ∀ n : Fin 128, lit0t0_256 n.val = word 4 n.val := by decide +kernel
  rw [← h ⟨i % 128, Nat.mod_lt _ (by decide)⟩]
  unfold lit0t0_256
  rw [Nat.mod_mod]
theorem leaf_5 (i : ℕ) : lit0t0_320 i = word 5 (i % 128) := by
  have h : ∀ n : Fin 128, lit0t0_320 n.val = word 5 n.val := by decide +kernel
  rw [← h ⟨i % 128, Nat.mod_lt _ (by decide)⟩]
  unfold lit0t0_320
  rw [Nat.mod_mod]
theorem leaf_6 (i : ℕ) : lit0t0_384 i = word 6 (i % 128) := by
  have h : ∀ n : Fin 128, lit0t0_384 n.val = word 6 n.val := by decide +kernel
  rw [← h ⟨i % 128, Nat.mod_lt _ (by decide)⟩]
  unfold lit0t0_384
  rw [Nat.mod_mod]
theorem leaf_7 (i : ℕ) : lit0t0_448 i = word 7 (i % 128) := by
  have h : ∀ n : Fin 128, lit0t0_448 n.val = word 7 n.val := by decide +kernel
  rw [← h ⟨i % 128, Nat.mod_lt _ (by decide)⟩]
  unfold lit0t0_448
  rw [Nat.mod_mod]
theorem leaf_8 (i : ℕ) : lit0t0_512 i = word 8 (i % 128) := by
  have h : ∀ n : Fin 128, lit0t0_512 n.val = word 8 n.val := by decide +kernel
  rw [← h ⟨i % 128, Nat.mod_lt _ (by decide)⟩]
  unfold lit0t0_512
  rw [Nat.mod_mod]
theorem leaf_9 (i : ℕ) : lit0t0_576 i = word 9 (i % 128) := by
  have h : ∀ n : Fin 128, lit0t0_576 n.val = word 9 n.val := by decide +kernel
  rw [← h ⟨i % 128, Nat.mod_lt _ (by decide)⟩]
  unfold lit0t0_576
  rw [Nat.mod_mod]
theorem leaf_10 (i : ℕ) : lit0t0_640 i = word 10 (i % 128) := by
  have h : ∀ n : Fin 128, lit0t0_640 n.val = word 10 n.val := by decide +kernel
  rw [← h ⟨i % 128, Nat.mod_lt _ (by decide)⟩]
  unfold lit0t0_640
  rw [Nat.mod_mod]
theorem leaf_11 (i : ℕ) : lit0t0_704 i = word 11 (i % 128) := by
  have h : ∀ n : Fin 128, lit0t0_704 n.val = word 11 n.val := by decide +kernel
  rw [← h ⟨i % 128, Nat.mod_lt _ (by decide)⟩]
  unfold lit0t0_704
  rw [Nat.mod_mod]
theorem leaf_12 (i : ℕ) : lit0t0_768 i = word 12 (i % 128) := by
  have h : ∀ n : Fin 128, lit0t0_768 n.val = word 12 n.val := by decide +kernel
  rw [← h ⟨i % 128, Nat.mod_lt _ (by decide)⟩]
  unfold lit0t0_768
  rw [Nat.mod_mod]
theorem leaf_13 (i : ℕ) : lit0t0_832 i = word 13 (i % 128) := by
  have h : ∀ n : Fin 128, lit0t0_832 n.val = word 13 n.val := by decide +kernel
  rw [← h ⟨i % 128, Nat.mod_lt _ (by decide)⟩]
  unfold lit0t0_832
  rw [Nat.mod_mod]
theorem leaf_14 (i : ℕ) : lit0t0_896 i = word 14 (i % 128) := by
  have h : ∀ n : Fin 128, lit0t0_896 n.val = word 14 n.val := by decide +kernel
  rw [← h ⟨i % 128, Nat.mod_lt _ (by decide)⟩]
  unfold lit0t0_896
  rw [Nat.mod_mod]
theorem leaf_15 (i : ℕ) : lit0t0_960 i = word 15 (i % 128) := by
  have h : ∀ n : Fin 128, lit0t0_960 n.val = word 15 n.val := by decide +kernel
  rw [← h ⟨i % 128, Nat.mod_lt _ (by decide)⟩]
  unfold lit0t0_960
  rw [Nat.mod_mod]

theorem node_0 (i : ℕ) (e : i / 16384 = 0) : lit0t1_0 i = word (i / 8192) (i % 128) := by
  have t : lit0t1_0 i = if i / 128 % 128 < 64 then lit0t0_0 i else lit0t0_64 i := by
    unfold lit0t1_0
    have h : i / 128 % 128 < 128 := Nat.mod_lt _ (by decide)
    generalize i / 128 % 128 = n at h ⊢
    interval_cases n <;> rfl
  rw [t, leaf_0, leaf_1]
  split
  · rw [show i / 8192 = 0 by omega]
  · rw [show i / 8192 = 1 by omega]
theorem node_1 (i : ℕ) (e : i / 16384 = 1) : lit0t1_1 i = word (i / 8192) (i % 128) := by
  have t : lit0t1_1 i = if i / 128 % 128 < 64 then lit0t0_128 i else lit0t0_192 i := by
    unfold lit0t1_1
    have h : i / 128 % 128 < 128 := Nat.mod_lt _ (by decide)
    generalize i / 128 % 128 = n at h ⊢
    interval_cases n <;> rfl
  rw [t, leaf_2, leaf_3]
  split
  · rw [show i / 8192 = 2 by omega]
  · rw [show i / 8192 = 3 by omega]
theorem node_2 (i : ℕ) (e : i / 16384 = 2) : lit0t1_2 i = word (i / 8192) (i % 128) := by
  have t : lit0t1_2 i = if i / 128 % 128 < 64 then lit0t0_256 i else lit0t0_320 i := by
    unfold lit0t1_2
    have h : i / 128 % 128 < 128 := Nat.mod_lt _ (by decide)
    generalize i / 128 % 128 = n at h ⊢
    interval_cases n <;> rfl
  rw [t, leaf_4, leaf_5]
  split
  · rw [show i / 8192 = 4 by omega]
  · rw [show i / 8192 = 5 by omega]
theorem node_3 (i : ℕ) (e : i / 16384 = 3) : lit0t1_3 i = word (i / 8192) (i % 128) := by
  have t : lit0t1_3 i = if i / 128 % 128 < 64 then lit0t0_384 i else lit0t0_448 i := by
    unfold lit0t1_3
    have h : i / 128 % 128 < 128 := Nat.mod_lt _ (by decide)
    generalize i / 128 % 128 = n at h ⊢
    interval_cases n <;> rfl
  rw [t, leaf_6, leaf_7]
  split
  · rw [show i / 8192 = 6 by omega]
  · rw [show i / 8192 = 7 by omega]
theorem node_4 (i : ℕ) (e : i / 16384 = 4) : lit0t1_4 i = word (i / 8192) (i % 128) := by
  have t : lit0t1_4 i = if i / 128 % 128 < 64 then lit0t0_512 i else lit0t0_576 i := by
    unfold lit0t1_4
    have h : i / 128 % 128 < 128 := Nat.mod_lt _ (by decide)
    generalize i / 128 % 128 = n at h ⊢
    interval_cases n <;> rfl
  rw [t, leaf_8, leaf_9]
  split
  · rw [show i / 8192 = 8 by omega]
  · rw [show i / 8192 = 9 by omega]
theorem node_5 (i : ℕ) (e : i / 16384 = 5) : lit0t1_5 i = word (i / 8192) (i % 128) := by
  have t : lit0t1_5 i = if i / 128 % 128 < 64 then lit0t0_640 i else lit0t0_704 i := by
    unfold lit0t1_5
    have h : i / 128 % 128 < 128 := Nat.mod_lt _ (by decide)
    generalize i / 128 % 128 = n at h ⊢
    interval_cases n <;> rfl
  rw [t, leaf_10, leaf_11]
  split
  · rw [show i / 8192 = 10 by omega]
  · rw [show i / 8192 = 11 by omega]
theorem node_6 (i : ℕ) (e : i / 16384 = 6) : lit0t1_6 i = word (i / 8192) (i % 128) := by
  have t : lit0t1_6 i = if i / 128 % 128 < 64 then lit0t0_768 i else lit0t0_832 i := by
    unfold lit0t1_6
    have h : i / 128 % 128 < 128 := Nat.mod_lt _ (by decide)
    generalize i / 128 % 128 = n at h ⊢
    interval_cases n <;> rfl
  rw [t, leaf_12, leaf_13]
  split
  · rw [show i / 8192 = 12 by omega]
  · rw [show i / 8192 = 13 by omega]
theorem node_7 (i : ℕ) (e : i / 16384 = 7) : lit0t1_7 i = word (i / 8192) (i % 128) := by
  have t : lit0t1_7 i = if i / 128 % 128 < 64 then lit0t0_896 i else lit0t0_960 i := by
    unfold lit0t1_7
    have h : i / 128 % 128 < 128 := Nat.mod_lt _ (by decide)
    generalize i / 128 % 128 = n at h ⊢
    interval_cases n <;> rfl
  rw [t, leaf_14, leaf_15]
  split
  · rw [show i / 8192 = 14 by omega]
  · rw [show i / 8192 = 15 by omega]

/-- Row k of the selector has its one at column k / 64. -/
theorem sel_at (i : ℕ) (h : i < 131072) : lit0t i = word (i / 8192) (i % 128) := by
  unfold lit0t
  have hb : i / 16384 < 8 := by omega
  generalize e : i / 16384 = n at hb ⊢
  interval_cases n
  · exact node_0 i e
  · exact node_1 i e
  · exact node_2 i e
  · exact node_3 i e
  · exact node_4 i e
  · exact node_5 i e
  · exact node_6 i e
  · exact node_7 i e
theorem sel_bits (k : Fin 1024) (g : Fin 128) : lit0t (k.val * 128 + g.val) = if k.val / 64 = g.val then 0x3F800000#32 else 0#32 := by
  rw [sel_at _ (by omega), show (k.val * 128 + g.val) / 8192 = k.val / 64 by omega, show (k.val * 128 + g.val) % 128 = g.val by omega]
  unfold word
  by_cases h : k.val / 64 = g.val
  · rw [if_pos h, if_pos h.symm]
  · rw [if_neg h, if_neg (fun e => h e.symm)]

theorem sign_bits : ∀ l : Fin 128, lit1 l = if l.val % 32 < 16 then 0xBF800000#32 else 0x3F800000#32 := by
  decide +kernel

theorem kone : Ideal.ofBits FTy.f32 0x3F800000#32 = 1 := by
  rw [show (1 : EReal) = ((1 : ℝ) : EReal) by simp]
  simp [Ideal.ofBits, Ideal.ieee, -EReal.coe_mul]
  norm_num
theorem kzero : Ideal.ofBits FTy.f32 0#32 = 0 := by
  rw [show (0 : EReal) = ((0 : ℝ) : EReal) by simp]
  simp [Ideal.ofBits, Ideal.ieee, -EReal.coe_mul]

theorem sel_index (k : Fin 1024) (g : Fin 128) : (S1024x128.rowMajor (ix2 k g)).val = k.val * 128 + g.val :=
  Shape.rowMajor_val_two (ix2 k g)
theorem sign_index (l : Fin 128) : (S128.rowMajor (ix1 l)).val = l.val :=
  Shape.rowMajor_val_one (ix1 l)

/-- The signs' words at a lane. -/
def signAt (i : Fin 128) : BitVec 32 := lit1 i

theorem sel_real (k : Fin 1024) (g : Fin 128) : Ideal.ofBits FTy.f32 (lit0t (S1024x128.rowMajor (ix2 k g)).val) = if k.val / 64 = g.val then (1 : EReal) else 0 := by
  rw [sel_index, sel_bits]
  split
  · exact kone
  · exact kzero
theorem sign_real (l : Fin 128) : Ideal.ofBits FTy.f32 (signAt (S128.rowMajor (ix1 l))) = if l.val % 32 < 16 then (-1 : EReal) else 1 := by
  have e : S128.rowMajor (ix1 l) = l := Fin.ext (sign_index l)
  rw [e]
  unfold signAt
  rw [sign_bits]
  split
  · exact Lanes.kneg
  · exact kone

/-- The selector and the signs as the call's host code has them. -/
theorem sel_word [Facts₀] (k : Fin 1024) (g : Fin 128) :
    truncf (F := Ideal) .bf16 (fun i : S1024x128.Idx => FloatOps.ofBits (F := Ideal) .f32 (lit0 (S1024x128.rowMajor i))) Facts₀.bitsLt_bf16_f32 (ix2 k g) = if k.val / 64 = g.val then (1 : EReal) else 0 :=
  sel_real k g
theorem sign_word (l : Fin 128) :
    (fun i : S128.Idx => FloatOps.ofBits (F := Ideal) .f32 (lit1 (S128.rowMajor i))) (ix1 l) = if l.val % 32 < 16 then (-1 : EReal) else 1 :=
  sign_real l

end Cert.Proof.Lits

end
-- ==== Proof.QkvHost.lean ====
/-
  The attention's projections: what the kernel's host code hands the call.
-/
module

public import proofs.«01_k».proof.Proof.Qkv
public import proofs.«01_k».proof.Proof.QkvLit

@[expose] public section

noncomputable section

namespace Cert.Proof.Kernel5Ideal

open Cert.Kernel5Ideal Cert.Kernel5Ideal.Gen
open Idealize.ShloMosaic Idealize.ShloMosaic.TcCoe

variable (m : (ℓ : Loc nD τ sig) → Buf (Elt Ideal) ℓ) (c : Dev nD)

abbrev ax : Mix.M2 16384 1024 := m ((c.tc : Thread nD τ).loc main_arg0)
abbrev ag : Mix.V1 1024 := m ((c.tc : Thread nD τ).loc main_arg1)
abbrev ash : Mix.V1 1024 := m ((c.tc : Thread nD τ).loc main_arg2)
abbrev asc : Mix.V1 1024 := m ((c.tc : Thread nD τ).loc main_arg3)
abbrev aw : Mix.M2 1024 3072 := m ((c.tc : Thread nD τ).loc main_arg4)
abbrev aqn : Mix.V1 64 := m ((c.tc : Thread nD τ).loc main_arg5)
abbrev akn : Mix.V1 64 := m ((c.tc : Thread nD τ).loc main_arg6)
abbrev ainv : Mix.V1 16 := m ((c.tc : Thread nD τ).loc main_arg7)

set_option maxHeartbeats 1600000 in
theorem sel_apply (k : Fin 1024) (g : Fin 128) : V m c main_v5 (ix2 k g) = if k.val / 64 = g.val then (1 : EReal) else 0 := by
  unfold V V0
  simp only [List.flatten_cons, List.flatten_nil, List.append_nil, List.cons_append, List.nil_append, StableHlo.after_cons, StableHlo.after_nil]
  repeat after_results_step
  exact Lits.sel_word k g

theorem qn_apply (k : Fin 1024) : V m c main_v9 (ix2 0 k) = aqn m c (ix1 ⟨k.val % 64, Nat.mod_lt _ (by decide)⟩) := by
  unfold V V0
  simp only [List.flatten_cons, List.flatten_nil, List.append_nil, List.cons_append, List.nil_append, StableHlo.after_cons, StableHlo.after_nil]
  repeat after_results_step
  pointwise
theorem kn_apply (k : Fin 1024) : V m c main_v13 (ix2 0 k) = akn m c (ix1 ⟨k.val % 64, Nat.mod_lt _ (by decide)⟩) := by
  unfold V V0
  simp only [List.flatten_cons, List.flatten_nil, List.append_nil, List.cons_append, List.nil_append, StableHlo.after_cons, StableHlo.after_nil]
  repeat after_results_step
  pointwise
set_option maxHeartbeats 1600000 in
theorem w_apply (k : Fin 1024) (j : Fin 3072) : V m c main_v38 (ix2 k j) = aw m c (ix2 k j) := by
  unfold V V0
  simp only [List.flatten_cons, List.flatten_nil, List.append_nil, List.cons_append, List.nil_append, StableHlo.after_cons, StableHlo.after_nil]
  repeat after_results_step
  pointwise

/-- The eight rows of modulation. -/
def rows8 (a b c : Vec Ideal S1x1024 .f32) (d : Vec Ideal S5x1024 .f32) : Vec Ideal S8x1024 .f32 :=
  concatenate S8x1024 0 [⟨S1x1024, a⟩, ⟨S1x1024, b⟩, ⟨S1x1024, c⟩, ⟨S5x1024, d⟩] concatenates_S1x1024_S1x1024_S1x1024_S5x1024_S8x1024_d0

set_option maxHeartbeats 1600000 in
theorem V_rows : V m c main_v4 = rows8 (broadcastInDim S1x1024 ![1] bcast_S1024_S1x1024_1 (m ((c.tc : Thread nD τ).loc main_arg1)))
    (broadcastInDim S1x1024 ![1] bcast_S1024_S1x1024_1 (m ((c.tc : Thread nD τ).loc main_arg3))) (broadcastInDim S1x1024 ![1] bcast_S1024_S1x1024_1 (m ((c.tc : Thread nD τ).loc main_arg2)))
    (broadcastInDim S5x1024 ![] bcast_S_S5x1024 (constant (F := Ideal) S_ .f32 0x00000000#32)) := by
  unfold V V0
  simp only [List.flatten_cons, List.flatten_nil, List.append_nil, List.cons_append, List.nil_append, StableHlo.after_cons, StableHlo.after_nil]
  repeat after_results_step
  refine (rfl : _ = rows8 _ _ _ _).trans ?_
  try dsimp only [Matrix.cons_val]
  repeat after_results_step
  rfl

/-- The frequencies along a row of the tables. -/
def byRow (a b : Vec Ideal S16 .f32) (z : Vec Ideal S32 .f32) (d e : Vec Ideal S16 .f32) (y : Vec Ideal S32 .f32) : Vec Ideal S128 .f32 :=
  concatenate S128 0 [⟨S16, a⟩, ⟨S16, b⟩, ⟨S32, z⟩, ⟨S16, d⟩, ⟨S16, e⟩, ⟨S32, y⟩] concatenates_S16_S16_S32_S16_S16_S32_S128_d0
def byCol (z : Vec Ideal S32 .f32) (a b : Vec Ideal S16 .f32) (y : Vec Ideal S32 .f32) (d e : Vec Ideal S16 .f32) : Vec Ideal S128 .f32 :=
  concatenate S128 0 [⟨S32, z⟩, ⟨S16, a⟩, ⟨S16, b⟩, ⟨S32, y⟩, ⟨S16, d⟩, ⟨S16, e⟩] concatenates_S32_S16_S16_S32_S16_S16_S128_d0

theorem V_row : V m c main_v15 = byRow (ainv m c) (ainv m c) (broadcastInDim S32 ![] bcast_S_S32 (constant (F := Ideal) S_ .f32 0x00000000#32)) (ainv m c) (ainv m c) (broadcastInDim S32 ![] bcast_S_S32 (constant (F := Ideal) S_ .f32 0x00000000#32)) := by
  unfold V V0
  simp only [List.flatten_cons, List.flatten_nil, List.append_nil, List.cons_append, List.nil_append, StableHlo.after_cons, StableHlo.after_nil]
  repeat after_results_step
  refine (rfl : _ = byRow _ _ _ _ _ _).trans ?_
  try dsimp only [Matrix.cons_val]
  repeat after_results_step
theorem V_col : V m c main_v16 = byCol (broadcastInDim S32 ![] bcast_S_S32 (constant (F := Ideal) S_ .f32 0x00000000#32)) (ainv m c) (ainv m c) (broadcastInDim S32 ![] bcast_S_S32 (constant (F := Ideal) S_ .f32 0x00000000#32)) (ainv m c) (ainv m c) := by
  unfold V V0
  simp only [List.flatten_cons, List.flatten_nil, List.append_nil, List.cons_append, List.nil_append, StableHlo.after_cons, StableHlo.after_nil]
  repeat after_results_step
  refine (rfl : _ = byCol _ _ _ _ _ _).trans ?_
  try dsimp only [Matrix.cons_val]
  repeat after_results_step

theorem row_apply (l : Fin 128) : V m c main_v15 (ix1 l) = if l.val % 64 < 32 then ainv m c (ix1 ⟨l.val % 16, Nat.mod_lt _ (by decide)⟩) else 0 := by
  rw [V_row]
  pointwise [byRow]
  repeat' split
  all_goals first
    | rfl
    | exact congrArg (fun q => ainv m c (ix1 q)) (Fin.ext (by dsimp only; omega))
    | omega
theorem col_apply (l : Fin 128) : V m c main_v16 (ix1 l) = if l.val % 64 < 32 then 0 else ainv m c (ix1 ⟨l.val % 16, Nat.mod_lt _ (by decide)⟩) := by
  rw [V_col]
  pointwise [byCol]
  repeat' split
  all_goals first
    | rfl
    | exact congrArg (fun q => ainv m c (ix1 q)) (Fin.ext (by dsimp only; omega))
    | omega

end Cert.Proof.Kernel5Ideal

end
-- ==== Proof.QkvTab.lean ====
/-
  The attention's projections: the tables of the rotation, from the frequencies and the positions.
-/
module

public import proofs.«01_k».proof.Proof.Qkv

@[expose] public section

noncomputable section

namespace Cert.Proof.Kernel5Ideal

open Cert.Kernel5Ideal Cert.Kernel5Ideal.Gen
open Idealize.ShloMosaic Idealize.ShloMosaic.TcCoe

variable (X : Valuation τ sig (Elt Ideal))

/-- The quotient rounded down, and the remainder of its sign. -/
def fdiv (x : IVec S16384 32) (d : IVec S_ 32) : IVec S16384 32 :=
  select (andi (cmpi .ne (signi x) (broadcastInDim S16384 ![] bcast_S_S16384 (signi d))) (cmpi .ne (Host.remsi x (broadcastInDim S16384 ![] bcast_S_S16384 d)) (broadcastInDim S16384 ![] bcast_S_S16384 (constantI S_ 32 0#32))))
    (subi (Host.divsi x (broadcastInDim S16384 ![] bcast_S_S16384 d)) (broadcastInDim S16384 ![] bcast_S_S16384 (constantI S_ 32 1#32))) (Host.divsi x (broadcastInDim S16384 ![] bcast_S_S16384 d))
def orOne (d : IVec S_ 32) : IVec S_ 32 := select (cmpi .eq d (constantI S_ 32 0#32)) (constantI S_ 32 1#32) d
def frem (x : IVec S16384 32) (d : IVec S_ 32) : IVec S16384 32 :=
  select (andi (cmpi .ne (cmpi .slt (Host.remsi x (broadcastInDim S16384 ![] bcast_S_S16384 d)) (broadcastInDim S16384 ![] bcast_S_S16384 (constantI S_ 32 0#32)))
      (broadcastInDim S16384 ![] bcast_S_S16384 (cmpi .slt d (constantI S_ 32 0#32))))
    (cmpi .ne (Host.remsi x (broadcastInDim S16384 ![] bcast_S_S16384 d)) (broadcastInDim S16384 ![] bcast_S_S16384 (constantI S_ 32 0#32))))
    (addi (Host.remsi x (broadcastInDim S16384 ![] bcast_S_S16384 d)) (broadcastInDim S16384 ![] bcast_S_S16384 d)) (Host.remsi x (broadcastInDim S16384 ![] bcast_S_S16384 d))

set_option maxHeartbeats 1600000 in
theorem a3_eq : StableHlo.after hostOps0_1 X (Proc.devRef .tc main_v18) = fdiv (X (Proc.devRef .tc main_v17)) (X (Proc.devRef .tc main_c)) := by
  simp only [StableHlo.after_cons, StableHlo.after_nil]
  repeat after_results_step
  rfl

set_option maxHeartbeats 1600000 in
theorem a5_eq : StableHlo.after hostOps0_3 X (Proc.devRef .tc main_v21) = frem (X (Proc.devRef .tc main_v17)) (orOne (X (Proc.devRef .tc main_c_3))) := by
  simp only [StableHlo.after_cons, StableHlo.after_nil]
  repeat after_results_step
  rfl

theorem a4_eq (r : Fin 16384) : StableHlo.after hostOps0_2 X (Proc.devRef .tc main_v20) (ix2 r 0) = (((X (Proc.devRef .tc main_v18) (ix1 r) : BitVec 32).toInt : ℝ) : EReal) := by
  simp only [StableHlo.after_cons, StableHlo.after_nil]
  repeat after_results_step
  pointwise
  rfl
theorem a4_64 (i : S_.Idx) : StableHlo.after hostOps0_2 X (Proc.devRef .tc main_c_3) i = 64#32 := by
  simp only [StableHlo.after_cons, StableHlo.after_nil]
  repeat after_results_step
  pointwise

theorem keep3_v30 : StableHlo.after hostOps0_1 X (Proc.devRef .tc main_v17) = X (Proc.devRef .tc main_v17) :=
  StableHlo.after_of_forall_not_mem (b := Proc.devRef .tc main_v17) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

theorem keep4_v30 : StableHlo.after hostOps0_2 X (Proc.devRef .tc main_v17) = X (Proc.devRef .tc main_v17) :=
  StableHlo.after_of_forall_not_mem (b := Proc.devRef .tc main_v17) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

theorem keep5_v33 : StableHlo.after hostOps0_3 X (Proc.devRef .tc main_v20) = X (Proc.devRef .tc main_v20) :=
  StableHlo.after_of_forall_not_mem (b := Proc.devRef .tc main_v20) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

theorem keep6_v21 : StableHlo.after hostOps0_4 X (Proc.devRef .tc main_v15) = X (Proc.devRef .tc main_v15) :=
  StableHlo.after_of_forall_not_mem (b := Proc.devRef .tc main_v15) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

theorem keep6_v22 : StableHlo.after hostOps0_4 X (Proc.devRef .tc main_v16) = X (Proc.devRef .tc main_v16) :=
  StableHlo.after_of_forall_not_mem (b := Proc.devRef .tc main_v16) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

theorem keep6_v29 : StableHlo.after hostOps0_4 X (Proc.devRef .tc main_cst_0) = X (Proc.devRef .tc main_cst_0) :=
  StableHlo.after_of_forall_not_mem (b := Proc.devRef .tc main_cst_0) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

end Cert.Proof.Kernel5Ideal

end
-- ==== Proof.QkvAng.lean ====
/-
  The attention's projections: the rotation's tables at an index.
-/
module

public import proofs.«01_k».proof.Proof.QkvTab

@[expose] public section

noncomputable section

namespace Cert.Proof.Kernel5Ideal

open Cert.Kernel5Ideal Cert.Kernel5Ideal.Gen
open Idealize.ShloMosaic Idealize.ShloMosaic.TcCoe

variable (X : Valuation τ sig (Elt Ideal))

/-- The angle of two positions and two frequencies. -/
def angle (p q f h : EReal) : EReal := p * f + q * h

set_option maxHeartbeats 1600000 in
theorem a6_cos (r : Fin 16384) (l : Fin 128) : StableHlo.after hostOps0_4 X (Proc.devRef .tc main_v33) (ix2 r l) =
    Ideal.cos (angle (X (Proc.devRef .tc main_v20) (ix2 r 0)) (((X (Proc.devRef .tc main_v21) (ix1 r) : BitVec 32).toInt : ℝ) : EReal) (X (Proc.devRef .tc main_v15) (ix1 l)) (X (Proc.devRef .tc main_v16) (ix1 l))) := by
  simp only [StableHlo.after_cons, StableHlo.after_nil]
  repeat after_results_step
  unfold angle
  pointwise
  rfl

/-- The product of two entries. -/
def prod (a b : EReal) : EReal := a * b

set_option maxHeartbeats 1600000 in
theorem a6_sin (r : Fin 16384) (l : Fin 128) : StableHlo.after hostOps0_4 X (Proc.devRef .tc main_v37) (ix2 r l) =
    prod (Ideal.sin (angle (X (Proc.devRef .tc main_v20) (ix2 r 0)) (((X (Proc.devRef .tc main_v21) (ix1 r) : BitVec 32).toInt : ℝ) : EReal) (X (Proc.devRef .tc main_v15) (ix1 l)) (X (Proc.devRef .tc main_v16) (ix1 l)))) (X (Proc.devRef .tc main_cst_0) (ix1 l)) := by
  simp only [StableHlo.after_cons, StableHlo.after_nil]
  repeat after_results_step
  unfold angle prod
  pointwise
  rfl

end Cert.Proof.Kernel5Ideal

end
-- ==== Proof.QkvBits.lean ====
/-
  The attention's projections: the positions' quotients and remainders.
-/
module

public import proofs.«01_k».proof.Proof.QkvTab

@[expose] public section

noncomputable section

namespace Cert.Proof.Kernel5Ideal

open Cert.Kernel5Ideal Cert.Kernel5Ideal.Gen
open Idealize.ShloMosaic Idealize.ShloMosaic.TcCoe

theorem div_bits : ∀ r : Fin 16384, Scalar.select
      (IntOp.andi
        (IntOp.cmpi CmpIPredicate.ne (if BitVec.ofNat 32 r.val = (0 : BitVec 32) then (0 : BitVec 32) else if (BitVec.ofNat 32 r.val).msb = true then (-1 : BitVec 32) else (1 : BitVec 32))
          (if 64#32 = (0 : BitVec 32) then (0 : BitVec 32) else if (64#32).msb = true then (-1 : BitVec 32) else (1 : BitVec 32)))
        (IntOp.cmpi CmpIPredicate.ne (IntOp.remsi ArithUnit.host (BitVec.ofNat 32 r.val) 64#32) 0#32))
      (IntOp.subi (IntOp.divsi ArithUnit.host (BitVec.ofNat 32 r.val) 64#32) 1#32) (IntOp.divsi ArithUnit.host (BitVec.ofNat 32 r.val) 64#32) =
    BitVec.ofNat 32 (r.val / 64) := by
  decide +kernel
theorem rem_bits : ∀ r : Fin 16384, Scalar.select
      (IntOp.andi
        (IntOp.cmpi CmpIPredicate.ne (IntOp.cmpi CmpIPredicate.slt (IntOp.remsi ArithUnit.host (BitVec.ofNat 32 r.val) 64#32) 0#32)
          (IntOp.cmpi CmpIPredicate.slt 64#32 0#32))
        (IntOp.cmpi CmpIPredicate.ne (IntOp.remsi ArithUnit.host (BitVec.ofNat 32 r.val) 64#32) 0#32))
      (IntOp.addi (IntOp.remsi ArithUnit.host (BitVec.ofNat 32 r.val) 64#32) 64#32) (IntOp.remsi ArithUnit.host (BitVec.ofNat 32 r.val) 64#32) =
    BitVec.ofNat 32 (r.val % 64) := by
  decide +kernel

theorem fdiv_apply (x : IVec S16384 32) (d : IVec S_ 32) (r : Fin 16384) (hx : x (ix1 r) = BitVec.ofNat 32 r.val) (hd : ∀ i, d i = 64#32) : fdiv x d (ix1 r) = BitVec.ofNat 32 (r.val / 64) := by
  obtain rfl : d = fun _ => 64#32 := funext hd
  rw [← div_bits r, ← hx]
  pointwise [fdiv]
theorem orOne_apply (d : IVec S_ 32) (hd : ∀ i, d i = 64#32) (i : S_.Idx) : orOne d i = 64#32 := by
  obtain rfl : d = fun _ => 64#32 := funext hd
  rfl
theorem frem_apply (x : IVec S16384 32) (d : IVec S_ 32) (r : Fin 16384) (hx : x (ix1 r) = BitVec.ofNat 32 r.val) (hd : ∀ i, d i = 64#32) : frem x d (ix1 r) = BitVec.ofNat 32 (r.val % 64) := by
  obtain rfl : d = fun _ => 64#32 := funext hd
  rw [← rem_bits r, ← hx]
  pointwise [frem]

theorem pos_div : ∀ r : Fin 16384, (BitVec.ofNat 32 (r.val / 64)).toInt = ((r.val / 64 : ℕ) : ℤ) := by decide +kernel
theorem pos_rem : ∀ r : Fin 16384, (BitVec.ofNat 32 (r.val % 64)).toInt = ((r.val % 64 : ℕ) : ℤ) := by decide +kernel

end Cert.Proof.Kernel5Ideal

end
-- ==== Proof.QkvChain.lean ====
/-
  The attention's projections: the rotation's tables as the call reads them.
-/
module

public import proofs.«01_k».proof.Proof.QkvHost
public import proofs.«01_k».proof.Proof.QkvAng
public import proofs.«01_k».proof.Proof.QkvBits
public import proofs.«01_k».proof.Proof.QkvConst
public import proofs.«01_k».proof.Proof.QkvLit

@[expose] public section

noncomputable section

namespace Cert.Proof.Kernel5Ideal

open Cert.Kernel5Ideal Cert.Kernel5Ideal.Gen
open Idealize.ShloMosaic Idealize.ShloMosaic.TcCoe

variable (m : (ℓ : Loc nD τ sig) → Buf (Elt Ideal) ℓ) (c : Dev nD)

/-- The buffers after the first lines of the host code, and after the lines of each part of the positions. -/
def W : Valuation τ sig (Elt Ideal) := StableHlo.after hostOps0 (fun b => m (c, b))
def W3 : Valuation τ sig (Elt Ideal) := StableHlo.after hostOps0_1 (W m c)
def W4 : Valuation τ sig (Elt Ideal) := StableHlo.after hostOps0_2 (W3 m c)
def W5 : Valuation τ sig (Elt Ideal) := StableHlo.after hostOps0_3 (W4 m c)

theorem after_two (a b : List (HloOp τ sig (Elt Ideal))) (X : Valuation τ sig (Elt Ideal)) : StableHlo.after (a ++ b) X = StableHlo.after b (StableHlo.after a X) := by
  induction a generalizing X with
  | nil => rfl
  | cons o a ih => exact ih _

theorem V0_eq : V0 m c = StableHlo.after hostOps0_4 (W5 m c) := by
  unfold W5 W4 W3 W V0
  simp only [List.flatten_cons, List.flatten_nil, List.append_nil, after_two]

theorem W_pos (r : Fin 16384) : W m c (Proc.devRef .tc main_v17) (ix1 r) = BitVec.ofNat 32 r.val := by
  unfold W
  simp only [List.cons_append, List.nil_append, StableHlo.after_cons, StableHlo.after_nil]
  repeat after_results_step
  pointwise
theorem W_64 (i : S_.Idx) : W m c (Proc.devRef .tc main_c) i = 64#32 := by
  unfold W
  simp only [List.cons_append, List.nil_append, StableHlo.after_cons, StableHlo.after_nil]
  repeat after_results_step
  pointwise

theorem row_pos (r : Fin 16384) : W5 m c (Proc.devRef .tc main_v20) (ix2 r 0) = (((r.val / 64 : ℕ) : ℝ) : EReal) := by
  unfold W5
  rw [keep5_v33]
  unfold W4
  rw [a4_eq]
  unfold W3
  rw [a3_eq, fdiv_apply _ _ r (W_pos m c r) (W_64 m c), pos_div]
  rfl
theorem col_pos (r : Fin 16384) : (((W5 m c (Proc.devRef .tc main_v21) (ix1 r) : BitVec 32).toInt : ℝ) : EReal) = (((r.val % 64 : ℕ) : ℝ) : EReal) := by
  unfold W5
  rw [a5_eq, frem_apply _ _ r ?_ (orOne_apply _ ?_), pos_rem]
  · rfl
  · unfold W4
    rw [keep4_v30]
    unfold W3
    rw [keep3_v30]
    exact W_pos m c r
  · intro i
    unfold W4
    exact a4_64 _ i
theorem row_freq (l : Fin 128) : W5 m c (Proc.devRef .tc main_v15) (ix1 l) = if l.val % 64 < 32 then ainv m c (ix1 ⟨l.val % 16, Nat.mod_lt _ (by decide)⟩) else 0 := by
  rw [← row_apply, ← keep6_v21 (W5 m c), ← V0_eq]
theorem col_freq (l : Fin 128) : W5 m c (Proc.devRef .tc main_v16) (ix1 l) = if l.val % 64 < 32 then 0 else ainv m c (ix1 ⟨l.val % 16, Nat.mod_lt _ (by decide)⟩) := by
  rw [← col_apply, ← keep6_v22 (W5 m c), ← V0_eq]

set_option maxHeartbeats 3200000 in
theorem sign_apply (l : Fin 128) : V m c main_cst_0 (ix1 l) = if l.val % 32 < 16 then (-1 : EReal) else 1 := by
  unfold V V0
  simp only [List.flatten_cons, List.flatten_nil, List.append_nil, List.cons_append, List.nil_append, StableHlo.after_cons, StableHlo.after_nil]
  repeat after_results_step
  exact Lits.sign_word l
theorem sign_freq (l : Fin 128) : W5 m c (Proc.devRef .tc main_cst_0) (ix1 l) = if l.val % 32 < 16 then (-1 : EReal) else 1 := by
  rw [← sign_apply m c, ← keep6_v29 (W5 m c), ← V0_eq]

/-- A position's angle at a lane of the tables. -/
def ang (r : Fin 16384) (l : Fin 128) : EReal :=
  (((if l.val % 64 < 32 then r.val / 64 else r.val % 64 : ℕ) : ℝ) : EReal) * ainv m c (ix1 ⟨l.val % 16, Nat.mod_lt _ (by decide)⟩)

theorem ang_eq (r : Fin 16384) (l : Fin 128) : angle (W5 m c (Proc.devRef .tc main_v20) (ix2 r 0)) (((W5 m c (Proc.devRef .tc main_v21) (ix1 r) : BitVec 32).toInt : ℝ) : EReal) (W5 m c (Proc.devRef .tc main_v15) (ix1 l)) (W5 m c (Proc.devRef .tc main_v16) (ix1 l)) = ang m c r l := by
  rw [row_pos, col_pos, row_freq, col_freq]
  unfold angle ang
  by_cases h : l.val % 64 < 32
  · simp only [if_pos h, mul_zero, add_zero]
  · simp only [if_neg h, mul_zero, zero_add]

theorem cos_apply (r : Fin 16384) (l : Fin 128) : V m c main_v33 (ix2 r l) = Ideal.cos (ang m c r l) := by
  unfold V
  rw [V0_eq, a6_cos, ang_eq]
theorem sin_apply (r : Fin 16384) (l : Fin 128) : V m c main_v37 (ix2 r l) = prod (Ideal.sin (ang m c r l)) (if l.val % 32 < 16 then (-1 : EReal) else 1) := by
  unfold V
  rw [V0_eq, a6_sin, ang_eq, sign_freq]

end Cert.Proof.Kernel5Ideal

end
-- ==== Proof.QkvOut.lean ====
/-
  The attention's projections: the call's three arrays after the run.
-/
module

public import proofs.«01_k».proof.Proof.QkvBody
public import proofs.«01_k».proof.Proof.QkvChain
public import Idealize.ShloMosaic.Lib.Pipeline.ValueKit.Partial

@[expose] public section

noncomputable section

namespace Cert.Proof.Kernel5Ideal

open Cert.Kernel5Ideal Cert.Kernel5Ideal.Gen
open Idealize.ShloMosaic Idealize.ShloMosaic.TcCoe

variable (m : (ℓ : Loc nD τ sig) → Buf (Elt Ideal) ℓ) (c : Dev nD)

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0] := by
  decide +kernel

theorem lt_t (t : Fin cfg0.N) : t.val < 64 := t.isLt
theorem lt_r (t : Fin cfg0.N) (r : Fin 256) : t.val * 256 + r.val < 16384 := by
  have := lt_t t
  omega
/-- The array's row of a block's row. -/
def at_ (t : Fin cfg0.N) (r : Fin 256) : Fin 16384 := ⟨t.val * 256 + r.val, lt_r t r⟩

theorem ix_apply (t : Fin cfg0.N) (r : Fin 256) (k : Fin 1024) : iblk m c 0 t (ix2 r k) = ax m c (ix2 (at_ t r) k) := by
  unfold at_
  blk_ext [iblk, V, idx0 t]
theorem im_eq (t : Fin cfg0.N) (y : Fin 8) (k : Fin 1024) : iblk m c 1 t (ix2 y k) = V m c main_v4 (ix2 y k) := by
  blk_ext [iblk, idx0 t]
theorem iw_apply (t : Fin cfg0.N) (k : Fin 1024) (j : Fin 3072) : iblk m c 2 t (ix2 k j) = aw m c (ix2 k j) := by
  rw [← w_apply]
  blk_ext [iblk, idx0 t]
theorem is_apply (t : Fin cfg0.N) (k : Fin 1024) (y : Fin 128) : iblk m c 3 t (ix2 k y) = if k.val / 64 = y.val then (1 : EReal) else 0 := by
  rw [← sel_apply m c]
  blk_ext [iblk, idx0 t]
theorem iq_apply (t : Fin cfg0.N) (k : Fin 1024) : iblk m c 4 t (ix2 0 k) = aqn m c (ix1 ⟨k.val % 64, Nat.mod_lt _ (by decide)⟩) := by
  rw [← qn_apply m c]
  blk_ext [iblk, idx0 t]
theorem ik_apply (t : Fin cfg0.N) (k : Fin 1024) : iblk m c 5 t (ix2 0 k) = akn m c (ix1 ⟨k.val % 64, Nat.mod_lt _ (by decide)⟩) := by
  rw [← kn_apply m c]
  blk_ext [iblk, idx0 t]
theorem icos_eq (t : Fin cfg0.N) (r : Fin 256) (l : Fin 128) : iblk m c 6 t (ix2 r l) = V m c main_v33 (ix2 (at_ t r) l) := by
  unfold at_
  blk_ext [iblk, idx0 t]
theorem isin_eq (t : Fin cfg0.N) (r : Fin 256) (l : Fin 128) : iblk m c 7 t (ix2 r l) = V m c main_v37 (ix2 (at_ t r) l) := by
  unfold at_
  blk_ext [iblk, idx0 t]

theorem im_apply (t : Fin cfg0.N) (k : Fin 1024) : iblk m c 1 t (ix2 0 k) = ag m c (ix1 k) ∧ iblk m c 1 t (ix2 1 k) = asc m c (ix1 k) ∧ iblk m c 1 t (ix2 2 k) = ash m c (ix1 k) := by
  rw [im_eq, im_eq, im_eq, V_rows]
  refine ⟨?_, ?_, ?_⟩
  · pointwise [rows8]
  · pointwise [rows8]
  · pointwise [rows8]

theorem ang_turn (R : Fin 16384) (k : Fin 1024) : ang m c R ⟨k.val % 128, Nat.mod_lt _ (by decide)⟩ = Lanes.turn (ainv m c) R k := by
  unfold ang Lanes.turn
  have e : (⟨k.val % 128 % 16, Nat.mod_lt _ (by decide)⟩ : Fin 16) = ⟨k.val % 16, Nat.mod_lt _ (by decide)⟩ := Fin.ext (by dsimp only; omega)
  have e2 : k.val % 128 % 64 = k.val % 64 := by omega
  dsimp only
  rw [e, e2]

theorem icos_apply (t : Fin cfg0.N) (r : Fin 256) (k : Fin 1024) : k0_pay2 (iblk m c 6 t) (ix2 r k) = Ideal.cos (Lanes.turn (ainv m c) (at_ t r) k) := by
  rw [pay2_apply, icos_eq, cos_apply, ang_turn]
theorem isin_apply (t : Fin cfg0.N) (r : Fin 256) (k : Fin 1024) : k0_pay3 (iblk m c 7 t) (ix2 r k) = (Ideal.sin (Lanes.turn (ainv m c) (at_ t r) k) * (if k.val % 32 < 16 then (-1 : EReal) else 1) : EReal) := by
  rw [pay3_apply, isin_eq, sin_apply, ang_turn]
  unfold prod
  have e : k.val % 128 % 32 = k.val % 32 := by omega
  dsimp only
  rw [e]

theorem ih_apply (t : Fin cfg0.N) (r : Fin 256) (k : Fin 1024) : k0_pay1 (iblk m c 0 t) (iblk m c 1 t) (ix2 r k) = Mix.nrm (fun y => ax m c (ix2 (at_ t r) y)) (ag m c) (ash m c) (asc m c) k := by
  rw [pay1_apply]
  simp only [ix_apply]
  exact nrm8_eq _ _ _ _ _ (fun k => (im_apply m c t k).1) (fun k => (im_apply m c t k).2.1) (fun k => (im_apply m c t k).2.2) k

abbrev P (off : ℕ) (ho : off ≤ 2048) (R : Fin 16384) (k : Fin 1024) : EReal := Lanes.proj (ax m c) (ag m c) (ash m c) (asc m c) (aw m c) off ho R k

theorem p4_apply (t : Fin cfg0.N) (r : Fin 256) (k : Fin 1024) : k0_pay4 (iblk m c 0 t) (iblk m c 1 t) (View.ld (iblk m c 2 t) r0_3) (ix2 r k) = P m c 0 (by decide) (at_ t r) k := by
  rw [pay4_apply]
  refine Finset.sum_congr rfl fun q _ => ?_
  rw [ih_apply, c3, iw_apply]
theorem p11_apply (t : Fin cfg0.N) (r : Fin 256) (k : Fin 1024) : k0_pay11 (k0_pay1 (iblk m c 0 t) (iblk m c 1 t)) (View.ld (iblk m c 2 t) r0_6) (ix2 r k) = P m c 1024 (by decide) (at_ t r) k := by
  rw [pay11_apply]
  refine Finset.sum_congr rfl fun q _ => ?_
  rw [ih_apply, c6, iw_apply]
theorem p14_apply (t : Fin cfg0.N) (r : Fin 256) (k : Fin 1024) : k0_pay14 (k0_pay1 (iblk m c 0 t) (iblk m c 1 t)) (View.ld (iblk m c 2 t) r0_7) (ix2 r k) = P m c 2048 (by decide) (at_ t r) k := by
  rw [pay14_apply]
  refine Finset.sum_congr rfl fun q _ => ?_
  rw [ih_apply, c7, iw_apply]

theorem same1 (x : Vec Ideal S1x1024 .f32) : shapeCast S1x1024 x shapeCasts_S1x1024_S1x1024 = x := by
  funext i
  obtain ⟨a, b, rfl⟩ : ∃ (a : Fin 1) (b : Fin 1024), i = ix2 a b := ⟨i 0, i 1, (ix2_eta i).symm⟩
  pointwise
theorem same128 (x : Vec Ideal S1024x128 .bf16) : shapeCast S1024x128 x shapeCasts_S1024x128_S1024x128 = x := by
  funext i
  obtain ⟨a, b, rfl⟩ : ∃ (a : Fin 1024) (b : Fin 128), i = ix2 a b := ⟨i 0, i 1, (ix2_eta i).symm⟩
  pointwise

/-- A finite modulation and matrix. -/
def Fin5 : Prop := (∀ i, ∃ r : ℝ, ag m c i = r) ∧ (∀ i, ∃ r : ℝ, ash m c i = r) ∧ (∀ i, ∃ r : ℝ, asc m c i = r) ∧ (∀ i, ∃ r : ℝ, aw m c i = r)

theorem P_real (h : Fin5 m c) (off : ℕ) (ho : off ≤ 2048) (R : Fin 16384) (k : Fin 1024) : ∃ q : ℝ, P m c off ho R k = q :=
  Lanes.proj_real _ _ _ _ _ h.1 h.2.1 h.2.2.1 h.2.2.2 off ho R k

def G0 : Vec Ideal S16384x1024 .bf16 := fun i => Lanes.Q (ax m c) (ag m c) (ash m c) (asc m c) (aw m c) (aqn m c) (ainv m c) (i 0) (i 1)
def G1 : Vec Ideal S16384x1024 .bf16 := fun i => Lanes.K (ax m c) (ag m c) (ash m c) (asc m c) (aw m c) (akn m c) (ainv m c) (i 0) (i 1)
def G2 : Vec Ideal S16384x1024 .bf16 := fun i => P m c 2048 (by decide) (i 0) (i 1)

theorem scaled (u : FVec Ideal S256x1024 .f32) (r : Fin 256) (k : Fin 1024) :
    truncf .bf16 (mulf u (broadcast S256x1024 (Scalar.ofBits .f32 0x3E38AA3B#32))) bitsLt_bf16_f32 (ix2 r k) = (u (ix2 r k) : EReal) * Ideal.ofBits .f32 0x3E38AA3B#32 := by
  pointwise

theorem out8_apply (h : Fin5 m c) (t : Fin cfg0.N) (r : Fin 256) (k : Fin 1024) :
    out0_8 (iblk m c 0 t) (iblk m c 1 t) (iblk m c 2 t) (iblk m c 3 t) (iblk m c 4 t) (iblk m c 5 t) (iblk m c 6 t) (iblk m c 7 t) (ix2 r k) = G0 m c (ix2 (at_ t r) k) := by
  unfold_out out0_8
  frame_out
  try simp only [ld0, ld1, ld2, ld4, ld5]
  unfold k0_pay9 k0_pay8 k0_pay7 k0_pay6 k0_pay5
  rw [same1, same128, pay10_eq, scaled]
  refine congrArg (fun q : EReal => q * Ideal.ofBits .f32 0x3E38AA3B#32) ?_
  exact lane_apply _ _ _ _ _ (aqn m c) (ainv m c) (at_ t r) r (P m c 0 (by decide) (at_ t r)) (p4_apply m c t r) (P_real m c h 0 (by decide) (at_ t r)) (is_apply m c t) (iq_apply m c t) (icos_apply m c t r) (isin_apply m c t r) k
theorem out9_apply (h : Fin5 m c) (t : Fin cfg0.N) (r : Fin 256) (k : Fin 1024) :
    out0_9 (iblk m c 0 t) (iblk m c 1 t) (iblk m c 2 t) (iblk m c 3 t) (iblk m c 4 t) (iblk m c 5 t) (iblk m c 6 t) (iblk m c 7 t) (ix2 r k) = G1 m c (ix2 (at_ t r) k) := by
  unfold_out out0_9
  frame_out
  try simp only [ld0, ld1, ld2, ld4, ld5]
  unfold k0_pay12
  rw [same1, pay13_eq, same128]
  exact lane_apply _ _ _ _ _ (akn m c) (ainv m c) (at_ t r) r (P m c 1024 (by decide) (at_ t r)) (p11_apply m c t r) (P_real m c h 1024 (by decide) (at_ t r)) (is_apply m c t) (ik_apply m c t) (icos_apply m c t r) (isin_apply m c t r) k
theorem out10_apply (t : Fin cfg0.N) (r : Fin 256) (k : Fin 1024) :
    out0_10 (iblk m c 0 t) (iblk m c 1 t) (iblk m c 2 t) (iblk m c 3 t) (iblk m c 4 t) (iblk m c 5 t) (iblk m c 6 t) (iblk m c 7 t) (ix2 r k) = G2 m c (ix2 (at_ t r) k) := by
  unfold_out out0_10
  frame_out
  try simp only [ld0, ld1, ld2, ld4, ld5]
  exact p14_apply m c t r k

/-- The rows of a longer array. -/
def ext (g : Vec Ideal S16384x1024 .bf16) : Vec Ideal S16640x1024 .bf16 := fun i => if h : (i 0).val < 16384 then g (ix2 ⟨(i 0).val, h⟩ (i 1)) else 0

theorem ext_apply (g : Vec Ideal S16384x1024 .bf16) (a : Fin 16640) (b : Fin 1024) (R : Fin 16384) (h : R.val = a.val) : ext g (ix2 a b) = g (ix2 R b) := by
  have hb : a.val < 16384 := h ▸ R.isLt
  have e : R = ⟨a.val, hb⟩ := Fin.ext h
  unfold ext
  rw [e]
  exact dif_pos hb

theorem array8 (h : Fin5 m c) : (dats m 0 c).arrAt 8 cfg0.N = G0 m c := by
  refine (dats m 0 c).arrAt_eq_of_covers 8 _ (by decide +kernel) fun t hf y => ?_
  obtain ⟨r, d, rfl⟩ : ∃ (r : Fin 256) (d : Fin 1024), y = ix2 r d := ⟨y 0, y 1, (ix2_eta y).symm⟩
  blk_simp
  rw [after0_8]
  refine (out8_apply m c h t r d).trans ?_
  refine congrArg (G0 m c) ?_
  unfold at_
  blk_ext [idx0 t]

theorem array9 (h : Fin5 m c) : (dats m 0 c).arrAt 9 cfg0.N = fun i => if (i 0).val / 256 < 64 then ext (G1 m c) i else (dats m 0 c).A 9 i := by
  refine (dats m 0 c).arrAt_eq_of_coversWhere 9 _ (fun β => β (0 : Fin _) < 64) (by decide +kernel) (fun t hf y => ?_) (fun j => Iff.rfl)
  obtain ⟨r, d, rfl⟩ : ∃ (r : Fin 256) (d : Fin 1024), y = ix2 r d := ⟨y 0, y 1, (ix2_eta y).symm⟩
  blk_simp
  rw [after0_9]
  refine (out9_apply m c h t r d).trans ?_
  refine (ext_apply (G1 m c) ⟨t.val * 256 + r.val, by have := lt_r t r; omega⟩ d (at_ t r) rfl).symm.trans ?_
  refine congrArg (ext (G1 m c)) ?_
  blk_ext [idx0 t]
theorem array10 : (dats m 0 c).arrAt 10 cfg0.N = fun i => if (i 0).val / 256 < 64 then ext (G2 m c) i else (dats m 0 c).A 10 i := by
  refine (dats m 0 c).arrAt_eq_of_coversWhere 10 _ (fun β => β (0 : Fin _) < 64) (by decide +kernel) (fun t hf y => ?_) (fun j => Iff.rfl)
  obtain ⟨r, d, rfl⟩ : ∃ (r : Fin 256) (d : Fin 1024), y = ix2 r d := ⟨y 0, y 1, (ix2_eta y).symm⟩
  blk_simp
  rw [after0_10]
  refine (out10_apply m c t r d).trans ?_
  refine (ext_apply (G2 m c) ⟨t.val * 256 + r.val, by have := lt_r t r; omega⟩ d (at_ t r) rfl).symm.trans ?_
  refine congrArg (ext (G2 m c)) ?_
  blk_ext [idx0 t]

/-- The kept rows of the two longer arrays. -/
theorem kept (A : Vec Ideal S16640x1024 .bf16) (g : Vec Ideal S16384x1024 .bf16) (h : ∀ (R : Fin 16384) (b : Fin 1024), A (ix2 ⟨R.val, by omega⟩ b) = g (ix2 R b)) :
    extractStridedSlice S16384x1024 ![0, 0] A slices_S16640x1024_S16384x1024_0_0 = g := by
  funext i
  obtain ⟨a, b, rfl⟩ : ∃ (a : Fin 16384) (b : Fin 1024), i = ix2 a b := ⟨i 0, i 1, (ix2_eta i).symm⟩
  rw [← h]
  pointwise

theorem tail53 (h : Fin5 m c) : Pipeline.afterTail₀ cfgs (dats m) 0 (V0 m) [hostOps1] c main_v40 = G1 m c := by
  unfold Pipeline.afterTail₀
  simp only [List.flatten_cons, List.flatten_nil, List.append_nil, StableHlo.after_cons, StableHlo.after_nil]
  repeat after_results_step
  refine kept _ _ fun R b => ?_
  have e := Pipeline.withArrays_arr spec0 (by decide) c (V0 m c) (fun w => (dats m 0 c).arrAt w cfg0.N) 9
  refine (congrFun e _).trans ?_
  dsimp only
  rw [array9 m c h]
  refine (if_pos (by show R.val / 256 < 64; omega)).trans ?_
  exact ext_apply _ _ _ R rfl
theorem tail54 : Pipeline.afterTail₀ cfgs (dats m) 0 (V0 m) [hostOps1] c main_v41 = G2 m c := by
  unfold Pipeline.afterTail₀
  simp only [List.flatten_cons, List.flatten_nil, List.append_nil, StableHlo.after_cons, StableHlo.after_nil]
  repeat after_results_step
  refine kept _ _ fun R b => ?_
  have e := Pipeline.withArrays_arr spec0 (by decide) c (V0 m c) (fun w => (dats m 0 c).arrAt w cfg0.N) 10
  refine (congrFun e _).trans ?_
  dsimp only
  rw [array10 m c]
  refine (if_pos (by show R.val / 256 < 64; omega)).trans ?_
  exact ext_apply _ _ _ R rfl

end Cert.Proof.Kernel5Ideal

end
-- ==== Proof.QkvPre.lean ====
/-
  What the projections' precondition gives: every entry of the modulation and the matrix is a real.
-/
module

public import proofs.«01_k».proof.Pre_finite_weights
public import proofs.«01_k».proof.Proof.Spec
public import Idealize.ShloMosaic.Lib.ReduceAll

@[expose] public section

noncomputable section

namespace Cert.Proof.Weights

open Idealize.ShloMosaic Cert.Pre_finite_weights

instance : Subsingleton S_.Idx := ⟨fun a b => funext fun i => i.elim0⟩

/-- An extended real of absolute value below the top is a real. -/
theorem real_of (x : EReal) (h : Ideal.cmp CmpFPredicate.olt (max x (-x)) ⊤ = 1#1) : ∃ r : ℝ, x = r := by
  have hlt : max x (-x) < ⊤ := by
    by_contra hn
    simp [Ideal.cmp, hn] at h
  refine ⟨x.toReal, (EReal.coe_toReal (fun e => ?_) (fun e => ?_)).symm⟩
  · rw [e] at hlt; simp at hlt
  · rw [e] at hlt; simp at hlt

/-- An array the predicate's conjunction covers is finite. -/
theorem reals {s : Shape} (x : FVec Ideal s .f32) {axes : List (Fin s.rank)} (hb : S_.BroadcastsInDim s ![]) (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1) (i : s.Idx) : ∃ r : ℝ, x i = r := by
  have hi := Host.reduce_andi_all _ _ hr hu ix0 h i
  refine real_of _ ?_
  rw [← Spec.pos_inf]
  exact hi

theorem pre_weights [Facts] (x : FVec Ideal S16384x1024 .f32) (g sh sc : FVec Ideal S1024 .f32) (w : FVec Ideal S1024x3072 .f32) (a b : FVec Ideal S64 .f32) (v : FVec Ideal S16 .f32)
    (h : fn (F := Ideal) x g sh sc w a b v = fun _ => 1#1) :
    (∀ i, ∃ r : ℝ, g i = r) ∧ (∀ i, ∃ r : ℝ, sh i = r) ∧ (∀ i, ∃ r : ℝ, sc i = r) ∧ (∀ i, ∃ r : ℝ, w i = r) := by
  have h4 := congrFun h ix0
  dsimp only [fn, fn_part1] at h4
  obtain ⟨h3, e4⟩ := IntOp.andi_eq_one.1 h4
  obtain ⟨h2, e3⟩ := IntOp.andi_eq_one.1 h3
  obtain ⟨e1, e2⟩ := IntOp.andi_eq_one.1 h2
  exact ⟨reals _ _ _ _ e1, reals _ _ _ _ e2, reals _ _ _ _ e3, reals _ _ _ _ e4⟩

end Cert.Proof.Weights

end
-- ==== Proof.lean ====
/- The frames of the attention kernel and of its reference, that the idealized kernel names two constants only, and that
   the idealized kernel computes what its reference does.
   The kernels' runs are `proof/Proof/Kernel/Run.lean` (the program as written) and `proof/Proof/Run.lean` (its
   idealized copy, whose text differs in the two named constants). -/
module

public import proofs.«01_k».proof.Defs
public import proofs.«01_k».proof.Proof.Kernel.Run
public import proofs.«01_k».proof.Proof.Value
public import proofs.«01_k».proof.Proof.Ref
public import proofs.«01_k».proof.Proof.Pre
public import proofs.«01_k».proof.Proof.Experts
public import proofs.«01_k».proof.Proof.ExpertsRef
public import proofs.«01_k».proof.Proof.Mix
public import proofs.«01_k».proof.Proof.MixRef
public import proofs.«01_k».proof.Proof.Residual
public import proofs.«01_k».proof.Proof.QkvOut
public import proofs.«01_k».proof.Proof.QkvPre
public import proofs.«01_k».proof.Proof.Gen.Kernel
public import proofs.«01_k».proof.Proof.Gen.KernelIdeal
public import proofs.«01_k».proof.Proof.Gen.Pre_finite_inputs
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite_weights
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, its arguments end as they were, every counter at zero. -/
theorem frame_kernel : Cert.quiescent_Kernel := fun m ρ _ => Cert.Proof.Kernel.frame m ρ

/-- The same of the idealized kernel. -/
theorem frame_kernelIdeal : Cert.quiescent_KernelIdeal := fun m ρ _ => Cert.Proof.KernelIdeal.frame m ρ

/-- The reference runs, its arguments end as they were; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel is the kernel with two constants named, each at the value its name decodes to. -/
theorem preserves : Cert.preserves_Kernel_KernelIdeal :=
  ⟨IdealRules.named_const.statement _ _ _ _ _ rfl, IdealRules.named_const.statement _ _ _ _ _ rfl⟩

/-- On finite queries, keys, values and weight vectors the idealized kernel's result is the reference's. -/
theorem algebraic : Cert.algebraic_KernelIdeal_ReferenceIdeal_pre_finite_inputs := by
  intro m g m' g' hpre hm
  have hfin := fun c => Spec.pre_real _ _ _ _ _ _ _ _ _ _ (hpre c)
  refine ⟨fun c => Cert.Proof.KernelIdeal.G m c, ?_, ?_⟩
  · refine (θ_run Cert.KernelIdeal.defs _ _).mono (fun r h c => ?_) (θ_run_and (Cert.Proof.KernelIdeal.run_main m g) (Cert.Proof.KernelIdeal.frame m g))
    obtain ⟨⟨hq, hkl, hvl, hkc, hvc⟩, -⟩ := hfin c
    exact ⟨((h.1.1 c).1 5).trans (Cert.Proof.KernelIdeal.out_eq m c hq hkl hvl hkc hvc), h.2.1 c⟩
  · refine (θ_run Cert.ReferenceIdeal.defs _ _).mono (fun r h c => ⟨(h c).1.trans ?_, (h c).2⟩) (Cert.ReferenceIdeal.Value.run (F := Ideal) m' g')
    obtain ⟨⟨hq, hkl, hvl, hkc, hvc⟩, h1, h2, h3, h4⟩ := hfin c
    obtain ⟨e0, e1, e2, e3, e4, e5, e6, e7, e8, e9⟩ := hm c
    rw [Cert.Proof.ReferenceIdeal.res_eq, e0, e1, e2, e3, e4, e5, e6, e7, e8, e9]
    funext i
    obtain ⟨a, b, rfl⟩ : ∃ (a : Fin 16384) (b : Fin 1024), i = ix2 a b := ⟨i 0, i 1, (ix2_eta i).symm⟩
    exact Cert.Proof.ReferenceIdeal.rRes_val _ _ _ _ _ hq hkl hvl hkc hvc _ _ _ _ h1 h2 h3 h4 _ a b

/-- The experts' kernel runs, its arguments end as they were, every counter at zero. -/
theorem frame_kernel2 : Cert.quiescent_Kernel2 := fun m ρ _ => Cert.Kernel2.Gen.frame m ρ

/-- The same over exact numbers. -/
theorem frame_kernel2Ideal : Cert.quiescent_Kernel2Ideal := fun m ρ _ => Cert.Kernel2Ideal.Gen.frame (F := Ideal) m ρ

/-- The experts' reference runs, its arguments end as they were; it declares no semaphore. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The experts' kernel is its idealized copy: nothing was replaced. -/
theorem preserves2 : Cert.preserves_Kernel2_Kernel2Ideal := trivial

/-- On any rows and matrices the idealized experts' kernel's result is its reference's. -/
theorem algebraic2 : Cert.algebraic_Kernel2Ideal_Reference2Ideal := by
  intro m g m' g' _ hm
  refine ⟨fun c => Cert.Proof.Kernel2Ideal.G m c, ?_, ?_⟩
  · refine (θ_run Cert.Kernel2Ideal.defs _ _).mono (fun r h c => ?_) (Cert.Kernel2Ideal.Value.run_blocks m g)
    exact ⟨(h c).1.trans (Cert.Proof.Kernel2Ideal.array m c), (h c).2⟩
  · refine (θ_run Cert.Reference2Ideal.defs _ _).mono (fun r h c => ⟨(h c).1.trans ?_, (h c).2⟩) (Cert.Reference2Ideal.Value.run (F := Ideal) m' g')
    obtain ⟨e0, e1, e2, e3⟩ := hm c
    rw [e0, e1, e2, e3]
    funext i
    obtain ⟨a, b, d, rfl⟩ : ∃ (a : Fin 16) (b : Fin 2304) (d : Fin 1024), i = ix3 a b d := ⟨i 0, i 1, i 2, (ix3_eta i).symm⟩
    exact Cert.Proof.Reference2Ideal.out_apply _ _ _ _ a b d

/-- The short convolution's kernel and its reference run, their arguments kept. -/
theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3 : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

theorem preserves3 : Cert.preserves_Kernel3_Kernel3Ideal := trivial

/-- From the same arguments the short convolution's kernel and reference leave the same three results. -/
theorem algebraic3 : Cert.algebraic_Kernel3Ideal_Reference3Ideal := by
  intro m g m' g' _ hm
  refine ⟨fun c => Cert.Proof.Kernel3Ideal.G m c 0 (by decide), fun c => Cert.Proof.Kernel3Ideal.G m c 1024 (by decide), fun c => Cert.Proof.Kernel3Ideal.G m c 2048 (by decide), ?_, ?_⟩
  · refine (θ_run Cert.Kernel3Ideal.defs _ _).mono (fun r h c => ?_) (Cert.Kernel3Ideal.Value.run_blocks m g)
    exact ⟨(h c).1.trans (Cert.Proof.Kernel3Ideal.array7 m c), (h c).2.1.trans (Cert.Proof.Kernel3Ideal.array8 m c), (h c).2.2.1.trans (Cert.Proof.Kernel3Ideal.array9 m c), (h c).2.2.2⟩
  · refine (θ_run Cert.Reference3Ideal.defs _ _).mono (fun r h c => ⟨(h c).1.trans ?_, (h c).2.1.trans ?_, (h c).2.2.1.trans ?_, (h c).2.2.2⟩) (Cert.Reference3Ideal.Value.run (F := Ideal) m' g')
    all_goals
      obtain ⟨e0, e1, e2, e3, e4, e5, e6, e7⟩ := hm c
      funext i
      obtain ⟨a, b, rfl⟩ : ∃ (a : Fin 16384) (b : Fin 1024), i = ix2 a b := ⟨i 0, i 1, (ix2_eta i).symm⟩
    · refine (Cert.Proof.Reference3Ideal.res0_apply m' c a b).trans ?_
      unfold Cert.Proof.Reference3Ideal.whole
      rw [e0, e1, e2, e3, e4, e5, e6, e7]
      exact Cert.Proof.Reference3Ideal.full_apply _ _ _ _ _ _ _ _ a _
    · refine (Cert.Proof.Reference3Ideal.res1_apply m' c a b).trans ?_
      unfold Cert.Proof.Reference3Ideal.whole
      rw [e0, e1, e2, e3, e4, e5, e6, e7]
      exact Cert.Proof.Reference3Ideal.full_apply _ _ _ _ _ _ _ _ a _
    · refine (Cert.Proof.Reference3Ideal.res2_apply m' c a b).trans ?_
      unfold Cert.Proof.Reference3Ideal.whole
      rw [e0, e1, e2, e3, e4, e5, e6, e7]
      exact Cert.Proof.Reference3Ideal.full_apply _ _ _ _ _ _ _ _ a _

/-- The output projection's kernel and its reference run, their arguments kept. -/
theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem preserves4 : Cert.preserves_Kernel4_Kernel4Ideal := trivial

/-- From the same arguments the output projection's kernel and reference leave the same result. -/
theorem algebraic4 : Cert.algebraic_Kernel4Ideal_Reference4Ideal := by
  intro m g m' g' _ hm
  refine ⟨fun c => Cert.Proof.Kernel4Ideal.G m c, ?_, ?_⟩
  · refine (θ_run Cert.Kernel4Ideal.defs _ _).mono (fun r h c => ?_) (Cert.Kernel4Ideal.Value.run_blocks m g)
    exact ⟨(h c).1.trans (Cert.Proof.Kernel4Ideal.array m c), (h c).2⟩
  · refine (θ_run Cert.Reference4Ideal.defs _ _).mono (fun r h c => ⟨(h c).1.trans ?_, (h c).2⟩) (Cert.Reference4Ideal.Value.run (F := Ideal) m' g')
    obtain ⟨e0, e1, e2, e3, e4⟩ := hm c
    rw [e0, e1, e2, e3, e4]
    funext i
    obtain ⟨a, b, rfl⟩ : ∃ (a : Fin 16384) (b : Fin 1024), i = ix2 a b := ⟨i 0, i 1, (ix2_eta i).symm⟩
    exact Cert.Proof.Reference4Ideal.out_apply _ _ _ _ _ a b

/-- The projections' kernel and its reference run, their arguments kept. -/
theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5 : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

theorem preserves5 : Cert.preserves_Kernel5_Kernel5Ideal := trivial

/-- On a finite modulation and matrix the projections' kernel and reference leave the same queries, keys and values. -/
theorem algebraic5 : Cert.algebraic_Kernel5Ideal_Reference5Ideal_pre_finite_weights := by
  intro m g m' g' hpre hm
  have hfin : ∀ c, Cert.Proof.Kernel5Ideal.Fin5 m c := fun c => Weights.pre_weights _ _ _ _ _ _ _ _ (hpre c)
  refine ⟨fun c => Cert.Proof.Kernel5Ideal.G0 m c, fun c => Cert.Proof.Kernel5Ideal.G1 m c, fun c => Cert.Proof.Kernel5Ideal.G2 m c, ?_, ?_⟩
  · refine (θ_run Cert.Kernel5Ideal.defs _ _).mono (fun r h c => ?_) (θ_run_and (Cert.Kernel5Ideal.Gen.run_main m g) (Cert.Kernel5Ideal.Gen.frame m g))
    exact ⟨((h.1 c).1 8).trans (Cert.Proof.Kernel5Ideal.array8 m c (hfin c)),
      ((h.1 c).2 Cert.Kernel5Ideal.main_v40 (Pipeline.mem_restRefs_of Cert.Kernel5Ideal.main_v40 (by decide) (by decide))).trans (Cert.Proof.Kernel5Ideal.tail53 m c (hfin c)),
      ((h.1 c).2 Cert.Kernel5Ideal.main_v41 (Pipeline.mem_restRefs_of Cert.Kernel5Ideal.main_v41 (by decide) (by decide))).trans (Cert.Proof.Kernel5Ideal.tail54 m c), h.2.1 c⟩
  · refine (θ_run Cert.Reference5Ideal.defs _ _).mono (fun r h c => ⟨(h c).1.trans ?_, (h c).2.1.trans ?_, (h c).2.2.1.trans ?_, (h c).2.2.2⟩) (Cert.Reference5Ideal.Value.run (F := Ideal) m' g')
    all_goals
      obtain ⟨e0, e1, e2, e3, e4, e5, e6, e7⟩ := hm c
      funext i
      obtain ⟨a, b, rfl⟩ : ∃ (a : Fin 16384) (b : Fin 1024), i = ix2 a b := ⟨i 0, i 1, (ix2_eta i).symm⟩
    · refine (Cert.Proof.Reference5Ideal.res0_apply m' c a b).trans ?_
      rw [e0, e1, e2, e3, e4, e5, e7]
      rfl
    · refine (Cert.Proof.Reference5Ideal.res1_apply m' c a b).trans ?_
      rw [e0, e1, e2, e3, e4, e6, e7]
      rfl
    · refine (Cert.Proof.Reference5Ideal.res2_apply m' c a b).trans ?_
      rw [e0, e1, e2, e3, e4]
      rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_inputs.Gen.facts, Cert.Pre_finite_weights.Gen.facts,
  frame_kernel, frame_kernelIdeal, fun m ρ _ => frame_kernelIdeal m ρ trivial, frame_reference, fun m ρ _ => frame_reference m ρ trivial,
  frame_kernel2, frame_kernel2Ideal, frame_reference2, frame_kernel3, frame_kernel3Ideal, frame_reference3, frame_kernel4, frame_kernel4Ideal, frame_reference4,
  frame_kernel5, frame_kernel5Ideal, fun m ρ _ => frame_kernel5Ideal m ρ trivial, frame_reference5, fun m ρ _ => frame_reference5 m ρ trivial,
  preserves, algebraic, preserves2, algebraic2, preserves3, algebraic3, preserves4, algebraic4, preserves5, algebraic5⟩

end Cert.Proof

end
